-- ==== Defs.lean ====
def Pre_KernelIdeal [hPre_bounds_ok : Cert.Pre_bounds_ok.Facts] (m : (ℓ : Loc Cert.KernelIdeal.nD Cert.KernelIdeal.τ Cert.KernelIdeal.sig) → Buf (Elt Ideal) ℓ) : Prop :=
  ∀ c : Dev Cert.KernelIdeal.nD,
    (Cert.Pre_bounds_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounds_ok [hPre_bounds_ok : Cert.Pre_bounds_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounds_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_KernelIdeal [hKernelIdeal : Cert.KernelIdeal.Facts] [hPre_bounds_ok : Cert.Pre_bounds_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_bounds_ok [hReferenceIdeal : Cert.ReferenceIdeal.Facts] [hPre_bounds_ok : Cert.Pre_bounds_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounds_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def algebraic_KernelIdeal_ReferenceIdeal [hKernelIdeal : Cert.KernelIdeal.Facts] [hReferenceIdeal : Cert.ReferenceIdeal.Facts] [hPre_bounds_ok : Cert.Pre_bounds_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernelIdeal : Cert.KernelIdeal.Facts) (hReferenceIdeal : Cert.ReferenceIdeal.Facts) (hPre_bounds_ok : Cert.Pre_bounds_ok.Facts),
    quiescent_KernelIdeal (hKernelIdeal := hKernelIdeal) (hPre_bounds_ok := hPre_bounds_ok)
    ∧ quiescent_ReferenceIdeal (hReferenceIdeal := hReferenceIdeal)
    ∧ quiescent_ReferenceIdeal_pre_bounds_ok (hReferenceIdeal := hReferenceIdeal) (hPre_bounds_ok := hPre_bounds_ok)
    ∧ algebraic_KernelIdeal_ReferenceIdeal (hKernelIdeal := hKernelIdeal) (hReferenceIdeal := hReferenceIdeal) (hPre_bounds_ok := hPre_bounds_ok)
-- ==== Pre_bounds_ok.lean ====
abbrev S16x1x128 : Shape := ⟨3, ![16, 1, 128]⟩
abbrev S65536x128 : Shape := ⟨2, ![65536, 128]⟩
abbrev S32768 : Shape := ⟨1, ![32768]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S32767 : Shape := ⟨1, ![32767]⟩
abbrev S_ : Shape := ⟨0, ![]⟩

class Facts : Prop where
  slices_S32768_S32767_1 : S32768.Slices ![1] S32767
  slices_S32768_S1_32767 : S32768.Slices ![32767] S1
  concatenates_S32767_S1_S32768_d0 : Shape.Concatenates [S32767, S1] S32768 0
  bcast_S_S32768 : S_.BroadcastsInDim S32768 (![] : Fin 0 → Fin S32768.rank)

variable [Facts]

def fn_part1 {F : FTy → Type} [FloatOps F] (main_arg4 : IVec S32768 32) (main_v18 : IVec S32768 1) : IVec S32768 1 :=
  let main_c_4 : IVec S_ 32 := constantI S_ 32 4096#32
  let main_v19 : IVec S32768 32 := broadcastInDim S32768 ![] bcast_S_S32768 main_c_4
  let main_v20 : IVec S32768 1 := cmpi .slt main_arg4 main_v19
  let main_v21 : IVec S32768 1 := andi main_v18 main_v20
  main_v21

def fn {F : FTy → Type} [FloatOps F] (main_arg0 : FVec F S16x1x128 .f32) (main_arg1 : FVec F S65536x128 .f32) (main_arg2 : IVec S32768 32) (main_arg3 : IVec S32768 32) (main_arg4 : IVec S32768 32) (main_arg5 : FVec F S128x128 .f32) (main_arg6 : FVec F S128 .f32) (main_arg7 : FVec F S256x128 .f32) (main_arg8 : FVec F S128 .f32) (main_arg9 : FVec F S128x1 .f32) (main_arg10 : FVec F S1 .f32) : IVec S32768 1 :=
  let main_v0 : IVec S32767 32 := (extractStridedSlice S32767 ![1] · slices_S32768_S32767_1) main_arg3
  let main_v1 : IVec S1 32 := (extractStridedSlice S1 ![32767] · slices_S32768_S1_32767) main_arg3
  let main_v2 : IVec S32768 32 := (fun a b => concatenate S32768 0 [⟨S32767, a⟩, ⟨S1, b⟩] concatenates_S32767_S1_S32768_d0) main_v0 main_v1
  let main_c : IVec S_ 32 := constantI S_ 32 0#32
  let main_v3 : IVec S32768 32 := broadcastInDim S32768 ![] bcast_S_S32768 main_c
  let main_v4 : IVec S32768 1 := cmpi .sge main_arg3 main_v3
  let main_c_0 : IVec S_ 32 := constantI S_ 32 16#32
  let main_v5 : IVec S32768 32 := broadcastInDim S32768 ![] bcast_S_S32768 main_c_0
  let main_v6 : IVec S32768 1 := cmpi .slt main_arg3 main_v5
  let main_v7 : IVec S32768 1 := andi main_v4 main_v6
  let main_v8 : IVec S32768 1 := cmpi .sle main_arg3 main_v2
  let main_v9 : IVec S32768 1 := andi main_v7 main_v8
  let main_c_1 : IVec S_ 32 := constantI S_ 32 0#32
  let main_v10 : IVec S32768 32 := broadcastInDim S32768 ![] bcast_S_S32768 main_c_1
  let main_v11 : IVec S32768 1 := cmpi .sge main_arg2 main_v10
  let main_v12 : IVec S32768 1 := andi main_v9 main_v11
  let main_c_2 : IVec S_ 32 := constantI S_ 32 65536#32
  let main_v13 : IVec S32768 32 := broadcastInDim S32768 ![] bcast_S_S32768 main_c_2
  let main_v14 : IVec S32768 1 := cmpi .slt main_arg2 main_v13
  let main_v15 : IVec S32768 1 := andi main_v12 main_v14
  let main_c_3 : IVec S_ 32 := constantI S_ 32 0#32
  let main_v16 : IVec S32768 32 := broadcastInDim S32768 ![] bcast_S_S32768 main_c_3
  let main_v17 : IVec S32768 1 := cmpi .sge main_arg4 main_v16
  let main_v18 : IVec S32768 1 := andi main_v15 main_v17
  fn_part1 (F := F) main_arg4 main_v18
-- ==== KernelIdeal.lean ====
abbrev S16x1x128 : Shape := ⟨3, ![16, 1, 128]⟩
abbrev S65536x128 : Shape := ⟨2, ![65536, 128]⟩
abbrev S32768 : Shape := ⟨1, ![32768]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S16x128 : Shape := ⟨2, ![16, 128]⟩
abbrev S1x128 : Shape := ⟨2, ![1, 128]⟩
abbrev S1x1 : Shape := ⟨2, ![1, 1]⟩
abbrev S8x1x4096 : Shape := ⟨3, ![8, 1, 4096]⟩
abbrev S32x16 : Shape := ⟨2, ![32, 16]⟩
abbrev S16x1 : Shape := ⟨2, ![16, 1]⟩
abbrev S1x1x4096 : Shape := ⟨3, ![1, 1, 4096]⟩
abbrev S1x4096 : Shape := ⟨2, ![1, 4096]⟩
abbrev S16x4096 : Shape := ⟨2, ![16, 4096]⟩
abbrev S16 : Shape := ⟨1, ![16]⟩
abbrev S16x16 : Shape := ⟨2, ![16, 16]⟩
abbrev S32x1 : Shape := ⟨2, ![32, 1]⟩
abbrev S16384x128 : Shape := ⟨2, ![16384, 128]⟩
abbrev S4x128 : Shape := ⟨2, ![4, 128]⟩
abbrev S_ : Shape := ⟨0, ![]⟩
abbrev S4x1x4096 : Shape := ⟨3, ![4, 1, 4096]⟩
abbrev S1x16384 : Shape := ⟨2, ![1, 16384]⟩
abbrev S4096x128 : Shape := ⟨2, ![4096, 128]⟩
abbrev S1x32768 : Shape := ⟨2, ![1, 32768]⟩
abbrev S36864 : Shape := ⟨1, ![36864]⟩
abbrev S2064 : Shape := ⟨1, ![2064]⟩
abbrev S2048 : Shape := ⟨1, ![2048]⟩
abbrev S4096 : Shape := ⟨1, ![4096]⟩
abbrev S1x16 : Shape := ⟨2, ![1, 16]⟩

abbrev nBuf : Table → Nat
  | .hbm => 35
  | .local .tc .vmem => 30
  | .local .scVector .vmem => 10
  | _ => 0

abbrev bufTy : (tb : Table) → Fin (nBuf tb) → BufTy
  | .hbm, ⟨0, _⟩ => ⟨S16x1x128, .f32⟩
  | .hbm, ⟨1, _⟩ => ⟨S65536x128, .f32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S16x128, .f32⟩
  | .hbm, ⟨12, _⟩ => ⟨S128x128, .f32⟩
  | .hbm, ⟨13, _⟩ => ⟨S128x128, .f32⟩
  | .hbm, ⟨14, _⟩ => ⟨S1x128, .f32⟩
  | .hbm, ⟨15, _⟩ => ⟨S1x128, .f32⟩
  | .hbm, ⟨16, _⟩ => ⟨S1x1, .f32⟩
  | .hbm, ⟨17, _⟩ => ⟨S8x1x4096, .i32⟩
  | .hbm, ⟨18, _⟩ => ⟨S32x16, .i32⟩
  | .hbm, ⟨19, _⟩ => ⟨S256x128, .i32⟩
  | .hbm, ⟨20, _⟩ => ⟨S16384x128, .f32⟩
  | .hbm, ⟨21, _⟩ => ⟨S4x1x4096, .i32⟩
  | .hbm, ⟨22, _⟩ => ⟨S1x16384, .f32⟩
  | .hbm, ⟨23, _⟩ => ⟨S16384x128, .f32⟩
  | .hbm, ⟨24, _⟩ => ⟨S4x1x4096, .i32⟩
  | .hbm, ⟨25, _⟩ => ⟨S1x16384, .f32⟩
  | .hbm, ⟨26, _⟩ => ⟨S1x32768, .f32⟩
  | .hbm, ⟨27, _⟩ => ⟨S32768, .f32⟩
  | .hbm, ⟨28, _⟩ => ⟨S_, .i32⟩
  | .hbm, ⟨29, _⟩ => ⟨S_, .f32⟩
  | .hbm, ⟨30, _⟩ => ⟨S36864, .f32⟩
  | .hbm, ⟨31, _⟩ => ⟨S_, .i32⟩
  | .hbm, ⟨32, _⟩ => ⟨S_, .i32⟩
  | .hbm, ⟨33, _⟩ => ⟨S36864, .i32⟩
  | .hbm, ⟨34, _⟩ => ⟨S16x4096, .f32⟩
  | .local .tc .vmem, ⟨0, _⟩ => ⟨S8x1x4096, .i32⟩
  | .local .tc .vmem, ⟨1, _⟩ => ⟨S32x16, .i32⟩
  | .local .tc .vmem, ⟨2, _⟩ => ⟨S4096x128, .f32⟩
  | .local .tc .vmem, ⟨3, _⟩ => ⟨S4096x128, .f32⟩
  | .local .tc .vmem, ⟨4, _⟩ => ⟨S1x1x4096, .i32⟩
  | .local .tc .vmem, ⟨5, _⟩ => ⟨S1x1x4096, .i32⟩
  | .local .tc .vmem, ⟨6, _⟩ => ⟨S16x128, .f32⟩
  | .local .tc .vmem, ⟨7, _⟩ => ⟨S128x128, .f32⟩
  | .local .tc .vmem, ⟨8, _⟩ => ⟨S1x128, .f32⟩
  | .local .tc .vmem, ⟨9, _⟩ => ⟨S128x128, .f32⟩
  | .local .tc .vmem, ⟨10, _⟩ => ⟨S128x128, .f32⟩
  | .local .tc .vmem, ⟨11, _⟩ => ⟨S1x128, .f32⟩
  | .local .tc .vmem, ⟨12, _⟩ => ⟨S128x1, .f32⟩
  | .local .tc .vmem, ⟨13, _⟩ => ⟨S1x1, .f32⟩
  | .local .tc .vmem, ⟨14, _⟩ => ⟨S1x4096, .f32⟩
  | .local .tc .vmem, ⟨15, _⟩ => ⟨S1x4096, .f32⟩
  | .local .tc .vmem, ⟨16, _⟩ => ⟨S4096x128, .f32⟩
  | .local .tc .vmem, ⟨17, _⟩ => ⟨S4096x128, .f32⟩
  | .local .tc .vmem, ⟨18, _⟩ => ⟨S1x1x4096, .i32⟩
  | .local .tc .vmem, ⟨19, _⟩ => ⟨S1x1x4096, .i32⟩
  | .local .tc .vmem, ⟨20, _⟩ => ⟨S16x128, .f32⟩
  | .local .tc .vmem, ⟨21, _⟩ => ⟨S128x128, .f32⟩
  | .local .tc .vmem, ⟨22, _⟩ => ⟨S1x128, .f32⟩
  | .local .tc .vmem, ⟨23, _⟩ => ⟨S128x128, .f32⟩
  | .local .tc .vmem, ⟨24, _⟩ => ⟨S128x128, .f32⟩
  | .local .tc .vmem, ⟨25, _⟩ => ⟨S1x128, .f32⟩
  | .local .tc .vmem, ⟨26, _⟩ => ⟨S128x1, .f32⟩
  | .local .tc .vmem, ⟨27, _⟩ => ⟨S1x1, .f32⟩
  | .local .tc .vmem, ⟨28, _⟩ => ⟨S1x4096, .f32⟩
  | .local .tc .vmem, ⟨29, _⟩ => ⟨S1x4096, .f32⟩
  | .local .scVector .vmem, ⟨0, _⟩ => ⟨S4x128, .i32⟩
  | .local .scVector .vmem, ⟨1, _⟩ => ⟨S128x128, .f32⟩
  | .local .scVector .vmem, ⟨2, _⟩ => ⟨S128x128, .f32⟩
  | .local .scVector .vmem, ⟨3, _⟩ => ⟨S4x128, .i32⟩
  | .local .scVector .vmem, ⟨4, _⟩ => ⟨S128x128, .f32⟩
  | .local .scVector .vmem, ⟨5, _⟩ => ⟨S128x128, .f32⟩
  | .local .scVector .vmem, ⟨6, _⟩ => ⟨S16, .i32⟩
  | .local .scVector .vmem, ⟨7, _⟩ => ⟨S2064, .i32⟩
  | .local .scVector .vmem, ⟨8, _⟩ => ⟨S2048, .f32⟩
  | .local .scVector .vmem, ⟨9, _⟩ => ⟨S4096, .f32⟩
  | _, _ => ⟨S16x1x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 50 → Bool
  | ⟨0, _⟩ => true
  | ⟨1, _⟩ => true
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => false
  | ⟨45, _⟩ => false
  | ⟨46, _⟩ => false
  | ⟨47, _⟩ => false
  | ⟨48, _⟩ => false
  | ⟨49, _⟩ => false
  | _ => false

abbrev sig : RefSig :=
  ofTables nBuf rfl bufTy 4 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c : Ref sig .tc := ⟨.hbm, 28, rfl⟩
abbrev main_call0_v0 : Ref sig .tc := ⟨.hbm, 29, rfl⟩
abbrev main_v17 : Ref sig .tc := ⟨.hbm, 30, rfl⟩
abbrev main_c_0 : Ref sig .tc := ⟨.hbm, 31, rfl⟩
abbrev main_call1_v0 : Ref sig .tc := ⟨.hbm, 32, rfl⟩
abbrev main_v18 : Ref sig .tc := ⟨.hbm, 33, rfl⟩
abbrev main_v19 : Ref sig .tc := ⟨.hbm, 34, rfl⟩
abbrev main_arg1_scv : Ref sig .scVector := ⟨.hbm, 1, rfl⟩
abbrev main_v8_scv : Ref sig .scVector := ⟨.hbm, 19, rfl⟩
abbrev main_v9_scv : Ref sig .scVector := ⟨.hbm, 20, rfl⟩
abbrev main_v12_scv : Ref sig .scVector := ⟨.hbm, 23, rfl⟩
abbrev main_v17_scv : Ref sig .scVector := ⟨.hbm, 30, rfl⟩
abbrev main_v18_scv : Ref sig .scVector := ⟨.hbm, 33, rfl⟩
abbrev main_v7_scv : Ref sig .scVector := ⟨.hbm, 18, rfl⟩
abbrev main_v19_scv : Ref sig .scVector := ⟨.hbm, 34, rfl⟩
abbrev cc0_stg0_0 : Ref sig .tc := ⟨.vmem, 0, rfl⟩
abbrev cc0_stg1_0 : Ref sig .tc := ⟨.vmem, 1, rfl⟩
abbrev cc2_stg0_0 : Ref sig .tc := ⟨.vmem, 2, rfl⟩
abbrev cc2_stg0_1 : Ref sig .tc := ⟨.vmem, 3, rfl⟩
abbrev cc2_stg1_0 : Ref sig .tc := ⟨.vmem, 4, rfl⟩
abbrev cc2_stg1_1 : Ref sig .tc := ⟨.vmem, 5, rfl⟩
abbrev cc2_stg2_0 : Ref sig .tc := ⟨.vmem, 6, rfl⟩
abbrev cc2_stg3_0 : Ref sig .tc := ⟨.vmem, 7, rfl⟩
abbrev cc2_stg4_0 : Ref sig .tc := ⟨.vmem, 8, rfl⟩
abbrev cc2_stg5_0 : Ref sig .tc := ⟨.vmem, 9, rfl⟩
abbrev cc2_stg6_0 : Ref sig .tc := ⟨.vmem, 10, rfl⟩
abbrev cc2_stg7_0 : Ref sig .tc := ⟨.vmem, 11, rfl⟩
abbrev cc2_stg8_0 : Ref sig .tc := ⟨.vmem, 12, rfl⟩
abbrev cc2_stg9_0 : Ref sig .tc := ⟨.vmem, 13, rfl⟩
abbrev cc2_stg10_0 : Ref sig .tc := ⟨.vmem, 14, rfl⟩
abbrev cc2_stg10_1 : Ref sig .tc := ⟨.vmem, 15, rfl⟩
abbrev cc4_stg0_0 : Ref sig .tc := ⟨.vmem, 16, rfl⟩
abbrev cc4_stg0_1 : Ref sig .tc := ⟨.vmem, 17, rfl⟩
abbrev cc4_stg1_0 : Ref sig .tc := ⟨.vmem, 18, rfl⟩
abbrev cc4_stg1_1 : Ref sig .tc := ⟨.vmem, 19, rfl⟩
abbrev cc4_stg2_0 : Ref sig .tc := ⟨.vmem, 20, rfl⟩
abbrev cc4_stg3_0 : Ref sig .tc := ⟨.vmem, 21, rfl⟩
abbrev cc4_stg4_0 : Ref sig .tc := ⟨.vmem, 22, rfl⟩
abbrev cc4_stg5_0 : Ref sig .tc := ⟨.vmem, 23, rfl⟩
abbrev cc4_stg6_0 : Ref sig .tc := ⟨.vmem, 24, rfl⟩
abbrev cc4_stg7_0 : Ref sig .tc := ⟨.vmem, 25, rfl⟩
abbrev cc4_stg8_0 : Ref sig .tc := ⟨.vmem, 26, rfl⟩
abbrev cc4_stg9_0 : Ref sig .tc := ⟨.vmem, 27, rfl⟩
abbrev cc4_stg10_0 : Ref sig .tc := ⟨.vmem, 28, rfl⟩
abbrev cc4_stg10_1 : Ref sig .tc := ⟨.vmem, 29, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc3_scratch0 : Ref sig .scVector := ⟨.vmem, 3, rfl⟩
abbrev cc3_scratch1 : Ref sig .scVector := ⟨.vmem, 4, rfl⟩
abbrev cc3_scratch2 : Ref sig .scVector := ⟨.vmem, 5, rfl⟩
abbrev cc5_scratch0 : Ref sig .scVector := ⟨.vmem, 6, rfl⟩
abbrev cc5_scratch1 : Ref sig .scVector := ⟨.vmem, 7, rfl⟩
abbrev cc5_scratch2 : Ref sig .scVector := ⟨.vmem, 8, rfl⟩
abbrev cc5_scratch3 : Ref sig .scVector := ⟨.vmem, 9, rfl⟩
abbrev cc0_sem0_0 : DmaSem sig := 0
abbrev cc0_sem1_0 : DmaSem sig := 1
abbrev cc2_sem0_0 : DmaSem sig := 9
abbrev cc2_sem0_1 : DmaSem sig := 10
abbrev cc2_sem1_0 : DmaSem sig := 11
abbrev cc2_sem1_1 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem6_0 : DmaSem sig := 17
abbrev cc2_sem7_0 : DmaSem sig := 18
abbrev cc2_sem8_0 : DmaSem sig := 19
abbrev cc2_sem9_0 : DmaSem sig := 20
abbrev cc2_sem10_0 : DmaSem sig := 21
abbrev cc2_sem10_1 : DmaSem sig := 22
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc4_sem10_0 : DmaSem sig := 42
abbrev cc4_sem10_1 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x1x4096 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S32x16 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨2, ![2, 16], ![false, false]⟩

def k1_off1 (i : grid1.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi c0_i32 v2
  let c0_i32_34_r0 : BitVec 32 := 0#32
  ![v3.toNat, 0]
def k1_off2 (i : grid1.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v13 : BitVec 32 := Scalar.muli v1 c512_i32
  let v14 : BitVec 32 := Scalar.addi v13 c0_i32_11
  let c0_i32_34_r1 : BitVec 32 := 0#32
  ![v14.toNat, 0]
abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x4096 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S1x4096 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨2, ![2, 16], ![false, false]⟩

def k3_off1 (i : grid3.Coords) : Fin 2 → Nat :=
  let c128_i32 : BitVec 32 := 128#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v2 : BitVec 32 := Scalar.muli v1 c4_i32
  let v3 : BitVec 32 := Scalar.addi c128_i32 v2
  let c0_i32_34_r0 : BitVec 32 := 0#32
  ![v3.toNat, 0]
def k3_off2 (i : grid3.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v13 : BitVec 32 := Scalar.muli v1 c512_i32
  let v14 : BitVec 32 := Scalar.addi v13 c0_i32_10
  let c0_i32_34_r1 : BitVec 32 := 0#32
  ![v14.toNat, 0]
abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S1x1x4096 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S16x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S128x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S1x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 2 → Memref sig .tc .vmem S1x4096 .f32 := fun | 0 => Memref.whole cc4_stg10_0 | 1 => Memref.whole cc4_stg10_1 | ⟨_ + 2, h⟩ => absurd h (Nat.not_lt.2 (Nat.le_add_left _ _))
abbrev sem4_10 : Fin 2 → DmaSem sig := fun | 0 => cc4_sem10_0 | 1 => cc4_sem10_1 | ⟨_ + 2, h⟩ => absurd h (Nat.not_lt.2 (Nat.le_add_left _ _))
abbrev reads4_10 : Fin grid4.rank → Bool := ![true]

abbrev grid5 : Pipeline.Grid := ⟨2, ![2, 16], ![false, false]⟩

def k5_cond1 (i : grid5.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v2 : BitVec 1 := Scalar.cmpi .slt v1 c16_i32
  let v3 : BitVec 32 := Scalar.extui v2
  let c0_i32 : BitVec 32 := 0#32
  let v4 : BitVec 1 := Scalar.cmpi .ne v3 c0_i32
  v4

def k5_off1 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_23_r0 : BitVec 32 := 0#32
  ![v1.toNat, 0]
@[reducible] def k5_t1_loop : Scf.Loop 32 :=
  let c0_i32_15 : BitVec 32 := 0#32
  let c256_i32 : BitVec 32 := 256#32
  let v50 : BitVec 32 := Scalar.addi c0_i32_15 c256_i32
  let c1_i32_16 : BitVec 32 := 1#32
  ⟨c0_i32_15, v50, c1_i32_16⟩
def k5_off2 (k5_t1 : Fin k5_t1_loop.trips) : Fin 1 → Nat :=
  let c0_i32_15 : BitVec 32 := 0#32
  let c1_i32_16 : BitVec 32 := 1#32
  let arg10 : BitVec 32 := Scf.iv c0_i32_15 c1_i32_16 k5_t1
  let c16_i32_23 : BitVec 32 := 16#32
  let v56 : BitVec 32 := Scalar.muli arg10 c16_i32_23
  let v57 : Index := Scalar.indexCast v56
  ![v57.toNat]
@[reducible] def k5_t2_loop (v7 : BitVec 32) (v9 : BitVec 32) : Scf.Loop 32 :=
  let c0_i32_19 : BitVec 32 := 0#32
  let c0_i32_0 : BitVec 32 := 0#32
  let v12 : BitVec 1 := Scalar.cmpi .sgt v7 c0_i32_0
  let v13 : BitVec 32 := Scalar.extui v12
  let c0_i32_1 : BitVec 32 := 0#32
  let v14 : BitVec 1 := Scalar.cmpi .slt v7 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v7 c8_i32
  let c0_i32_4 : BitVec 32 := 0#32
  let v24 : BitVec 1 := Scalar.cmpi .ne v23 c0_i32_4
  let v25 : BitVec 1 := Scalar.andi v22 v24
  let v11 : BitVec 32 := Scalar.divsi v7 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let v29 : BitVec 32 := Scalar.subi v9 v28
  let c2048_i32 : BitVec 32 := 2048#32
  let v30 : BitVec 32 := Scalar.addi v29 c2048_i32
  let c1_i32_6 : BitVec 32 := 1#32
  let v31 : BitVec 32 := Scalar.subi v30 c1_i32_6
  let c0_i32_8 : BitVec 32 := 0#32
  let v33 : BitVec 1 := Scalar.cmpi .sgt v31 c0_i32_8
  let v34 : BitVec 32 := Scalar.extui v33
  let c0_i32_9 : BitVec 32 := 0#32
  let v35 : BitVec 1 := Scalar.cmpi .slt v31 c0_i32_9
  let v36 : BitVec 32 := Scalar.extui v35
  let v37 : BitVec 32 := Scalar.subi v34 v36
  let c2048_i32_7 : BitVec 32 := 2048#32
  let c0_i32_10 : BitVec 32 := 0#32
  let v38 : BitVec 1 := Scalar.cmpi .sgt c2048_i32_7 c0_i32_10
  let v39 : BitVec 32 := Scalar.extui v38
  let c0_i32_11 : BitVec 32 := 0#32
  let v40 : BitVec 1 := Scalar.cmpi .slt c2048_i32_7 c0_i32_11
  let v41 : BitVec 32 := Scalar.extui v40
  let v42 : BitVec 32 := Scalar.subi v39 v41
  let v43 : BitVec 1 := Scalar.cmpi .ne v37 v42
  let v44 : BitVec 32 := Scalar.remsi v31 c2048_i32_7
  let c0_i32_12 : BitVec 32 := 0#32
  let v45 : BitVec 1 := Scalar.cmpi .ne v44 c0_i32_12
  let v46 : BitVec 1 := Scalar.andi v43 v45
  let v32 : BitVec 32 := Scalar.divsi v31 c2048_i32_7
  let c1_i32_13 : BitVec 32 := 1#32
  let v47 : BitVec 32 := Scalar.subi v32 c1_i32_13
  let v48 : BitVec 32 := Scalar.select v46 v47 v32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let c1_i32_21 : BitVec 32 := 1#32
  ⟨c0_i32_19, v55, c1_i32_21⟩

def k5_off3 (v7 : BitVec 32) (v9 : BitVec 32) (k5_t2 : Fin (k5_t2_loop v7 v9).trips) : Fin 1 → Nat :=
  let c0_i32_0 : BitVec 32 := 0#32
  let v12 : BitVec 1 := Scalar.cmpi .sgt v7 c0_i32_0
  let v13 : BitVec 32 := Scalar.extui v12
  let c0_i32_1 : BitVec 32 := 0#32
  let v14 : BitVec 1 := Scalar.cmpi .slt v7 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v7 c8_i32
  let c0_i32_4 : BitVec 32 := 0#32
  let v24 : BitVec 1 := Scalar.cmpi .ne v23 c0_i32_4
  let v25 : BitVec 1 := Scalar.andi v22 v24
  let v11 : BitVec 32 := Scalar.divsi v7 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let c0_i32_19 : BitVec 32 := 0#32
  let c1_i32_21 : BitVec 32 := 1#32
  let arg10 : BitVec 32 := Scf.iv c0_i32_19 c1_i32_21 k5_t2
  let c2048_i32_23 : BitVec 32 := 2048#32
  let v56 : BitVec 32 := Scalar.muli arg10 c2048_i32_23
  let v57 : BitVec 32 := Scalar.addi v28 v56
  ![v57.toNat]
def k5_off4 (v7 : BitVec 32) (v9 : BitVec 32) (k5_t2 : Fin (k5_t2_loop v7 v9).trips) : Fin 1 → Nat :=
  let c0_i32_0 : BitVec 32 := 0#32
  let v12 : BitVec 1 := Scalar.cmpi .sgt v7 c0_i32_0
  let v13 : BitVec 32 := Scalar.extui v12
  let c0_i32_1 : BitVec 32 := 0#32
  let v14 : BitVec 1 := Scalar.cmpi .slt v7 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v7 c8_i32
  let c0_i32_4 : BitVec 32 := 0#32
  let v24 : BitVec 1 := Scalar.cmpi .ne v23 c0_i32_4
  let v25 : BitVec 1 := Scalar.andi v22 v24
  let v11 : BitVec 32 := Scalar.divsi v7 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let c0_i32_19 : BitVec 32 := 0#32
  let c1_i32_21 : BitVec 32 := 1#32
  let arg10 : BitVec 32 := Scf.iv c0_i32_19 c1_i32_21 k5_t2
  let c2048_i32_23 : BitVec 32 := 2048#32
  let v56 : BitVec 32 := Scalar.muli arg10 c2048_i32_23
  let v57 : BitVec 32 := Scalar.addi v28 v56
  ![v57.toNat]
@[reducible] def k5_t3_loop : Scf.Loop 32 :=
  let c0_i32_25 : BitVec 32 := 0#32
  let c128_i32 : BitVec 32 := 128#32
  let v58 : BitVec 32 := Scalar.addi c0_i32_25 c128_i32
  let c1_i32_26 : BitVec 32 := 1#32
  ⟨c0_i32_25, v58, c1_i32_26⟩
def k5_off5 (k5_t3 : Fin k5_t3_loop.trips) : Fin 1 → Nat :=
  let c0_i32_25 : BitVec 32 := 0#32
  let c1_i32_26 : BitVec 32 := 1#32
  let arg11 : BitVec 32 := Scf.iv c0_i32_25 c1_i32_26 k5_t3
  let c16_i32_28 : BitVec 32 := 16#32
  let v59 : BitVec 32 := Scalar.muli arg11 c16_i32_28
  let v63 : Index := Scalar.indexCast v59
  ![v63.toNat]
def k5_off6 (k5_t3 : Fin k5_t3_loop.trips) : Fin 1 → Nat :=
  let c0_i32_25 : BitVec 32 := 0#32
  let c1_i32_26 : BitVec 32 := 1#32
  let arg11 : BitVec 32 := Scf.iv c0_i32_25 c1_i32_26 k5_t3
  let c16_i32_28 : BitVec 32 := 16#32
  let v59 : BitVec 32 := Scalar.muli arg11 c16_i32_28
  let v65 : Index := Scalar.indexCast v59
  ![v65.toNat]

def k5_chk2 (i : grid5.Coords) (v64 : IVec S16 32) : Prop :=
  (∀ (k5_h1 : k5_cond1 i = 1#1), ∀ a x, ((![v64] : Fin 1 → IVec S16 32) a x).toNat < S4096.size a)
theorem k5_idx1_inb : ∀ (i : grid5.Coords) (v64 : IVec S16 32) (k5_hw2 : k5_chk2 i v64), ∀ (k5_h1 : k5_cond1 i = 1#1), ∀ a x, ((![v64] : Fin 1 → IVec S16 32) a x).toNat < S4096.size a := fun i v64 k5_hw2 k5_h1 => k5_hw2 k5_h1
@[reducible] def k5_t4_loop (v7 : BitVec 32) (v9 : BitVec 32) : Scf.Loop 32 :=
  let c0_i32_19 : BitVec 32 := 0#32
  let c0_i32_0 : BitVec 32 := 0#32
  let v12 : BitVec 1 := Scalar.cmpi .sgt v7 c0_i32_0
  let v13 : BitVec 32 := Scalar.extui v12
  let c0_i32_1 : BitVec 32 := 0#32
  let v14 : BitVec 1 := Scalar.cmpi .slt v7 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v7 c8_i32
  let c0_i32_4 : BitVec 32 := 0#32
  let v24 : BitVec 1 := Scalar.cmpi .ne v23 c0_i32_4
  let v25 : BitVec 1 := Scalar.andi v22 v24
  let v11 : BitVec 32 := Scalar.divsi v7 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let v29 : BitVec 32 := Scalar.subi v9 v28
  let c2048_i32 : BitVec 32 := 2048#32
  let v30 : BitVec 32 := Scalar.addi v29 c2048_i32
  let c1_i32_6 : BitVec 32 := 1#32
  let v31 : BitVec 32 := Scalar.subi v30 c1_i32_6
  let c0_i32_8 : BitVec 32 := 0#32
  let v33 : BitVec 1 := Scalar.cmpi .sgt v31 c0_i32_8
  let v34 : BitVec 32 := Scalar.extui v33
  let c0_i32_9 : BitVec 32 := 0#32
  let v35 : BitVec 1 := Scalar.cmpi .slt v31 c0_i32_9
  let v36 : BitVec 32 := Scalar.extui v35
  let v37 : BitVec 32 := Scalar.subi v34 v36
  let c2048_i32_7 : BitVec 32 := 2048#32
  let c0_i32_10 : BitVec 32 := 0#32
  let v38 : BitVec 1 := Scalar.cmpi .sgt c2048_i32_7 c0_i32_10
  let v39 : BitVec 32 := Scalar.extui v38
  let c0_i32_11 : BitVec 32 := 0#32
  let v40 : BitVec 1 := Scalar.cmpi .slt c2048_i32_7 c0_i32_11
  let v41 : BitVec 32 := Scalar.extui v40
  let v42 : BitVec 32 := Scalar.subi v39 v41
  let v43 : BitVec 1 := Scalar.cmpi .ne v37 v42
  let v44 : BitVec 32 := Scalar.remsi v31 c2048_i32_7
  let c0_i32_12 : BitVec 32 := 0#32
  let v45 : BitVec 1 := Scalar.cmpi .ne v44 c0_i32_12
  let v46 : BitVec 1 := Scalar.andi v43 v45
  let v32 : BitVec 32 := Scalar.divsi v31 c2048_i32_7
  let c1_i32_13 : BitVec 32 := 1#32
  let v47 : BitVec 32 := Scalar.subi v32 c1_i32_13
  let v48 : BitVec 32 := Scalar.select v46 v47 v32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let v52 : BitVec 32 := Scalar.addi c0_i32_19 v51
  let c1_i32_22 : BitVec 32 := 1#32
  ⟨v55, v52, c1_i32_22⟩
def k5_off7 (v7 : BitVec 32) (v9 : BitVec 32) (k5_t4 : Fin (k5_t4_loop v7 v9).trips) : Fin 1 → Nat :=
  let c0_i32_0 : BitVec 32 := 0#32
  let v12 : BitVec 1 := Scalar.cmpi .sgt v7 c0_i32_0
  let v13 : BitVec 32 := Scalar.extui v12
  let c0_i32_1 : BitVec 32 := 0#32
  let v14 : BitVec 1 := Scalar.cmpi .slt v7 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v7 c8_i32
  let c0_i32_4 : BitVec 32 := 0#32
  let v24 : BitVec 1 := Scalar.cmpi .ne v23 c0_i32_4
  let v25 : BitVec 1 := Scalar.andi v22 v24
  let v11 : BitVec 32 := Scalar.divsi v7 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let c0_i32_19 : BitVec 32 := 0#32
  let v29 : BitVec 32 := Scalar.subi v9 v28
  let c2048_i32 : BitVec 32 := 2048#32
  let v30 : BitVec 32 := Scalar.addi v29 c2048_i32
  let c1_i32_6 : BitVec 32 := 1#32
  let v31 : BitVec 32 := Scalar.subi v30 c1_i32_6
  let c0_i32_8 : BitVec 32 := 0#32
  let v33 : BitVec 1 := Scalar.cmpi .sgt v31 c0_i32_8
  let v34 : BitVec 32 := Scalar.extui v33
  let c0_i32_9 : BitVec 32 := 0#32
  let v35 : BitVec 1 := Scalar.cmpi .slt v31 c0_i32_9
  let v36 : BitVec 32 := Scalar.extui v35
  let v37 : BitVec 32 := Scalar.subi v34 v36
  let c2048_i32_7 : BitVec 32 := 2048#32
  let c0_i32_10 : BitVec 32 := 0#32
  let v38 : BitVec 1 := Scalar.cmpi .sgt c2048_i32_7 c0_i32_10
  let v39 : BitVec 32 := Scalar.extui v38
  let c0_i32_11 : BitVec 32 := 0#32
  let v40 : BitVec 1 := Scalar.cmpi .slt c2048_i32_7 c0_i32_11
  let v41 : BitVec 32 := Scalar.extui v40
  let v42 : BitVec 32 := Scalar.subi v39 v41
  let v43 : BitVec 1 := Scalar.cmpi .ne v37 v42
  let v44 : BitVec 32 := Scalar.remsi v31 c2048_i32_7
  let c0_i32_12 : BitVec 32 := 0#32
  let v45 : BitVec 1 := Scalar.cmpi .ne v44 c0_i32_12
  let v46 : BitVec 1 := Scalar.andi v43 v45
  let v32 : BitVec 32 := Scalar.divsi v31 c2048_i32_7
  let c1_i32_13 : BitVec 32 := 1#32
  let v47 : BitVec 32 := Scalar.subi v32 c1_i32_13
  let v48 : BitVec 32 := Scalar.select v46 v47 v32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let c1_i32_22 : BitVec 32 := 1#32
  let arg10 : BitVec 32 := Scf.iv v55 c1_i32_22 k5_t4
  let c2048_i32_23 : BitVec 32 := 2048#32
  let v56 : BitVec 32 := Scalar.muli arg10 c2048_i32_23
  let v57 : BitVec 32 := Scalar.addi v28 v56
  ![v57.toNat]
def k5_off8 (v7 : BitVec 32) (v9 : BitVec 32) (k5_t4 : Fin (k5_t4_loop v7 v9).trips) : Fin 1 → Nat :=
  let c0_i32_0 : BitVec 32 := 0#32
  let v12 : BitVec 1 := Scalar.cmpi .sgt v7 c0_i32_0
  let v13 : BitVec 32 := Scalar.extui v12
  let c0_i32_1 : BitVec 32 := 0#32
  let v14 : BitVec 1 := Scalar.cmpi .slt v7 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v7 c8_i32
  let c0_i32_4 : BitVec 32 := 0#32
  let v24 : BitVec 1 := Scalar.cmpi .ne v23 c0_i32_4
  let v25 : BitVec 1 := Scalar.andi v22 v24
  let v11 : BitVec 32 := Scalar.divsi v7 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let c0_i32_19 : BitVec 32 := 0#32
  let v29 : BitVec 32 := Scalar.subi v9 v28
  let c2048_i32 : BitVec 32 := 2048#32
  let v30 : BitVec 32 := Scalar.addi v29 c2048_i32
  let c1_i32_6 : BitVec 32 := 1#32
  let v31 : BitVec 32 := Scalar.subi v30 c1_i32_6
  let c0_i32_8 : BitVec 32 := 0#32
  let v33 : BitVec 1 := Scalar.cmpi .sgt v31 c0_i32_8
  let v34 : BitVec 32 := Scalar.extui v33
  let c0_i32_9 : BitVec 32 := 0#32
  let v35 : BitVec 1 := Scalar.cmpi .slt v31 c0_i32_9
  let v36 : BitVec 32 := Scalar.extui v35
  let v37 : BitVec 32 := Scalar.subi v34 v36
  let c2048_i32_7 : BitVec 32 := 2048#32
  let c0_i32_10 : BitVec 32 := 0#32
  let v38 : BitVec 1 := Scalar.cmpi .sgt c2048_i32_7 c0_i32_10
  let v39 : BitVec 32 := Scalar.extui v38
  let c0_i32_11 : BitVec 32 := 0#32
  let v40 : BitVec 1 := Scalar.cmpi .slt c2048_i32_7 c0_i32_11
  let v41 : BitVec 32 := Scalar.extui v40
  let v42 : BitVec 32 := Scalar.subi v39 v41
  let v43 : BitVec 1 := Scalar.cmpi .ne v37 v42
  let v44 : BitVec 32 := Scalar.remsi v31 c2048_i32_7
  let c0_i32_12 : BitVec 32 := 0#32
  let v45 : BitVec 1 := Scalar.cmpi .ne v44 c0_i32_12
  let v46 : BitVec 1 := Scalar.andi v43 v45
  let v32 : BitVec 32 := Scalar.divsi v31 c2048_i32_7
  let c1_i32_13 : BitVec 32 := 1#32
  let v47 : BitVec 32 := Scalar.subi v32 c1_i32_13
  let v48 : BitVec 32 := Scalar.select v46 v47 v32
  let v51 : BitVec 32 := Scalar.subi v48 c0_i32_19
  let c1_i32_20 : BitVec 32 := 1#32
  let v53 : BitVec 32 := Scalar.divsi v51 c1_i32_20
  let v54 : BitVec 32 := Scalar.muli v53 c1_i32_20
  let v55 : BitVec 32 := Scalar.addi c0_i32_19 v54
  let c1_i32_22 : BitVec 32 := 1#32
  let arg10 : BitVec 32 := Scf.iv v55 c1_i32_22 k5_t4
  let c2048_i32_23 : BitVec 32 := 2048#32
  let v56 : BitVec 32 := Scalar.muli arg10 c2048_i32_23
  let v57 : BitVec 32 := Scalar.addi v28 v56
  ![v57.toNat]

def k5_chk1 (i : grid5.Coords) (v7 : BitVec 32) (v9 : BitVec 32) : Prop :=
  (∀ (k5_h1 : k5_cond1 i = 1#1), (k5_t2_loop v7 v9).OK) ∧
  (∀ k5_t2 : Fin (k5_t2_loop v7 v9).trips, ∀ (k5_h1 : k5_cond1 i = 1#1), ∀ a, (k5_off3 v7 v9 k5_t2) a + S2064.size a ≤ S36864.size a) ∧
  (∀ k5_t2 : Fin (k5_t2_loop v7 v9).trips, ∀ (k5_h1 : k5_cond1 i = 1#1), ∀ a, (k5_off4 v7 v9 k5_t2) a + S2048.size a ≤ S36864.size a) ∧
  (∀ (k5_h1 : k5_cond1 i = 1#1), (k5_t4_loop v7 v9).OK) ∧
  (∀ k5_t4 : Fin (k5_t4_loop v7 v9).trips, ∀ (k5_h1 : k5_cond1 i = 1#1), ∀ a, (k5_off7 v7 v9 k5_t4) a + S2064.size a ≤ S36864.size a) ∧
  (∀ k5_t4 : Fin (k5_t4_loop v7 v9).trips, ∀ (k5_h1 : k5_cond1 i = 1#1), ∀ a, (k5_off8 v7 v9 k5_t4) a + S2048.size a ≤ S36864.size a)
theorem k5_t2_ok : ∀ (i : grid5.Coords) (v7 : BitVec 32) (v9 : BitVec 32) (k5_hw1 : k5_chk1 i v7 v9), ∀ (k5_h1 : k5_cond1 i = 1#1), (k5_t2_loop v7 v9).OK := fun i v7 v9 k5_hw1 k5_h1 => k5_hw1.1 k5_h1
theorem k5_off3_inb : ∀ (i : grid5.Coords) (v7 : BitVec 32) (v9 : BitVec 32) (k5_hw1 : k5_chk1 i v7 v9) (k5_t2 : Fin (k5_t2_loop v7 v9).trips), ∀ (k5_h1 : k5_cond1 i = 1#1), ∀ a, (k5_off3 v7 v9 k5_t2) a + S2064.size a ≤ S36864.size a := fun i v7 v9 k5_hw1 k5_t2 k5_h1 => k5_hw1.2.1 k5_t2 k5_h1
theorem k5_off4_inb : ∀ (i : grid5.Coords) (v7 : BitVec 32) (v9 : BitVec 32) (k5_hw1 : k5_chk1 i v7 v9) (k5_t2 : Fin (k5_t2_loop v7 v9).trips), ∀ (k5_h1 : k5_cond1 i = 1#1), ∀ a, (k5_off4 v7 v9 k5_t2) a + S2048.size a ≤ S36864.size a := fun i v7 v9 k5_hw1 k5_t2 k5_h1 => k5_hw1.2.2.1 k5_t2 k5_h1
theorem k5_t4_ok : ∀ (i : grid5.Coords) (v7 : BitVec 32) (v9 : BitVec 32) (k5_hw1 : k5_chk1 i v7 v9), ∀ (k5_h1 : k5_cond1 i = 1#1), (k5_t4_loop v7 v9).OK := fun i v7 v9 k5_hw1 k5_h1 => k5_hw1.2.2.2.1 k5_h1
theorem k5_off7_inb : ∀ (i : grid5.Coords) (v7 : BitVec 32) (v9 : BitVec 32) (k5_hw1 : k5_chk1 i v7 v9) (k5_t4 : Fin (k5_t4_loop v7 v9).trips), ∀ (k5_h1 : k5_cond1 i = 1#1), ∀ a, (k5_off7 v7 v9 k5_t4) a + S2064.size a ≤ S36864.size a := fun i v7 v9 k5_hw1 k5_t4 k5_h1 => k5_hw1.2.2.2.2.1 k5_t4 k5_h1
theorem k5_off8_inb : ∀ (i : grid5.Coords) (v7 : BitVec 32) (v9 : BitVec 32) (k5_hw1 : k5_chk1 i v7 v9) (k5_t4 : Fin (k5_t4_loop v7 v9).trips), ∀ (k5_h1 : k5_cond1 i = 1#1), ∀ a, (k5_off8 v7 v9 k5_t4) a + S2048.size a ≤ S36864.size a := fun i v7 v9 k5_hw1 k5_t4 k5_h1 => k5_hw1.2.2.2.2.2 k5_t4 k5_h1

@[reducible] def k5_t5_loop : Scf.Loop 32 :=
  let c0_i32_25 : BitVec 32 := 0#32
  let c128_i32 : BitVec 32 := 128#32
  let v58 : BitVec 32 := Scalar.addi c0_i32_25 c128_i32
  let c1_i32_26 : BitVec 32 := 1#32
  ⟨c0_i32_25, v58, c1_i32_26⟩
def k5_off9 (k5_t5 : Fin k5_t5_loop.trips) : Fin 1 → Nat :=
  let c0_i32_25 : BitVec 32 := 0#32
  let c1_i32_26 : BitVec 32 := 1#32
  let arg11 : BitVec 32 := Scf.iv c0_i32_25 c1_i32_26 k5_t5
  let c16_i32_28 : BitVec 32 := 16#32
  let v59 : BitVec 32 := Scalar.muli arg11 c16_i32_28
  let v63 : Index := Scalar.indexCast v59
  ![v63.toNat]
def k5_off10 (k5_t5 : Fin k5_t5_loop.trips) : Fin 1 → Nat :=
  let c0_i32_25 : BitVec 32 := 0#32
  let c1_i32_26 : BitVec 32 := 1#32
  let arg11 : BitVec 32 := Scf.iv c0_i32_25 c1_i32_26 k5_t5
  let c16_i32_28 : BitVec 32 := 16#32
  let v59 : BitVec 32 := Scalar.muli arg11 c16_i32_28
  let v65 : Index := Scalar.indexCast v59
  ![v65.toNat]

def k5_chk3 (i : grid5.Coords) (v64 : IVec S16 32) : Prop :=
  (∀ (k5_h1 : k5_cond1 i = 1#1), ∀ a x, ((![v64] : Fin 1 → IVec S16 32) a x).toNat < S4096.size a)
theorem k5_idx2_inb : ∀ (i : grid5.Coords) (v64 : IVec S16 32) (k5_hw3 : k5_chk3 i v64), ∀ (k5_h1 : k5_cond1 i = 1#1), ∀ a x, ((![v64] : Fin 1 → IVec S16 32) a x).toNat < S4096.size a := fun i v64 k5_hw3 k5_h1 => k5_hw3 k5_h1
def k5_off11 (i : grid5.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_23_r5 : BitVec 32 := 0#32
  ![v1.toNat, 0]
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== ReferenceIdeal.lean ====
abbrev S16x1x128 : Shape := ⟨3, ![16, 1, 128]⟩
abbrev S65536x128 : Shape := ⟨2, ![65536, 128]⟩
abbrev S32768 : Shape := ⟨1, ![32768]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S16x128 : Shape := ⟨2, ![16, 128]⟩
abbrev S1x128 : Shape := ⟨2, ![1, 128]⟩
abbrev S_ : Shape := ⟨0, ![]⟩
abbrev S32768x1 : Shape := ⟨2, ![32768, 1]⟩
abbrev S1x1 : Shape := ⟨2, ![1, 1]⟩
abbrev S32768x128 : Shape := ⟨2, ![32768, 128]⟩
abbrev S32768x256 : Shape := ⟨2, ![32768, 256]⟩
abbrev S16x4096 : Shape := ⟨2, ![16, 4096]⟩
abbrev S32768x2 : Shape := ⟨2, ![32768, 2]⟩

abbrev nBuf : Space → Nat
  | .hbm => 105
  | .vmem => 0
  | .smem => 0
  | _ => 0

abbrev bufTy : (tb : Table) → Fin (tcTables nBuf tb) → BufTy
  | .hbm, ⟨0, _⟩ => ⟨S16x1x128, .f32⟩
  | .hbm, ⟨1, _⟩ => ⟨S65536x128, .f32⟩
  | .hbm, ⟨2, _⟩ => ⟨S32768, .i32⟩
  | .hbm, ⟨3, _⟩ => ⟨S32768, .i32⟩
  | .hbm, ⟨4, _⟩ => ⟨S32768, .i32⟩
  | .hbm, ⟨5, _⟩ => ⟨S128x128, .f32⟩
  | .hbm, ⟨6, _⟩ => ⟨S128, .f32⟩
  | .hbm, ⟨7, _⟩ => ⟨S256x128, .f32⟩
  | .hbm, ⟨8, _⟩ => ⟨S128, .f32⟩
  | .hbm, ⟨9, _⟩ => ⟨S128x1, .f32⟩
  | .hbm, ⟨10, _⟩ => ⟨S1, .f32⟩
  | .hbm, ⟨11, _⟩ => ⟨S16x128, .f32⟩
  | .hbm, ⟨12, _⟩ => ⟨S16x128, .f32⟩
  | .hbm, ⟨13, _⟩ => ⟨S1x128, .f32⟩
  | .hbm, ⟨14, _⟩ => ⟨S16x128, .f32⟩
  | .hbm, ⟨15, _⟩ => ⟨S16x128, .f32⟩
  | .hbm, ⟨16, _⟩ => ⟨S_, .f32⟩
  | .hbm, ⟨17, _⟩ => ⟨S16x128, .f32⟩
  | .hbm, ⟨18, _⟩ => ⟨S16x128, .f32⟩
  | .hbm, ⟨19, _⟩ => ⟨S_, .i32⟩
  | .hbm, ⟨20, _⟩ => ⟨S32768, .i32⟩
  | .hbm, ⟨21, _⟩ => ⟨S32768, .i1⟩
  | .hbm, ⟨22, _⟩ => ⟨S_, .i32⟩
  | .hbm, ⟨23, _⟩ => ⟨S32768, .i32⟩
  | .hbm, ⟨24, _⟩ => ⟨S32768, .i32⟩
  | .hbm, ⟨25, _⟩ => ⟨S32768, .i32⟩
  | .hbm, ⟨26, _⟩ => ⟨S32768x1, .i32⟩
  | .hbm, ⟨27, _⟩ => ⟨S1, .i32⟩
  | .hbm, ⟨28, _⟩ => ⟨S_, .i32⟩
  | .hbm, ⟨29, _⟩ => ⟨S32768x1, .i32⟩
  | .hbm, ⟨30, _⟩ => ⟨S32768x1, .i1⟩
  | .hbm, ⟨31, _⟩ => ⟨S1x1, .i32⟩
  | .hbm, ⟨32, _⟩ => ⟨S32768x1, .i32⟩
  | .hbm, ⟨33, _⟩ => ⟨S32768x1, .i1⟩
  | .hbm, ⟨34, _⟩ => ⟨S32768x1, .i1⟩
  | .hbm, ⟨35, _⟩ => ⟨S_, .i1⟩
  | .hbm, ⟨36, _⟩ => ⟨S32768, .i1⟩
  | .hbm, ⟨37, _⟩ => ⟨S32768x128, .f32⟩
  | .hbm, ⟨38, _⟩ => ⟨S32768x128, .i1⟩
  | .hbm, ⟨39, _⟩ => ⟨S_, .f32⟩
  | .hbm, ⟨40, _⟩ => ⟨S32768x128, .f32⟩
  | .hbm, ⟨41, _⟩ => ⟨S32768x128, .f32⟩
  | .hbm, ⟨42, _⟩ => ⟨S_, .i32⟩
  | .hbm, ⟨43, _⟩ => ⟨S32768, .i32⟩
  | .hbm, ⟨44, _⟩ => ⟨S32768, .i1⟩
  | .hbm, ⟨45, _⟩ => ⟨S_, .i32⟩
  | .hbm, ⟨46, _⟩ => ⟨S32768, .i32⟩
  | .hbm, ⟨47, _⟩ => ⟨S32768, .i32⟩
  | .hbm, ⟨48, _⟩ => ⟨S32768, .i32⟩
  | .hbm, ⟨49, _⟩ => ⟨S32768x1, .i32⟩
  | .hbm, ⟨50, _⟩ => ⟨S1, .i32⟩
  | .hbm, ⟨51, _⟩ => ⟨S_, .i32⟩
  | .hbm, ⟨52, _⟩ => ⟨S32768x1, .i32⟩
  | .hbm, ⟨53, _⟩ => ⟨S32768x1, .i1⟩
  | .hbm, ⟨54, _⟩ => ⟨S1x1, .i32⟩
  | .hbm, ⟨55, _⟩ => ⟨S32768x1, .i32⟩
  | .hbm, ⟨56, _⟩ => ⟨S32768x1, .i1⟩
  | .hbm, ⟨57, _⟩ => ⟨S32768x1, .i1⟩
  | .hbm, ⟨58, _⟩ => ⟨S_, .i1⟩
  | .hbm, ⟨59, _⟩ => ⟨S32768, .i1⟩
  | .hbm, ⟨60, _⟩ => ⟨S32768x128, .f32⟩
  | .hbm, ⟨61, _⟩ => ⟨S32768x128, .i1⟩
  | .hbm, ⟨62, _⟩ => ⟨S_, .f32⟩
  | .hbm, ⟨63, _⟩ => ⟨S32768x128, .f32⟩
  | .hbm, ⟨64, _⟩ => ⟨S32768x128, .f32⟩
  | .hbm, ⟨65, _⟩ => ⟨S32768x256, .f32⟩
  | .hbm, ⟨66, _⟩ => ⟨S32768x128, .f32⟩
  | .hbm, ⟨67, _⟩ => ⟨S1x128, .f32⟩
  | .hbm, ⟨68, _⟩ => ⟨S32768x128, .f32⟩
  | .hbm, ⟨69, _⟩ => ⟨S32768x128, .f32⟩
  | .hbm, ⟨70, _⟩ => ⟨S_, .f32⟩
  | .hbm, ⟨71, _⟩ => ⟨S32768x128, .f32⟩
  | .hbm, ⟨72, _⟩ => ⟨S32768x128, .f32⟩
  | .hbm, ⟨73, _⟩ => ⟨S32768x1, .f32⟩
  | .hbm, ⟨74, _⟩ => ⟨S1x1, .f32⟩
  | .hbm, ⟨75, _⟩ => ⟨S32768x1, .f32⟩
  | .hbm, ⟨76, _⟩ => ⟨S32768x1, .f32⟩
  | .hbm, ⟨77, _⟩ => ⟨S32768, .f32⟩
  | .hbm, ⟨78, _⟩ => ⟨S_, .f32⟩
  | .hbm, ⟨79, _⟩ => ⟨S16x4096, .f32⟩
  | .hbm, ⟨80, _⟩ => ⟨S_, .i32⟩
  | .hbm, ⟨81, _⟩ => ⟨S32768, .i32⟩
  | .hbm, ⟨82, _⟩ => ⟨S32768, .i1⟩
  | .hbm, ⟨83, _⟩ => ⟨S_, .i32⟩
  | .hbm, ⟨84, _⟩ => ⟨S32768, .i32⟩
  | .hbm, ⟨85, _⟩ => ⟨S32768, .i32⟩
  | .hbm, ⟨86, _⟩ => ⟨S32768, .i32⟩
  | .hbm, ⟨87, _⟩ => ⟨S_, .i32⟩
  | .hbm, ⟨88, _⟩ => ⟨S32768, .i32⟩
  | .hbm, ⟨89, _⟩ => ⟨S32768, .i1⟩
  | .hbm, ⟨90, _⟩ => ⟨S_, .i32⟩
  | .hbm, ⟨91, _⟩ => ⟨S32768, .i32⟩
  | .hbm, ⟨92, _⟩ => ⟨S32768, .i32⟩
  | .hbm, ⟨93, _⟩ => ⟨S32768, .i32⟩
  | .hbm, ⟨94, _⟩ => ⟨S32768x1, .i32⟩
  | .hbm, ⟨95, _⟩ => ⟨S32768x1, .i32⟩
  | .hbm, ⟨96, _⟩ => ⟨S32768x2, .i32⟩
  | .hbm, ⟨97, _⟩ => ⟨S16x4096, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S_, .f32⟩
  | .hbm, ⟨102, _⟩ => ⟨S16x4096, .f32⟩
  | .hbm, ⟨103, _⟩ => ⟨S16x4096, .f32⟩
  | .hbm, ⟨104, _⟩ => ⟨S16x4096, .f32⟩
  | _, _ => ⟨S16x1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_call0_cst : Ref sig .tc := ⟨.hbm, 16, rfl⟩
abbrev main_call0_v0 : Ref sig .tc := ⟨.hbm, 17, rfl⟩
abbrev main_v5 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_v14 : Ref sig .tc := ⟨.hbm, 38, rfl⟩
abbrev main_call1_cst : Ref sig .tc := ⟨.hbm, 39, rfl⟩
abbrev main_call1_v15 : Ref sig .tc := ⟨.hbm, 40, rfl⟩
abbrev main_v6 : Ref sig .tc := ⟨.hbm, 41, rfl⟩
abbrev main_call2_c : Ref sig .tc := ⟨.hbm, 42, rfl⟩
abbrev main_call2_v0 : Ref sig .tc := ⟨.hbm, 43, rfl⟩
abbrev main_call2_v1 : Ref sig .tc := ⟨.hbm, 44, rfl⟩
abbrev main_call2_c_0 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_call2_v5 : Ref sig .tc := ⟨.hbm, 49, rfl⟩
abbrev main_call2_c_1 : Ref sig .tc := ⟨.hbm, 50, rfl⟩
abbrev main_call2_c_2 : Ref sig .tc := ⟨.hbm, 51, rfl⟩
abbrev main_call2_v6 : Ref sig .tc := ⟨.hbm, 52, rfl⟩
abbrev main_call2_v7 : Ref sig .tc := ⟨.hbm, 53, rfl⟩
abbrev main_call2_v8 : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_3 : Ref sig .tc := ⟨.hbm, 58, rfl⟩
abbrev main_call2_v12 : Ref sig .tc := ⟨.hbm, 59, rfl⟩
abbrev main_call2_v13 : Ref sig .tc := ⟨.hbm, 60, rfl⟩
abbrev main_call2_v14 : Ref sig .tc := ⟨.hbm, 61, rfl⟩
abbrev main_call2_cst : Ref sig .tc := ⟨.hbm, 62, rfl⟩
abbrev main_call2_v15 : Ref sig .tc := ⟨.hbm, 63, rfl⟩
abbrev main_v7 : Ref sig .tc := ⟨.hbm, 64, rfl⟩
abbrev main_v8 : Ref sig .tc := ⟨.hbm, 65, rfl⟩
abbrev main_v9 : Ref sig .tc := ⟨.hbm, 66, rfl⟩
abbrev main_v10 : Ref sig .tc := ⟨.hbm, 67, rfl⟩
abbrev main_v11 : Ref sig .tc := ⟨.hbm, 68, rfl⟩
abbrev main_v12 : Ref sig .tc := ⟨.hbm, 69, rfl⟩
abbrev main_call3_cst : Ref sig .tc := ⟨.hbm, 70, rfl⟩
abbrev main_call3_v0 : Ref sig .tc := ⟨.hbm, 71, rfl⟩
abbrev main_v13 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst : Ref sig .tc := ⟨.hbm, 78, rfl⟩
abbrev main_v19 : Ref sig .tc := ⟨.hbm, 79, rfl⟩
abbrev main_c : Ref sig .tc := ⟨.hbm, 80, rfl⟩
abbrev main_v20 : Ref sig .tc := ⟨.hbm, 81, rfl⟩
abbrev main_v21 : Ref sig .tc := ⟨.hbm, 82, rfl⟩
abbrev main_c_0 : Ref sig .tc := ⟨.hbm, 83, rfl⟩
abbrev main_v22 : Ref sig .tc := ⟨.hbm, 84, rfl⟩
abbrev main_v23 : Ref sig .tc := ⟨.hbm, 85, rfl⟩
abbrev main_v24 : Ref sig .tc := ⟨.hbm, 86, rfl⟩
abbrev main_c_1 : Ref sig .tc := ⟨.hbm, 87, rfl⟩
abbrev main_v25 : Ref sig .tc := ⟨.hbm, 88, rfl⟩
abbrev main_v26 : Ref sig .tc := ⟨.hbm, 89, rfl⟩
abbrev main_c_2 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_v30 : Ref sig .tc := ⟨.hbm, 94, rfl⟩
abbrev main_v31 : Ref sig .tc := ⟨.hbm, 95, rfl⟩
abbrev main_v32 : Ref sig .tc := ⟨.hbm, 96, rfl⟩
abbrev main_v33 : Ref sig .tc := ⟨.hbm, 97, rfl⟩
abbrev main_cst_3 : Ref sig .tc := ⟨.hbm, 98, rfl⟩
abbrev main_v34 : Ref sig .tc := ⟨.hbm, 99, rfl⟩
abbrev main_cst_4 : Ref sig .tc := ⟨.hbm, 100, rfl⟩
abbrev main_v35 : Ref sig .tc := ⟨.hbm, 101, rfl⟩
abbrev main_v36 : Ref sig .tc := ⟨.hbm, 102, rfl⟩
abbrev main_v37 : Ref sig .tc := ⟨.hbm, 103, rfl⟩
abbrev main_v38 : Ref sig .tc := ⟨.hbm, 104, rfl⟩

abbrev nD : Nat := 1
abbrev τ : Topo := Topo.v7x

variable {F : FTy → Type} [FloatOps F]
-- ==== Proof.Setup.lean ====
/- What the whole proof shares: the program as the launch theorem sees it, and the ghost state: the rounds of the
   handshakes, the rounds of the pipelines and the transfers' counters. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Affine.Words
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic
open Idealize.SL Idealize.SL.RA Idealize.SL.BI
open Idealize.ShloMosaic.SparseCore.Cfg (HIx)
open Idealize.SL.Sem Idealize.ShloMosaic.Rounds

variable {F : FTy → Type}

abbrev ΛP : Labels := Pipeline.Sig Λ₀ (Fin 3) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UP : Type := URounds (GSem nD τ sig) Unit
abbrev UU : Type := UH × (UP × Counters)

abbrev EH : Emb UH (MT nD τ sig (HIx 3) (Elt F) ℕ UU ℕ) := embL
/-- The pipelines' rounds, and the transfers' counters beside them, inside the ghost state. -/
abbrev EP : Emb UP (MT nD τ sig (HIx 3) (Elt F) ℕ UU ℕ) := (Emb.inl : Emb UP (UP × Counters)).trans embR

instance EP_landsIn : (EP (F := F)).LandsIn (upEmb : UEmb _ (MT nD τ sig (HIx 3) (Elt F) ℕ UU ℕ)) := by
  unfold EP; infer_instance

end Cert.Proof

end
-- ==== Proof.Bodies.lean ====
/- The two kinds of TensorCore body: each run on any staging buffers, from the blocks they hold to the block it
   leaves in the last. -/
module

public import proofs.«01_k».proof.Proof.Setup
public import proofs.«01_k».proof.Proof.Gen.KernelIdeal.Launch
public import proofs.«01_k».proof.Proof.Gen.KernelIdeal.Points
public import Idealize.ShloMosaic.Lib.Pipeline.TableIdle
public import Idealize.ShloMosaic.Lib.ValueIdxCore

@[expose] public section

noncomputable section

namespace Cert.Proof.Tc

open Cert.KernelIdeal Cert.KernelIdeal.Gen
open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F] [∀ e, Nonempty (Elt F e)]

local notation "𝕄" => MT nD τ sig (HIx 3) (Elt F) ℕ UU ℕ

/-- Block `j` of the eight blocks of segment numbers. -/
def segBlock (X : IVec S8x1x4096 32) (j : Fin 8) : IVec S1x1x4096 32 := fun y => X (ValueIdx.ix3 j (0 : Fin 1) (y 2))

/-- Storing a value over a whole buffer leaves the buffer holding that value. -/
theorem writes_unit {sp : Space} {s : Shape} {e : EltTy} (M : Memref sig .tc sp s e) {off : Fin s.rank → Nat} (h0 : ∀ a, off a = 0)
    (h : ∀ a, off a + s.size a ≤ s.size a) (X : s.Idx → Elt F e) :
    M.view.writes (Elt F) M.view.junk [⟨Rect.unit (s := s) off s.size h, X⟩] = M.view.rep X := by
  obtain rfl : off = fun _ => 0 := funext h0
  rfl

/-- A load of a whole buffer reads the block it holds. -/
theorem readAt_whole {sp : Space} {s : Shape} {e : EltTy} (M : Memref sig .tc sp s e) {off : Fin s.rank → Nat} (h0 : ∀ a, off a = 0)
    (h : ∀ a, off a + s.size a ≤ s.size a) (X : s.Idx → Elt F e) :
    View.readAt (Elt F) M.view (Rect.unit (s := s) off s.size h).toLoadRect (M.view.rep X) = X := by
  rw [View.readAt_rep]
  funext y
  refine congrArg X (funext fun a => Fin.ext ?_)
  show off a + 1 * (y a).val = (y a).val
  rw [h0 a]; omega

/-- A load of one of the eight blocks reads that block. -/
theorem readAt_block (M : Memref sig .tc .vmem S8x1x4096 .i32) (j : Fin 8) (h : ∀ a, (![j.val, 0, 0] : Fin 3 → Nat) a + S1x1x4096.size a ≤ S8x1x4096.size a)
    (X : IVec S8x1x4096 32) :
    View.readAt (Elt F) M.view (Rect.unit (s := S8x1x4096) ![j.val, 0, 0] S1x1x4096.size h).toLoadRect (M.view.rep (e := .i32) X) = segBlock X j := by
  rw [View.readAt_rep]
  funext y
  refine congrArg X (funext fun (a : Fin 3) => Fin.ext ?_)
  have h0 : (y 0).val < 1 := (y 0).isLt
  have h1 : (y 1).val < 1 := (y 1).isLt
  fin_cases a
  · show j.val + 1 * (y 0).val = j.val; omega
  · show 0 + 1 * (y 1).val = 0; omega
  · show 0 + 1 * (y 2).val = (y 2).val; omega

/-- The row bounds the first body computes from the segment numbers. -/
def boundsOf (F : FTy → Type) [FloatOps F] (X : IVec S8x1x4096 32) : IVec S32x16 32 :=
  k0_pay1 (F := F)
    (k0_pay3 (k0_pay2 (segBlock X 0) (segBlock X 1) (segBlock X 2) (segBlock X 3)) (segBlock X 4) (segBlock X 5) (segBlock X 6) (segBlock X 7))
    k0_pay4

/-- Staging buffer `M` held whole at block `X`. -/
abbrev at' (c : Dev nD) {sp : Space} {S : Shape} {e : EltTy} (M : Memref sig .tc sp S e) (X : S.Idx → Elt F e) : sProp 𝕄 :=
  M.view.loc (c : Thread nD τ) ↦[M.view.set]{fullShare} M.view.rep X

set_option maxRecDepth 65536 in
/-- The bounds are computed from the eight blocks of ids. -/
theorem bounds_congr {X : IVec S8x1x4096 32} {a0 a1 a2 a3 a4 a5 a6 a7 : IVec S1x1x4096 32} (h0 : a0 = segBlock X 0) (h1 : a1 = segBlock X 1)
    (h2 : a2 = segBlock X 2) (h3 : a3 = segBlock X 3) (h4 : a4 = segBlock X 4) (h5 : a5 = segBlock X 5) (h6 : a6 = segBlock X 6)
    (h7 : a7 = segBlock X 7) : k0_pay1 (F := F) (k0_pay3 (k0_pay2 a0 a1 a2 a3) a4 a5 a6 a7) k0_pay4 = boundsOf F X := by
  subst h0 h1 h2 h3 h4 h5 h6 h7; rfl

/-- The first body leaves the row bounds in its second buffer. -/
theorem offs_body (c : Dev nD) (i : grid0.Coords) (M1 : Memref sig .tc .vmem S8x1x4096 .i32) (h1 : M1.IsWhole)
    (M2 : Memref sig .tc .vmem S32x16 .i32) (h2 : M2.IsWhole) (X : IVec S8x1x4096 32) (Y : IVec S32x16 32) (Q : PUnit → sProp 𝕄) :
    iprop(at' c M1 X ∗ at' c M2 Y
        ∗ (iprop(at' c M1 X ∗ at' c M2 (boundsOf F X)) -∗ Q ⟨⟩))
      ⊢ wp frame (wpE (defs₀ (F := F)) Variants.none c none) Set.univ (cc0__tc_offs_body i M1 h1 M2 h2) Q := by
  rw [cc0__tc_offs_body_eq_skeleton]
  iintro ⟨H1, H2, Hk⟩
  unfold cc0__tc_offs_body_skel
  rw [k0_part1_eq_skeleton, k0_part2_eq_skeleton]
  unfold k0_part1_skel k0_part2_skel
  sl_exec!
  sl_step
  iapply Hk
  isplitl [H1]; · iexact H1
  refine Entails.of_eq (congrArg (fun f => (M2.view.loc (c : Thread nD τ) ↦[M2.view.set]{fullShare} f : sProp 𝕄)) ?_)
  unfold offs_body.sl.H2_1
  exact (writes_unit M2 (by decide) _ _).trans (congrArg M2.view.rep (bounds_congr (readAt_block M1 0 _ X) (readAt_block M1 1 _ X)
    (readAt_block M1 2 _ X) (readAt_block M1 3 _ X) (readAt_block M1 4 _ X) (readAt_block M1 5 _ X) (readAt_block M1 6 _ X)
    (readAt_block M1 7 _ X)))

/-- One block of scores: from a block of gathered rows and of their segment numbers, the pooled rows, the weights. -/
def scoreBlock (F : FTy → Type) [FloatOps F] (X1 : FVec F S4096x128 .f32) (X2 : IVec S1x1x4096 32) (X3 : FVec F S16x128 .f32) (X4 : FVec F S128x128 .f32) (X5 : FVec F S1x128 .f32)
    (X6 X7 : FVec F S128x128 .f32) (X8 : FVec F S1x128 .f32) (X9 : FVec F S128x1 .f32) (X10 : FVec F S1x1 .f32) : FVec F S1x4096 .f32 :=
  k2_pay1 (k2_pay2 X3 X4 X5 X7 X8 X2 X1 X6) X9 X10

/-- The block of scores depends on the ten blocks read only. -/
theorem score_congr {X1 : FVec F S4096x128 .f32} {X2 : IVec S1x1x4096 32} {X3 : FVec F S16x128 .f32} {X4 : FVec F S128x128 .f32} {X5 : FVec F S1x128 .f32}
    {X6 X7 : FVec F S128x128 .f32} {X8 : FVec F S1x128 .f32} {X9 : FVec F S128x1 .f32} {X10 : FVec F S1x1 .f32}
    {Y1 : FVec F S4096x128 .f32} {Y2 : IVec S1x1x4096 32} {Y3 : FVec F S16x128 .f32} {Y4 : FVec F S128x128 .f32} {Y5 : FVec F S1x128 .f32}
    {Y6 Y7 : FVec F S128x128 .f32} {Y8 : FVec F S1x128 .f32} {Y9 : FVec F S128x1 .f32} {Y10 : FVec F S1x1 .f32}
    (h1 : Y1 = X1) (h2 : Y2 = X2) (h3 : Y3 = X3) (h4 : Y4 = X4) (h5 : Y5 = X5) (h6 : Y6 = X6) (h7 : Y7 = X7) (h8 : Y8 = X8) (h9 : Y9 = X9)
    (h10 : Y10 = X10) : k2_pay1 (k2_pay2 Y3 Y4 Y5 Y7 Y8 Y2 Y1 Y6) Y9 Y10 = scoreBlock F X1 X2 X3 X4 X5 X6 X7 X8 X9 X10 := by
  subst h1 h2 h3 h4 h5 h6 h7 h8 h9 h10; rfl

/-- The first score body leaves the block of scores in its last buffer and the blocks it reads as they were. -/
theorem mlp_body2 (c : Dev nD) (i : grid2.Coords) (M1 : Memref sig .tc .vmem S4096x128 .f32) (h1 : M1.IsWhole) (M2 : Memref sig .tc .vmem S1x1x4096 .i32) (h2 : M2.IsWhole)
    (M3 : Memref sig .tc .vmem S16x128 .f32) (h3 : M3.IsWhole) (M4 : Memref sig .tc .vmem S128x128 .f32) (h4 : M4.IsWhole)
    (M5 : Memref sig .tc .vmem S1x128 .f32) (h5 : M5.IsWhole) (M6 : Memref sig .tc .vmem S128x128 .f32) (h6 : M6.IsWhole)
    (M7 : Memref sig .tc .vmem S128x128 .f32) (h7 : M7.IsWhole) (M8 : Memref sig .tc .vmem S1x128 .f32) (h8 : M8.IsWhole)
    (M9 : Memref sig .tc .vmem S128x1 .f32) (h9 : M9.IsWhole) (M10 : Memref sig .tc .vmem S1x1 .f32) (h10 : M10.IsWhole)
    (M11 : Memref sig .tc .vmem S1x4096 .f32) (h11 : M11.IsWhole)
    (X1 : FVec F S4096x128 .f32) (X2 : IVec S1x1x4096 32) (X3 : FVec F S16x128 .f32) (X4 : FVec F S128x128 .f32) (X5 : FVec F S1x128 .f32)
    (X6 X7 : FVec F S128x128 .f32) (X8 : FVec F S1x128 .f32) (X9 : FVec F S128x1 .f32) (X10 : FVec F S1x1 .f32) (Y : FVec F S1x4096 .f32)
    (Q : PUnit → sProp 𝕄) :
    (at' c M1 X1 ∗ at' c M2 (e := .i32) X2 ∗ at' c M3 X3 ∗ at' c M4 X4 ∗ at' c M5 X5 ∗ at' c M6 X6 ∗ at' c M7 X7 ∗ at' c M8 X8 ∗ at' c M9 X9 ∗ at' c M10 X10 ∗ at' c M11 Y
        ∗ ((at' c M1 X1 ∗ at' c M2 (e := .i32) X2 ∗ at' c M3 X3 ∗ at' c M4 X4 ∗ at' c M5 X5 ∗ at' c M6 X6 ∗ at' c M7 X7 ∗ at' c M8 X8 ∗ at' c M9 X9 ∗ at' c M10 X10
            ∗ at' c M11 (scoreBlock F X1 X2 X3 X4 X5 X6 X7 X8 X9 X10)) -∗ Q ⟨⟩) : sProp 𝕄)
      ⊢ wp frame (wpE (defs₀ (F := F)) Variants.none c none) Set.univ
          (cc2__tc_mlp_body (F := F) i M1 h1 M2 h2 M3 h3 M4 h4 M5 h5 M6 h6 M7 h7 M8 h8 M9 h9 M10 h10 M11 h11) Q := by
  rw [cc2__tc_mlp_body_eq_skeleton]
  iintro ⟨H1, H2, H3, H4, H5, H6, H7, H8, H9, H10, H11, Hk⟩
  unfold cc2__tc_mlp_body_skel
  rw [k2_part1_eq_skeleton]
  unfold k2_part1_skel
  sl_exec!
  sl_step
  iapply Hk
  iframe
  refine Entails.of_eq (congrArg (fun f => (M11.view.loc (c : Thread nD τ) ↦[M11.view.set]{fullShare} f : sProp 𝕄)) ?_)
  unfold mlp_body2.sl.H11_1
  exact (writes_unit M11 (by decide) _ _).trans (congrArg M11.view.rep (score_congr (readAt_whole M1 (by decide) _ X1)
    (readAt_whole M2 (by decide) _ X2) (readAt_whole M3 (by decide) _ X3) (readAt_whole M4 (by decide) _ X4) (readAt_whole M5 (by decide) _ X5)
    (readAt_whole M6 (by decide) _ X6) (readAt_whole M7 (by decide) _ X7) (readAt_whole M8 (by decide) _ X8) (readAt_whole M9 (by decide) _ X9)
    (readAt_whole M10 (by decide) _ X10)))

/-- The second score body leaves the block of scores in its last buffer and the blocks it reads as they were. -/
theorem mlp_body4 (c : Dev nD) (i : grid4.Coords) (M1 : Memref sig .tc .vmem S4096x128 .f32) (h1 : M1.IsWhole) (M2 : Memref sig .tc .vmem S1x1x4096 .i32) (h2 : M2.IsWhole)
    (M3 : Memref sig .tc .vmem S16x128 .f32) (h3 : M3.IsWhole) (M4 : Memref sig .tc .vmem S128x128 .f32) (h4 : M4.IsWhole)
    (M5 : Memref sig .tc .vmem S1x128 .f32) (h5 : M5.IsWhole) (M6 : Memref sig .tc .vmem S128x128 .f32) (h6 : M6.IsWhole)
    (M7 : Memref sig .tc .vmem S128x128 .f32) (h7 : M7.IsWhole) (M8 : Memref sig .tc .vmem S1x128 .f32) (h8 : M8.IsWhole)
    (M9 : Memref sig .tc .vmem S128x1 .f32) (h9 : M9.IsWhole) (M10 : Memref sig .tc .vmem S1x1 .f32) (h10 : M10.IsWhole)
    (M11 : Memref sig .tc .vmem S1x4096 .f32) (h11 : M11.IsWhole)
    (X1 : FVec F S4096x128 .f32) (X2 : IVec S1x1x4096 32) (X3 : FVec F S16x128 .f32) (X4 : FVec F S128x128 .f32) (X5 : FVec F S1x128 .f32)
    (X6 X7 : FVec F S128x128 .f32) (X8 : FVec F S1x128 .f32) (X9 : FVec F S128x1 .f32) (X10 : FVec F S1x1 .f32) (Y : FVec F S1x4096 .f32)
    (Q : PUnit → sProp 𝕄) :
    (at' c M1 X1 ∗ at' c M2 (e := .i32) X2 ∗ at' c M3 X3 ∗ at' c M4 X4 ∗ at' c M5 X5 ∗ at' c M6 X6 ∗ at' c M7 X7 ∗ at' c M8 X8 ∗ at' c M9 X9 ∗ at' c M10 X10 ∗ at' c M11 Y
        ∗ ((at' c M1 X1 ∗ at' c M2 (e := .i32) X2 ∗ at' c M3 X3 ∗ at' c M4 X4 ∗ at' c M5 X5 ∗ at' c M6 X6 ∗ at' c M7 X7 ∗ at' c M8 X8 ∗ at' c M9 X9 ∗ at' c M10 X10
            ∗ at' c M11 (scoreBlock F X1 X2 X3 X4 X5 X6 X7 X8 X9 X10)) -∗ Q ⟨⟩) : sProp 𝕄)
      ⊢ wp frame (wpE (defs₀ (F := F)) Variants.none c none) Set.univ
          (cc4__tc_mlp_body (F := F) i M1 h1 M2 h2 M3 h3 M4 h4 M5 h5 M6 h6 M7 h7 M8 h8 M9 h9 M10 h10 M11 h11) Q := by
  rw [cc4__tc_mlp_body_eq_skeleton]
  iintro ⟨H1, H2, H3, H4, H5, H6, H7, H8, H9, H10, H11, Hk⟩
  unfold cc4__tc_mlp_body_skel
  rw [k4_part1_eq_skeleton]
  unfold k4_part1_skel
  sl_exec!
  sl_step
  iapply Hk
  iframe
  refine Entails.of_eq (congrArg (fun f => (M11.view.loc (c : Thread nD τ) ↦[M11.view.set]{fullShare} f : sProp 𝕄)) ?_)
  unfold mlp_body4.sl.H11_1
  exact (writes_unit M11 (by decide) _ _).trans (congrArg M11.view.rep (score_congr (readAt_whole M1 (by decide) _ X1)
    (readAt_whole M2 (by decide) _ X2) (readAt_whole M3 (by decide) _ X3) (readAt_whole M4 (by decide) _ X4) (readAt_whole M5 (by decide) _ X5)
    (readAt_whole M6 (by decide) _ X6) (readAt_whole M7 (by decide) _ X7) (readAt_whole M8 (by decide) _ X8) (readAt_whole M9 (by decide) _ X9)
    (readAt_whole M10 (by decide) _ X10)))

end Cert.Proof.Tc

end
-- ==== Proof.Region.lean ====
/- One TensorCore call inside @main, in general: entered from the arrays at a valuation, left with the arrays at the
   valuation its write-backs make of it, whatever of the SparseCore calls is still ahead. -/
module

public import proofs.«01_k».proof.Proof.Setup
public import proofs.«01_k».proof.Proof.Gen.KernelIdeal.Launch
public import Idealize.ShloMosaic.Lib.Pipeline.Frame
public import Idealize.ShloMosaic.Lib.Pipeline.RegionsLoop

@[expose] public section

noncomputable section

namespace Cert.Proof.Tc

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type} [FloatOps F] [∀ e, Nonempty (Elt F e)]

local notation "𝕄" => MT nD τ sig (HIx 3) (Elt F) ℕ UU ℕ

/-- No pipeline has a prefetched table. -/
abbrev adm0 : (p : Fin 3) → (pcfgs (F := F) p).Adm := fun p => (cfgs p).toPCfg_adm

/-- The proof data of a pipeline. -/
abbrev DatP (p : Fin 3) (c : Dev nD) : Type := Dat τ (Elt F) (HIx 3) ℕ UU ℕ (Pipeline.pin (pcfgs (F := F)) adm0 p) c

omit [FloatOps F] [∀ e, Nonempty (Elt F e)] in
/-- The TensorCore owes the handshakes only, nothing to a transfer. -/
theorem Otc_none (d : Dev nD) (n : ℕ) (g : GSem nD τ sig) : (K (F := F)).Otc (N := 3) d n g none = 0 := by
  unfold SparseCore.Cfg.Otc
  rw [Finset.sum_apply, Finsupp.finset_sum_apply]
  refine Finset.sum_eq_zero fun q _ => ?_
  split
  · rw [Finset.sum_apply, Finsupp.finset_sum_apply]
    refine Finset.sum_eq_zero fun c _ => ?_
    unfold tallyAt tallyOn
    by_cases h : (K (F := F)).startCell d ((K (F := F)).core q c) = g
    · subst h; simp
    · simp [Pi.single_apply, Ne.symm h]
  · rfl

variable (V V' : Dev nD → Valuation τ sig (Elt F)) (n b : ℕ)
variable (pdats : (p : Fin 3) → (c : Dev nD) → DatP (F := F) p c)

set_option backward.isDefEq.respectTransparency.types false in
/-- The call of pipeline `p`: it owes what the TensorCore owes before call `n`, and its waits are below all of it. -/
def region (p : Fin 3) (kit : Pipeline.LaunchFacts (nD := nD) (τ := τ) cfgs p)
    (hA : ∀ c w, (pdats p c).A w = V c (Proc.devRef .tc (Pipeline.arrRef (cfgs p).spec w)))
    (hq : ∀ c w, (pdats p c).q w = fullShare)
    (hΦ : ∀ c t, (pdats p c).Φ t = Pipeline.scopedRest (cfgs p).spec c)
    (howed : ∀ c t, (pdats p c).owed t = (K (F := F)).Otc c n)
    (hrec : ∀ c t, (pdats p c).recorded t = {q | (K (F := F)).lev (T c, q.1) q.2 ≤ b})
    (hbody : ∀ c, Pipeline.BodyObligation (pdats p c) (defs₀ (F := F)) 𝒱₀ none Set.univ)
    (hV' : ∀ c w, (pdats p c).arrAt w (cfgs p).N = V' c (Proc.devRef .tc (Pipeline.arrRef (cfgs p).spec w)))
    (hne : ∀ c (r : Ref sig .tc), r ∉ Finset.univ.image (Pipeline.arrRef (cfgs p).spec) → V' c (Proc.devRef .tc r) = V c (Proc.devRef .tc r)) :
    Pipeline.RegionSeg (pcfgs (F := F)) adm0 pdats (none : HIx 3) defs₀ 𝒱₀ (K (F := F)).L (K (F := F)).lev p where
  win := kit.win.to₀
  block_pos := kit.block_pos
  stage_whole := kit.stage_whole
  K := PEmpty
  osem k := k.elim
  ho := Pipeline.OwnSemFacts.none _
  hbody c := (hbody c).loose
  hwaits c := Pipeline.cellsWaits_intro _ pdats none p c fun w s t => by
    rw [howed c t]
    exact (K (F := F)).mayWait_none _ (Otc_none c n)
  pre c := iprop(unscopedBufs c (fun r => V c (Proc.devRef .tc r)) ∗ ∃ W, ⌜(K (F := F)).WBelow (T c) W b⌝ ∗ owes (T c) ((K (F := F)).Otc c n) W)
  post c := iprop(unscopedBufs c (fun r => V' c (Proc.devRef .tc r)) ∗ ∃ W, ⌜(K (F := F)).WBelow (T c) W b⌝ ∗ owes (T c) ((K (F := F)).Otc c n) W)
  X _ := BI.emp
  Y _ := BI.emp
  Z c := Pipeline.unscopedRest (Ix := HIx 3) (Name := ℕ) (U := UU) (Lvl := ℕ) (cfgs p).spec c (fun r => V c (Proc.devRef .tc r))
  hentry c := by
    rw [Pipeline.ownSems0_none]
    have hsplit := Pipeline.arrays_of_unscopedBufs (p := p) (pcfgs (F := F)) adm0 pdats kit.win kit.arr_whole c
      ((pdats p c).share_full fun w => hq c w) (fun r => V c (Proc.devRef .tc r)) fun w => hA c w
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin Pipeline.Dat.bound
      icases HO with ⟨%W, %hW, HO⟩; iexists W; isplitr
      · ipureintro; intro q hq; rw [hrec]; exact Or.inl (hW q hq)
      rw [howed]
      iexact HO
    isplitr; · iempintro
    iexact Hrest
  hin c := by
    rw [hΦ]
    iintro ⟨-, -, Hr⟩; iexact Hr
  hout c := by
    rw [Pipeline.ownSems0_none, hΦ]
    iintro Hr
    isplitr; · iempintro
    isplitr; · iempintro
    iexact Hr
  hexit c := by
    have hjoin := Pipeline.unscopedBufs_of_arrays (p := p) (pcfgs (F := F)) adm0 (Ix := HIx 3) (Name := ℕ) (U := UU) (Lvl := ℕ) kit.win kit.arr_whole c
      pdats ((pdats p c).share_full fun w => hq c w) (fun r => V c (Proc.devRef .tc r)) (fun r => V' c (Proc.devRef .tc r)) ((pdats p c).arrAt · (cfgs p).N)
      (fun w => hV' c w) (fun r hr => hne c r hr)
    iintro ⟨Ha, HO, -, Hrest⟩
    imodintro
    isplitl [Ha Hrest]
    · iapply hjoin; isplitl [Ha] <;> iassumption
    unfold Pipeline.Dat.owesAt Pipeline.owesWithin Pipeline.Dat.bound
    icases HO with ⟨%W, %hW, HO⟩; iexists W; isplitr
    · ipureintro; intro q hq
      rcases hW hq with h | ⟨w, s, h⟩
      · rw [hrec] at h; exact h
      · rw [h]; exact Nat.zero_le _
    rw [howed]
    iexact HO

set_option backward.isDefEq.respectTransparency.types false in
/-- The call as @main makes it, between two SparseCore calls: it keeps the TensorCore's place among the handshakes. -/
theorem wp_region (p : Fin 3) (n : ℕ) (pd : ℕ → (p : Fin 3) → (c : Dev nD) → DatP (F := F) p c)
    (R : ∀ b, Pipeline.RegionSeg (pcfgs (F := F)) adm0 (pd b) (none : HIx 3) defs₀ 𝒱₀ (K (F := F)).L (K (F := F)).lev p)
    (hpre : ∀ b c, (R b).pre c = iprop(unscopedBufs c (fun r => V c (Proc.devRef .tc r)) ∗ ∃ W, ⌜(K (F := F)).WBelow (T c) W b⌝ ∗ owes (T c) ((K (F := F)).Otc c n) W))
    (hpost : ∀ b c, (R b).post c = iprop(unscopedBufs c (fun r => V' c (Proc.devRef .tc r)) ∗ ∃ W, ⌜(K (F := F)).WBelow (T c) W b⌝ ∗ owes (T c) ((K (F := F)).Otc c n) W))
    (d : Dev nD) (Φ : PUnit → sProp 𝕄) :
    iprop(levAts (K (F := F)).L (K (F := F)).lev ∗ (K (F := F)).tcSt EH d n ∗ boundary (T d) ∗ held (T d) (Pipeline.ucRefs τ sig) (V d)
        ∗ (Pipeline.cellsGhost (Pipeline.pin (pcfgs (F := F)) adm0) EP p d ∗ Pipeline.toksInit (Pipeline.pin (pcfgs (F := F)) adm0) EP p d)
        ∗ (iprop((K (F := F)).tcSt EH d n ∗ boundary (T d) ∗ held (T d) (Pipeline.ucRefs τ sig) (V' d)) -∗ Φ ⟨⟩))
      ⊢ wp frame (wpE ((K (F := F)).defs (D (F := F))) 𝒱 (T d) none) Set.univ (Prog.lift (.customCall (SparseCore.inner (Pipeline.entry p)) ())) Φ := by
  change _ ⊢ wp frame (wpE ((K (F := F)).defs (D (F := F))) 𝒱 (T d) none) Set.univ
    (SparseCore.liftProg (.op (.customCall (Pipeline.entry p) ()) fun u => .ret u)) Φ
  unfold SparseCore.Cfg.tcSt
  iintro ⟨#Hlev, ⟨⟨%W, %hW, HO⟩, Hst⟩, Hb, Hh, ⟨Hg, Ht⟩, Hk⟩
  iapply ((K (F := F)).wp_liftProg (D (F := F)) 𝒱 (T d) Set.univ none (.op (.customCall (Pipeline.entry p) ()) fun u => .ret u) Φ)
  iapply (Pipeline.RegionSeg.wp (pcfgs (F := F)) adm0 (pd _) none cellOf_inj EP defs₀ 𝒱₀ (K (F := F)).L (K (F := F)).lev (R _) d none (fun _ h => nomatch h) (fun u => .ret u) Φ)
  isplitl [Hst Hk]
  · rw [hpost]
    iintro ⟨Hb, Hh, HO⟩
    rw [show (Prog.ret PUnit.unit : Prog (TpuEff nD τ sig (Elt F) _ .tc) PUnit) = pure PUnit.unit from rfl, wp_pure]
    imodintro
    iapply Hk
    isplitl [HO Hst]
    · isplitl [HO]; · iexact HO
      iexact Hst
    isplitl [Hb]; · iexact Hb
    iapply (Entails.of_eq (Pipeline.unscopedBufs_held d (V' d))); iexact Hh
  isplitl [Hb]; · iexact Hb
  isplitl [Hh HO]
  · rw [hpre]
    isplitl [Hh]
    · iapply (Entails.of_eq (Pipeline.unscopedBufs_held d (V d)).symm); iexact Hh
    iexists W; isplitr; · ipureintro; exact hW
    iexact HO
  isplitr; · iexact Hlev
  isplitl [Hg]; · iexact Hg
  iexact Ht

end Cert.Proof.Tc

end
-- ==== Proof.Calls.lean ====
/- The three TensorCore calls of @main: the row bounds, and the scores of each half of the nodes. -/
module

public import proofs.«01_k».proof.Proof.Bodies
public import proofs.«01_k».proof.Proof.Region
public import Idealize.ShloMosaic.Lib.Pipeline.FrameBody
public import Idealize.ShloMosaic.Lib.Pipeline.ValueKit
public import Idealize.ShloMosaic.Lib.Routing.OpsPair

@[expose] public section

noncomputable section

namespace Cert.Proof.Tc

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)

variable {F : FTy → Type} [FloatOps F] [∀ e, Nonempty (Elt F e)]

local notation "𝕄" => MT nD τ sig (HIx 3) (Elt F) ℕ UU ℕ

/-- A proof data for a pipeline a call does not run: anything. -/
def junkDat {cfg : Pipeline.Cfg sig Λ₀} (c : Dev nD) : Dat τ (Elt F) (HIx 3) ℕ UU ℕ cfg c where
  A _ := fun _ => Classical.arbitrary _
  after _ _ := fun _ => Classical.arbitrary _
  Φ _ := BI.emp
  q _ := fullShare
  owed _ := 0

variable (V : Dev nD → Valuation τ sig (Elt F)) (n b : ℕ)

/-! ## The row bounds -/

/-- The ids as the call reads them. -/
abbrev ids0 (c : Dev nD) (t : Fin cfg0.N) : IVec S8x1x4096 32 := ((cfg0.win 0).blk t).view.read (Elt F) (V c (Proc.devRef .tc main_v6))

/-- The call's data: the bounds of the ids it reads. -/
def dat0 (c : Dev nD) : Dat τ (Elt F) (HIx 3) ℕ UU ℕ cfg0 c where
  A w := V c (Proc.devRef .tc (Pipeline.arrRef spec0 w))
  after w t := match w with
    | ⟨0, _⟩ => ids0 V c t
    | ⟨1, _⟩ => boundsOf F (ids0 V c t)
  Φ _ := Pipeline.scopedRest spec0 c
  q _ := fullShare
  owed _ := (K (F := F)).Otc c n
  recorded _ := {q | (K (F := F)).lev (T c, q.1) q.2 ≤ b}

def pd0 : (p : Fin 3) → (c : Dev nD) → DatP (F := F) p c
  | ⟨0, _⟩ => fun c => dat0 V n b c
  | ⟨1, _⟩ => fun c => junkDat c
  | ⟨2, _⟩ => fun c => junkDat c

theorem before0_0 (c : Dev nD) (t : Fin cfg0.N) (d) : (dat0 V n b c).before 0 t d = ids0 V c t := by
  unfold Dat.before; rw [if_pos (fetch0_0 t)]; rfl

/-- The body leaves the bounds. -/
theorem body0 (c : Dev nD) : Pipeline.BodyObligation (dat0 V n b c) (defs₀ (F := F)) 𝒱₀ none Set.univ := fun t => by
  rw [bigSep_W0, bigSep_W0]
  change _ ⊢ wp frame (wpE (defs₀ (F := F)) 𝒱₀ c none) Set.univ (bodyAt0 t) _
  simp only [before0_0]
  rw [show (dat0 V n b c).Φ t.castSucc = Pipeline.scopedRest spec0 c from rfl, show (dat0 V n b c).Φ t.succ = Pipeline.scopedRest spec0 c from rfl,
    show (dat0 V n b c).owesAt none t.succ = (dat0 V n b c).owesAt none t.castSucc from rfl]
  iintro ⟨HΦ, Howes, ⟨%d0, H0⟩, ⟨%d1, H1⟩⟩
  ihave H0 := (rep_of_owns (c : Thread nD τ) _ _ _) $$ H0
  ihave H1 := (rep_of_owns (c : Thread nD τ) _ _ _) $$ H1
  iapply (offs_body c (grid0.coords t) (win0_0.stage (cfg0.slots t 0)) (hstage0_0 ((cfg0.slots t 0).cast nbuf0_0)) (win0_1.stage (cfg0.slots t 1)) (hstage0_1 ((cfg0.slots t 1).cast nbuf0_1))
    (ids0 V c t) _ _)
  isplitl [H0]; · iexact H0
  isplitl [H1]; · iexact H1
  iintro ⟨H0, H1⟩
  isplitl [HΦ]; · iexact HΦ
  isplitl [Howes]; · iexact Howes
  isplitl [H0]
  · iapply (owns_of_rep (c : Thread nD τ) _ _ _); iexact H0
  · iapply (owns_of_rep (c : Thread nD τ) _ _ _); iexact H1

theorem idx0_0 : ∀ t : Fin cfg0.N, win0_0.index t = ![0, 0, 0] := (by decide +kernel : ∀ t : Fin grid0.N, _)
theorem idx0_1 : ∀ t : Fin cfg0.N, win0_1.index t = ![0, 0] := (by decide +kernel : ∀ t : Fin grid0.N, _)
theorem ids0_eq (c : Dev nD) (t : Fin cfg0.N) : ids0 V c t = V c (Proc.devRef .tc main_v6) := by
  funext y
  unfold ids0
  blk_ext [idx0_0 t]

/-- The array of bounds after the call. -/
theorem arr0 (c : Dev nD) : (dat0 V n b c).arrAt 1 cfg0.N = boundsOf F (V c (Proc.devRef .tc main_v6)) := by
  refine (dat0 V n b c).arrAt_eq_of_covers 1 _ (by decide +kernel) fun t hf y => ?_
  have h : (dat0 V n b c).after 1 t = boundsOf F (V c (Proc.devRef .tc main_v6)) := congrArg (boundsOf F) (ids0_eq V c t)
  rw [h]
  blk_ext [idx0_1 t]

/-! ## Blocks of the two halves' arrays -/

/-- Rows `4096 t …` of a half's gathered rows. -/
def rowsBlock (X : FVec F S16384x128 .f32) (t : Fin 4) : FVec F S4096x128 .f32 :=
  fun y => X (ValueIdx.ix2 ⟨4096 * t.val + (y 0).val, by have : (y 0).val < 4096 := (y 0).isLt; have := t.isLt; show _ < 16384; omega⟩ (y 1))
/-- Block `t` of a half's segment numbers. -/
def idsBlock (X : IVec S4x1x4096 32) (t : Fin 4) : IVec S1x1x4096 32 := fun y => X (ValueIdx.ix3 t (0 : Fin 1) (y 2))
/-- The scores of a half, block by block. -/
def scoreArr (F : FTy → Type) [FloatOps F] (X0 : FVec F S16384x128 .f32) (X1 : IVec S4x1x4096 32) (X2 : FVec F S16x128 .f32) (X3 : FVec F S128x128 .f32)
    (X4 : FVec F S1x128 .f32) (X5 X6 : FVec F S128x128 .f32) (X7 : FVec F S1x128 .f32) (X8 : FVec F S128x1 .f32) (X9 : FVec F S1x1 .f32) :
    FVec F S1x16384 .f32 := fun k =>
  scoreBlock F (rowsBlock X0 ⟨(k 1).val / 4096, by have : (k 1).val < 16384 := (k 1).isLt; omega⟩)
    (idsBlock X1 ⟨(k 1).val / 4096, by have : (k 1).val < 16384 := (k 1).isLt; omega⟩) X2 X3 X4 X5 X6 X7 X8 X9
    (ValueIdx.ix2 (0 : Fin 1) ⟨(k 1).val % 4096, Nat.mod_lt _ (by decide)⟩)

/-- A half's scores in block `t` are the block's. -/
theorem scoreArr_at (X0 : FVec F S16384x128 .f32) (X1 : IVec S4x1x4096 32) (X2 : FVec F S16x128 .f32) (X3 : FVec F S128x128 .f32)
    (X4 : FVec F S1x128 .f32) (X5 X6 : FVec F S128x128 .f32) (X7 : FVec F S1x128 .f32) (X8 : FVec F S128x1 .f32) (X9 : FVec F S1x1 .f32)
    (t : Fin 4) (y : S1x4096.Idx) (k : S1x16384.Idx) (h : (k 1).val = t.val * 4096 + (y 1).val) :
    scoreBlock F (rowsBlock X0 t) (idsBlock X1 t) X2 X3 X4 X5 X6 X7 X8 X9 y = scoreArr F X0 X1 X2 X3 X4 X5 X6 X7 X8 X9 k := by
  have hy : (y 1).val < 4096 := (y 1).isLt
  have hk : (k 1).val < 16384 := (k 1).isLt
  have ht : (⟨(k 1).val / 4096, by omega⟩ : Fin 4) = t := Fin.ext (by show (k 1).val / 4096 = t.val; omega)
  have hyk : ValueIdx.ix2 (0 : Fin 1) (⟨(k 1).val % 4096, Nat.mod_lt _ (by decide)⟩ : Fin 4096) = y := by
    funext a; apply Fin.ext
    match a with
    | ⟨0, _⟩ => have : (y 0).val < 1 := (y 0).isLt
                show 0 = (y 0).val; omega
    | ⟨1, _⟩ => show (k 1).val % 4096 = (y 1).val; omega
  unfold scoreArr
  rw [ht, hyk]

/-! ## The scores of the first half -/

namespace First

abbrev in0 (c : Dev nD) (t : Fin cfg2.N) : FVec F S4096x128 .f32 := ((cfg2.win 0).blk t).view.read (Elt F) (V c (Proc.devRef .tc main_v9))
abbrev in1 (c : Dev nD) (t : Fin cfg2.N) : IVec S1x1x4096 32 := ((cfg2.win 1).blk t).view.read (Elt F) (V c (Proc.devRef .tc main_v10))
abbrev in2 (c : Dev nD) (t : Fin cfg2.N) : FVec F S16x128 .f32 := ((cfg2.win 2).blk t).view.read (Elt F) (V c (Proc.devRef .tc main_v0))
abbrev in3 (c : Dev nD) (t : Fin cfg2.N) : FVec F S128x128 .f32 := ((cfg2.win 3).blk t).view.read (Elt F) (V c (Proc.devRef .tc main_arg5))
abbrev in4 (c : Dev nD) (t : Fin cfg2.N) : FVec F S1x128 .f32 := ((cfg2.win 4).blk t).view.read (Elt F) (V c (Proc.devRef .tc main_v3))
abbrev in5 (c : Dev nD) (t : Fin cfg2.N) : FVec F S128x128 .f32 := ((cfg2.win 5).blk t).view.read (Elt F) (V c (Proc.devRef .tc main_v1))
abbrev in6 (c : Dev nD) (t : Fin cfg2.N) : FVec F S128x128 .f32 := ((cfg2.win 6).blk t).view.read (Elt F) (V c (Proc.devRef .tc main_v2))
abbrev in7 (c : Dev nD) (t : Fin cfg2.N) : FVec F S1x128 .f32 := ((cfg2.win 7).blk t).view.read (Elt F) (V c (Proc.devRef .tc main_v4))
abbrev in8 (c : Dev nD) (t : Fin cfg2.N) : FVec F S128x1 .f32 := ((cfg2.win 8).blk t).view.read (Elt F) (V c (Proc.devRef .tc main_arg9))
abbrev in9 (c : Dev nD) (t : Fin cfg2.N) : FVec F S1x1 .f32 := ((cfg2.win 9).blk t).view.read (Elt F) (V c (Proc.devRef .tc main_v5))
/-- The block of scores at a point. -/
abbrev out (c : Dev nD) (t : Fin cfg2.N) : FVec F S1x4096 .f32 :=
  scoreBlock F (in0 V c t) (in1 V c t) (in2 V c t) (in3 V c t) (in4 V c t) (in5 V c t) (in6 V c t) (in7 V c t) (in8 V c t) (in9 V c t)

/-- The call's data: at every point the inputs' blocks, and the scores of them. -/
def dat (c : Dev nD) : Dat τ (Elt F) (HIx 3) ℕ UU ℕ cfg2 c where
  A w := V c (Proc.devRef .tc (Pipeline.arrRef spec2 w))
  after w t := match w with
    | ⟨0, _⟩ => in0 V c t | ⟨1, _⟩ => in1 V c t | ⟨2, _⟩ => in2 V c t | ⟨3, _⟩ => in3 V c t | ⟨4, _⟩ => in4 V c t | ⟨5, _⟩ => in5 V c t
    | ⟨6, _⟩ => in6 V c t | ⟨7, _⟩ => in7 V c t | ⟨8, _⟩ => in8 V c t | ⟨9, _⟩ => in9 V c t | ⟨10, _⟩ => out V c t
  Φ _ := Pipeline.scopedRest spec2 c
  q _ := fullShare
  owed _ := (K (F := F)).Otc c n
  recorded _ := {q | (K (F := F)).lev (T c, q.1) q.2 ≤ b}

def pd : (p : Fin 3) → (c : Dev nD) → DatP (F := F) p c
  | ⟨0, _⟩ => fun c => junkDat c
  | ⟨1, _⟩ => fun c => dat V n b c
  | ⟨2, _⟩ => fun c => junkDat c

theorem before_0 (c : Dev nD) (t : Fin cfg2.N) (d) : (dat V n b c).before 0 t d = in0 V c t :=
  ((dat V n b c).before_in_eq_fetched 0 rfl (fun _ => rfl) (fun _ _ _ => rfl) (fun _ => rfl) t d).trans rfl
theorem before_1 (c : Dev nD) (t : Fin cfg2.N) (d) : (dat V n b c).before 1 t d = in1 V c t :=
  ((dat V n b c).before_in_eq_fetched 1 rfl (fun _ => rfl) (fun _ _ _ => rfl) (fun _ => rfl) t d).trans rfl
theorem before_2 (c : Dev nD) (t : Fin cfg2.N) (d) : (dat V n b c).before 2 t d = in2 V c t :=
  ((dat V n b c).before_in_eq_fetched 2 rfl (fun _ => rfl) (fun _ _ _ => rfl) (fun _ => rfl) t d).trans rfl
theorem before_3 (c : Dev nD) (t : Fin cfg2.N) (d) : (dat V n b c).before 3 t d = in3 V c t :=
  ((dat V n b c).before_in_eq_fetched 3 rfl (fun _ => rfl) (fun _ _ _ => rfl) (fun _ => rfl) t d).trans rfl
theorem before_4 (c : Dev nD) (t : Fin cfg2.N) (d) : (dat V n b c).before 4 t d = in4 V c t :=
  ((dat V n b c).before_in_eq_fetched 4 rfl (fun _ => rfl) (fun _ _ _ => rfl) (fun _ => rfl) t d).trans rfl
theorem before_5 (c : Dev nD) (t : Fin cfg2.N) (d) : (dat V n b c).before 5 t d = in5 V c t :=
  ((dat V n b c).before_in_eq_fetched 5 rfl (fun _ => rfl) (fun _ _ _ => rfl) (fun _ => rfl) t d).trans rfl
theorem before_6 (c : Dev nD) (t : Fin cfg2.N) (d) : (dat V n b c).before 6 t d = in6 V c t :=
  ((dat V n b c).before_in_eq_fetched 6 rfl (fun _ => rfl) (fun _ _ _ => rfl) (fun _ => rfl) t d).trans rfl
theorem before_7 (c : Dev nD) (t : Fin cfg2.N) (d) : (dat V n b c).before 7 t d = in7 V c t :=
  ((dat V n b c).before_in_eq_fetched 7 rfl (fun _ => rfl) (fun _ _ _ => rfl) (fun _ => rfl) t d).trans rfl
theorem before_8 (c : Dev nD) (t : Fin cfg2.N) (d) : (dat V n b c).before 8 t d = in8 V c t :=
  ((dat V n b c).before_in_eq_fetched 8 rfl (fun _ => rfl) (fun _ _ _ => rfl) (fun _ => rfl) t d).trans rfl
theorem before_9 (c : Dev nD) (t : Fin cfg2.N) (d) : (dat V n b c).before 9 t d = in9 V c t :=
  ((dat V n b c).before_in_eq_fetched 9 rfl (fun _ => rfl) (fun _ _ _ => rfl) (fun _ => rfl) t d).trans rfl

/-- The body leaves the scores. -/
theorem body (c : Dev nD) : Pipeline.BodyObligation (dat V n b c) (defs₀ (F := F)) 𝒱₀ none Set.univ := fun t => by
  rw [bigSep_W2, bigSep_W2]
  change _ ⊢ wp frame (wpE (defs₀ (F := F)) 𝒱₀ c none) Set.univ (bodyAt2 t) _
  simp only [before_0, before_1, before_2, before_3, before_4, before_5, before_6, before_7, before_8, before_9]
  rw [show (dat V n b c).Φ t.castSucc = Pipeline.scopedRest spec2 c from rfl, show (dat V n b c).Φ t.succ = Pipeline.scopedRest spec2 c from rfl,
    show (dat V n b c).owesAt none t.succ = (dat V n b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0 := (rep_of_owns (c : Thread nD τ) _ _ _) $$ H0
  ihave H1 := (rep_of_owns (c : Thread nD τ) _ _ _) $$ H1
  ihave H2 := (rep_of_owns (c : Thread nD τ) _ _ _) $$ H2
  ihave H3 := (rep_of_owns (c : Thread nD τ) _ _ _) $$ H3
  ihave H4 := (rep_of_owns (c : Thread nD τ) _ _ _) $$ H4
  ihave H5 := (rep_of_owns (c : Thread nD τ) _ _ _) $$ H5
  ihave H6 := (rep_of_owns (c : Thread nD τ) _ _ _) $$ H6
  ihave H7 := (rep_of_owns (c : Thread nD τ) _ _ _) $$ H7
  ihave H8 := (rep_of_owns (c : Thread nD τ) _ _ _) $$ H8
  ihave H9 := (rep_of_owns (c : Thread nD τ) _ _ _) $$ H9
  ihave H10 := (rep_of_owns (c : Thread nD τ) _ _ _) $$ H10
  iapply (mlp_body2 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10))
    (in0 V c t) (in1 V c t) (in2 V c t) (in3 V c t) (in4 V c t) (in5 V c t) (in6 V c t) (in7 V c t) (in8 V c t) (in9 V c t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iapply (owns_of_rep (c : Thread nD τ) _ _ _); iexact H0
  isplitl [H1]; · iapply (owns_of_rep (c : Thread nD τ) _ _ _); iexact H1
  isplitl [H2]; · iapply (owns_of_rep (c : Thread nD τ) _ _ _); iexact H2
  isplitl [H3]; · iapply (owns_of_rep (c : Thread nD τ) _ _ _); iexact H3
  isplitl [H4]; · iapply (owns_of_rep (c : Thread nD τ) _ _ _); iexact H4
  isplitl [H5]; · iapply (owns_of_rep (c : Thread nD τ) _ _ _); iexact H5
  isplitl [H6]; · iapply (owns_of_rep (c : Thread nD τ) _ _ _); iexact H6
  isplitl [H7]; · iapply (owns_of_rep (c : Thread nD τ) _ _ _); iexact H7
  isplitl [H8]; · iapply (owns_of_rep (c : Thread nD τ) _ _ _); iexact H8
  isplitl [H9]; · iapply (owns_of_rep (c : Thread nD τ) _ _ _); iexact H9
  iapply (owns_of_rep (c : Thread nD τ) _ _ _); iexact H10

theorem idx_0 : ∀ t : Fin cfg2.N, win2_0.index t = ![t.val, 0] := (by decide +kernel : ∀ t : Fin grid2.N, _)
theorem idx_1 : ∀ t : Fin cfg2.N, win2_1.index t = ![t.val, 0, 0] := (by decide +kernel : ∀ t : Fin grid2.N, _)
theorem idx_2 : ∀ t : Fin cfg2.N, win2_2.index t = ![0, 0] := (by decide +kernel : ∀ t : Fin grid2.N, _)
theorem idx_3 : ∀ t : Fin cfg2.N, win2_3.index t = ![0, 0] := (by decide +kernel : ∀ t : Fin grid2.N, _)
theorem idx_4 : ∀ t : Fin cfg2.N, win2_4.index t = ![0, 0] := (by decide +kernel : ∀ t : Fin grid2.N, _)
theorem idx_5 : ∀ t : Fin cfg2.N, win2_5.index t = ![0, 0] := (by decide +kernel : ∀ t : Fin grid2.N, _)
theorem idx_6 : ∀ t : Fin cfg2.N, win2_6.index t = ![0, 0] := (by decide +kernel : ∀ t : Fin grid2.N, _)
theorem idx_7 : ∀ t : Fin cfg2.N, win2_7.index t = ![0, 0] := (by decide +kernel : ∀ t : Fin grid2.N, _)
theorem idx_8 : ∀ t : Fin cfg2.N, win2_8.index t = ![0, 0] := (by decide +kernel : ∀ t : Fin grid2.N, _)
theorem idx_9 : ∀ t : Fin cfg2.N, win2_9.index t = ![0, 0] := (by decide +kernel : ∀ t : Fin grid2.N, _)
theorem idx_10 : ∀ t : Fin cfg2.N, win2_10.index t = ![0, t.val] := (by decide +kernel : ∀ t : Fin grid2.N, _)
theorem in0_eq (c : Dev nD) (t : Fin cfg2.N) : in0 V c t = rowsBlock (V c (Proc.devRef .tc main_v9)) ⟨t.val, N_2 ▸ t.isLt⟩ := by
  funext y
  unfold in0 rowsBlock
  blk_ext [idx_0 t]
theorem in1_eq (c : Dev nD) (t : Fin cfg2.N) : in1 V c t = idsBlock (V c (Proc.devRef .tc main_v10)) ⟨t.val, N_2 ▸ t.isLt⟩ := by
  funext y
  unfold in1 idsBlock
  blk_ext [idx_1 t]
theorem in2_eq (c : Dev nD) (t : Fin cfg2.N) : in2 V c t = V c (Proc.devRef .tc main_v0) := by
  funext y
  unfold in2
  blk_ext [idx_2 t]
theorem in3_eq (c : Dev nD) (t : Fin cfg2.N) : in3 V c t = V c (Proc.devRef .tc main_arg5) := by
  funext y
  unfold in3
  blk_ext [idx_3 t]
theorem in4_eq (c : Dev nD) (t : Fin cfg2.N) : in4 V c t = V c (Proc.devRef .tc main_v3) := by
  funext y
  unfold in4
  blk_ext [idx_4 t]
theorem in5_eq (c : Dev nD) (t : Fin cfg2.N) : in5 V c t = V c (Proc.devRef .tc main_v1) := by
  funext y
  unfold in5
  blk_ext [idx_5 t]
theorem in6_eq (c : Dev nD) (t : Fin cfg2.N) : in6 V c t = V c (Proc.devRef .tc main_v2) := by
  funext y
  unfold in6
  blk_ext [idx_6 t]
theorem in7_eq (c : Dev nD) (t : Fin cfg2.N) : in7 V c t = V c (Proc.devRef .tc main_v4) := by
  funext y
  unfold in7
  blk_ext [idx_7 t]
theorem in8_eq (c : Dev nD) (t : Fin cfg2.N) : in8 V c t = V c (Proc.devRef .tc main_arg9) := by
  funext y
  unfold in8
  blk_ext [idx_8 t]
theorem in9_eq (c : Dev nD) (t : Fin cfg2.N) : in9 V c t = V c (Proc.devRef .tc main_v5) := by
  funext y
  unfold in9
  blk_ext [idx_9 t]

/-- The half's scores after the call. -/
theorem arr (c : Dev nD) : (dat V n b c).arrAt 10 cfg2.N
    = scoreArr F (V c (Proc.devRef .tc main_v9)) (V c (Proc.devRef .tc main_v10)) (V c (Proc.devRef .tc main_v0)) (V c (Proc.devRef .tc main_arg5))
        (V c (Proc.devRef .tc main_v3)) (V c (Proc.devRef .tc main_v1)) (V c (Proc.devRef .tc main_v2)) (V c (Proc.devRef .tc main_v4))
        (V c (Proc.devRef .tc main_arg9)) (V c (Proc.devRef .tc main_v5)) := by
  refine (dat V n b c).arrAt_eq_of_covers 10 _ (by decide +kernel) fun t hf y => ?_
  have h : (dat V n b c).after 10 t = out V c t := rfl
  rw [h]
  unfold out
  rw [in0_eq, in1_eq, in2_eq, in3_eq, in4_eq, in5_eq, in6_eq, in7_eq, in8_eq, in9_eq]
  exact scoreArr_at _ _ _ _ _ _ _ _ _ _ _ _ _ (by blk_simp [idx_10 t])

end First

/-! ## The scores of the second half -/

namespace Second

abbrev in0 (c : Dev nD) (t : Fin cfg4.N) : FVec F S4096x128 .f32 := ((cfg4.win 0).blk t).view.read (Elt F) (V c (Proc.devRef .tc main_v12))
abbrev in1 (c : Dev nD) (t : Fin cfg4.N) : IVec S1x1x4096 32 := ((cfg4.win 1).blk t).view.read (Elt F) (V c (Proc.devRef .tc main_v13))
abbrev in2 (c : Dev nD) (t : Fin cfg4.N) : FVec F S16x128 .f32 := ((cfg4.win 2).blk t).view.read (Elt F) (V c (Proc.devRef .tc main_v0))
abbrev in3 (c : Dev nD) (t : Fin cfg4.N) : FVec F S128x128 .f32 := ((cfg4.win 3).blk t).view.read (Elt F) (V c (Proc.devRef .tc main_arg5))
abbrev in4 (c : Dev nD) (t : Fin cfg4.N) : FVec F S1x128 .f32 := ((cfg4.win 4).blk t).view.read (Elt F) (V c (Proc.devRef .tc main_v3))
abbrev in5 (c : Dev nD) (t : Fin cfg4.N) : FVec F S128x128 .f32 := ((cfg4.win 5).blk t).view.read (Elt F) (V c (Proc.devRef .tc main_v1))
abbrev in6 (c : Dev nD) (t : Fin cfg4.N) : FVec F S128x128 .f32 := ((cfg4.win 6).blk t).view.read (Elt F) (V c (Proc.devRef .tc main_v2))
abbrev in7 (c : Dev nD) (t : Fin cfg4.N) : FVec F S1x128 .f32 := ((cfg4.win 7).blk t).view.read (Elt F) (V c (Proc.devRef .tc main_v4))
abbrev in8 (c : Dev nD) (t : Fin cfg4.N) : FVec F S128x1 .f32 := ((cfg4.win 8).blk t).view.read (Elt F) (V c (Proc.devRef .tc main_arg9))
abbrev in9 (c : Dev nD) (t : Fin cfg4.N) : FVec F S1x1 .f32 := ((cfg4.win 9).blk t).view.read (Elt F) (V c (Proc.devRef .tc main_v5))
/-- The block of scores at a point. -/
abbrev out (c : Dev nD) (t : Fin cfg4.N) : FVec F S1x4096 .f32 :=
  scoreBlock F (in0 V c t) (in1 V c t) (in2 V c t) (in3 V c t) (in4 V c t) (in5 V c t) (in6 V c t) (in7 V c t) (in8 V c t) (in9 V c t)

/-- The call's data: at every point the inputs' blocks, and the scores of them. -/
def dat (c : Dev nD) : Dat τ (Elt F) (HIx 3) ℕ UU ℕ cfg4 c where
  A w := V c (Proc.devRef .tc (Pipeline.arrRef spec4 w))
  after w t := match w with
    | ⟨0, _⟩ => in0 V c t | ⟨1, _⟩ => in1 V c t | ⟨2, _⟩ => in2 V c t | ⟨3, _⟩ => in3 V c t | ⟨4, _⟩ => in4 V c t | ⟨5, _⟩ => in5 V c t
    | ⟨6, _⟩ => in6 V c t | ⟨7, _⟩ => in7 V c t | ⟨8, _⟩ => in8 V c t | ⟨9, _⟩ => in9 V c t | ⟨10, _⟩ => out V c t
  Φ _ := Pipeline.scopedRest spec4 c
  q _ := fullShare
  owed _ := (K (F := F)).Otc c n
  recorded _ := {q | (K (F := F)).lev (T c, q.1) q.2 ≤ b}

def pd : (p : Fin 3) → (c : Dev nD) → DatP (F := F) p c
  | ⟨0, _⟩ => fun c => junkDat c
  | ⟨1, _⟩ => fun c => junkDat c
  | ⟨2, _⟩ => fun c => dat V n b c

theorem before_0 (c : Dev nD) (t : Fin cfg4.N) (d) : (dat V n b c).before 0 t d = in0 V c t :=
  ((dat V n b c).before_in_eq_fetched 0 rfl (fun _ => rfl) (fun _ _ _ => rfl) (fun _ => rfl) t d).trans rfl
theorem before_1 (c : Dev nD) (t : Fin cfg4.N) (d) : (dat V n b c).before 1 t d = in1 V c t :=
  ((dat V n b c).before_in_eq_fetched 1 rfl (fun _ => rfl) (fun _ _ _ => rfl) (fun _ => rfl) t d).trans rfl
theorem before_2 (c : Dev nD) (t : Fin cfg4.N) (d) : (dat V n b c).before 2 t d = in2 V c t :=
  ((dat V n b c).before_in_eq_fetched 2 rfl (fun _ => rfl) (fun _ _ _ => rfl) (fun _ => rfl) t d).trans rfl
theorem before_3 (c : Dev nD) (t : Fin cfg4.N) (d) : (dat V n b c).before 3 t d = in3 V c t :=
  ((dat V n b c).before_in_eq_fetched 3 rfl (fun _ => rfl) (fun _ _ _ => rfl) (fun _ => rfl) t d).trans rfl
theorem before_4 (c : Dev nD) (t : Fin cfg4.N) (d) : (dat V n b c).before 4 t d = in4 V c t :=
  ((dat V n b c).before_in_eq_fetched 4 rfl (fun _ => rfl) (fun _ _ _ => rfl) (fun _ => rfl) t d).trans rfl
theorem before_5 (c : Dev nD) (t : Fin cfg4.N) (d) : (dat V n b c).before 5 t d = in5 V c t :=
  ((dat V n b c).before_in_eq_fetched 5 rfl (fun _ => rfl) (fun _ _ _ => rfl) (fun _ => rfl) t d).trans rfl
theorem before_6 (c : Dev nD) (t : Fin cfg4.N) (d) : (dat V n b c).before 6 t d = in6 V c t :=
  ((dat V n b c).before_in_eq_fetched 6 rfl (fun _ => rfl) (fun _ _ _ => rfl) (fun _ => rfl) t d).trans rfl
theorem before_7 (c : Dev nD) (t : Fin cfg4.N) (d) : (dat V n b c).before 7 t d = in7 V c t :=
  ((dat V n b c).before_in_eq_fetched 7 rfl (fun _ => rfl) (fun _ _ _ => rfl) (fun _ => rfl) t d).trans rfl
theorem before_8 (c : Dev nD) (t : Fin cfg4.N) (d) : (dat V n b c).before 8 t d = in8 V c t :=
  ((dat V n b c).before_in_eq_fetched 8 rfl (fun _ => rfl) (fun _ _ _ => rfl) (fun _ => rfl) t d).trans rfl
theorem before_9 (c : Dev nD) (t : Fin cfg4.N) (d) : (dat V n b c).before 9 t d = in9 V c t :=
  ((dat V n b c).before_in_eq_fetched 9 rfl (fun _ => rfl) (fun _ _ _ => rfl) (fun _ => rfl) t d).trans rfl

/-- The body leaves the scores. -/
theorem body (c : Dev nD) : Pipeline.BodyObligation (dat V n b c) (defs₀ (F := F)) 𝒱₀ none Set.univ := fun t => by
  rw [bigSep_W4, bigSep_W4]
  change _ ⊢ wp frame (wpE (defs₀ (F := F)) 𝒱₀ c none) Set.univ (bodyAt4 t) _
  simp only [before_0, before_1, before_2, before_3, before_4, before_5, before_6, before_7, before_8, before_9]
  rw [show (dat V n b c).Φ t.castSucc = Pipeline.scopedRest spec4 c from rfl, show (dat V n b c).Φ t.succ = Pipeline.scopedRest spec4 c from rfl,
    show (dat V n b c).owesAt none t.succ = (dat V n b c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0 := (rep_of_owns (c : Thread nD τ) _ _ _) $$ H0
  ihave H1 := (rep_of_owns (c : Thread nD τ) _ _ _) $$ H1
  ihave H2 := (rep_of_owns (c : Thread nD τ) _ _ _) $$ H2
  ihave H3 := (rep_of_owns (c : Thread nD τ) _ _ _) $$ H3
  ihave H4 := (rep_of_owns (c : Thread nD τ) _ _ _) $$ H4
  ihave H5 := (rep_of_owns (c : Thread nD τ) _ _ _) $$ H5
  ihave H6 := (rep_of_owns (c : Thread nD τ) _ _ _) $$ H6
  ihave H7 := (rep_of_owns (c : Thread nD τ) _ _ _) $$ H7
  ihave H8 := (rep_of_owns (c : Thread nD τ) _ _ _) $$ H8
  ihave H9 := (rep_of_owns (c : Thread nD τ) _ _ _) $$ H9
  ihave H10 := (rep_of_owns (c : Thread nD τ) _ _ _) $$ H10
  iapply (mlp_body4 c (grid4.coords t) (win4_0.stage (cfg4.slots t 0)) (hstage4_0 ((cfg4.slots t 0).cast nbuf4_0)) (win4_1.stage (cfg4.slots t 1)) (hstage4_1 ((cfg4.slots t 1).cast nbuf4_1)) (win4_2.stage (cfg4.slots t 2)) (hstage4_2 ((cfg4.slots t 2).cast nbuf4_2)) (win4_3.stage (cfg4.slots t 3)) (hstage4_3 ((cfg4.slots t 3).cast nbuf4_3)) (win4_4.stage (cfg4.slots t 4)) (hstage4_4 ((cfg4.slots t 4).cast nbuf4_4)) (win4_5.stage (cfg4.slots t 5)) (hstage4_5 ((cfg4.slots t 5).cast nbuf4_5)) (win4_6.stage (cfg4.slots t 6)) (hstage4_6 ((cfg4.slots t 6).cast nbuf4_6)) (win4_7.stage (cfg4.slots t 7)) (hstage4_7 ((cfg4.slots t 7).cast nbuf4_7)) (win4_8.stage (cfg4.slots t 8)) (hstage4_8 ((cfg4.slots t 8).cast nbuf4_8)) (win4_9.stage (cfg4.slots t 9)) (hstage4_9 ((cfg4.slots t 9).cast nbuf4_9)) (win4_10.stage (cfg4.slots t 10)) (hstage4_10 ((cfg4.slots t 10).cast nbuf4_10))
    (in0 V c t) (in1 V c t) (in2 V c t) (in3 V c t) (in4 V c t) (in5 V c t) (in6 V c t) (in7 V c t) (in8 V c t) (in9 V c t) _ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iintro ⟨H0, H1, H2, H3, H4, H5, H6, H7, H8, H9, H10⟩
  isplitl [HΦ]; · iexact HΦ
  isplitl [Howes]; · iexact Howes
  isplitl [H0]; · iapply (owns_of_rep (c : Thread nD τ) _ _ _); iexact H0
  isplitl [H1]; · iapply (owns_of_rep (c : Thread nD τ) _ _ _); iexact H1
  isplitl [H2]; · iapply (owns_of_rep (c : Thread nD τ) _ _ _); iexact H2
  isplitl [H3]; · iapply (owns_of_rep (c : Thread nD τ) _ _ _); iexact H3
  isplitl [H4]; · iapply (owns_of_rep (c : Thread nD τ) _ _ _); iexact H4
  isplitl [H5]; · iapply (owns_of_rep (c : Thread nD τ) _ _ _); iexact H5
  isplitl [H6]; · iapply (owns_of_rep (c : Thread nD τ) _ _ _); iexact H6
  isplitl [H7]; · iapply (owns_of_rep (c : Thread nD τ) _ _ _); iexact H7
  isplitl [H8]; · iapply (owns_of_rep (c : Thread nD τ) _ _ _); iexact H8
  isplitl [H9]; · iapply (owns_of_rep (c : Thread nD τ) _ _ _); iexact H9
  iapply (owns_of_rep (c : Thread nD τ) _ _ _); iexact H10

theorem idx_0 : ∀ t : Fin cfg4.N, win4_0.index t = ![t.val, 0] := (by decide +kernel : ∀ t : Fin grid4.N, _)
theorem idx_1 : ∀ t : Fin cfg4.N, win4_1.index t = ![t.val, 0, 0] := (by decide +kernel : ∀ t : Fin grid4.N, _)
theorem idx_2 : ∀ t : Fin cfg4.N, win4_2.index t = ![0, 0] := (by decide +kernel : ∀ t : Fin grid4.N, _)
theorem idx_3 : ∀ t : Fin cfg4.N, win4_3.index t = ![0, 0] := (by decide +kernel : ∀ t : Fin grid4.N, _)
theorem idx_4 : ∀ t : Fin cfg4.N, win4_4.index t = ![0, 0] := (by decide +kernel : ∀ t : Fin grid4.N, _)
theorem idx_5 : ∀ t : Fin cfg4.N, win4_5.index t = ![0, 0] := (by decide +kernel : ∀ t : Fin grid4.N, _)
theorem idx_6 : ∀ t : Fin cfg4.N, win4_6.index t = ![0, 0] := (by decide +kernel : ∀ t : Fin grid4.N, _)
theorem idx_7 : ∀ t : Fin cfg4.N, win4_7.index t = ![0, 0] := (by decide +kernel : ∀ t : Fin grid4.N, _)
theorem idx_8 : ∀ t : Fin cfg4.N, win4_8.index t = ![0, 0] := (by decide +kernel : ∀ t : Fin grid4.N, _)
theorem idx_9 : ∀ t : Fin cfg4.N, win4_9.index t = ![0, 0] := (by decide +kernel : ∀ t : Fin grid4.N, _)
theorem idx_10 : ∀ t : Fin cfg4.N, win4_10.index t = ![0, t.val] := (by decide +kernel : ∀ t : Fin grid4.N, _)
theorem in0_eq (c : Dev nD) (t : Fin cfg4.N) : in0 V c t = rowsBlock (V c (Proc.devRef .tc main_v12)) ⟨t.val, N_4 ▸ t.isLt⟩ := by
  funext y
  unfold in0 rowsBlock
  blk_ext [idx_0 t]
theorem in1_eq (c : Dev nD) (t : Fin cfg4.N) : in1 V c t = idsBlock (V c (Proc.devRef .tc main_v13)) ⟨t.val, N_4 ▸ t.isLt⟩ := by
  funext y
  unfold in1 idsBlock
  blk_ext [idx_1 t]
theorem in2_eq (c : Dev nD) (t : Fin cfg4.N) : in2 V c t = V c (Proc.devRef .tc main_v0) := by
  funext y
  unfold in2
  blk_ext [idx_2 t]
theorem in3_eq (c : Dev nD) (t : Fin cfg4.N) : in3 V c t = V c (Proc.devRef .tc main_arg5) := by
  funext y
  unfold in3
  blk_ext [idx_3 t]
theorem in4_eq (c : Dev nD) (t : Fin cfg4.N) : in4 V c t = V c (Proc.devRef .tc main_v3) := by
  funext y
  unfold in4
  blk_ext [idx_4 t]
theorem in5_eq (c : Dev nD) (t : Fin cfg4.N) : in5 V c t = V c (Proc.devRef .tc main_v1) := by
  funext y
  unfold in5
  blk_ext [idx_5 t]
theorem in6_eq (c : Dev nD) (t : Fin cfg4.N) : in6 V c t = V c (Proc.devRef .tc main_v2) := by
  funext y
  unfold in6
  blk_ext [idx_6 t]
theorem in7_eq (c : Dev nD) (t : Fin cfg4.N) : in7 V c t = V c (Proc.devRef .tc main_v4) := by
  funext y
  unfold in7
  blk_ext [idx_7 t]
theorem in8_eq (c : Dev nD) (t : Fin cfg4.N) : in8 V c t = V c (Proc.devRef .tc main_arg9) := by
  funext y
  unfold in8
  blk_ext [idx_8 t]
theorem in9_eq (c : Dev nD) (t : Fin cfg4.N) : in9 V c t = V c (Proc.devRef .tc main_v5) := by
  funext y
  unfold in9
  blk_ext [idx_9 t]

/-- The half's scores after the call. -/
theorem arr (c : Dev nD) : (dat V n b c).arrAt 10 cfg4.N
    = scoreArr F (V c (Proc.devRef .tc main_v12)) (V c (Proc.devRef .tc main_v13)) (V c (Proc.devRef .tc main_v0)) (V c (Proc.devRef .tc main_arg5))
        (V c (Proc.devRef .tc main_v3)) (V c (Proc.devRef .tc main_v1)) (V c (Proc.devRef .tc main_v2)) (V c (Proc.devRef .tc main_v4))
        (V c (Proc.devRef .tc main_arg9)) (V c (Proc.devRef .tc main_v5)) := by
  refine (dat V n b c).arrAt_eq_of_covers 10 _ (by decide +kernel) fun t hf y => ?_
  have h : (dat V n b c).after 10 t = out V c t := rfl
  rw [h]
  unfold out
  rw [in0_eq, in1_eq, in2_eq, in3_eq, in4_eq, in5_eq, in6_eq, in7_eq, in8_eq, in9_eq]
  exact scoreArr_at _ _ _ _ _ _ _ _ _ _ _ _ _ (by blk_simp [idx_10 t])

end Second

end Cert.Proof.Tc

end
-- ==== Proof.Slots.lean ====
/- Writing values into slots one position after another: the contents of a slot after the first `n` positions, the
   same state reached sixteen positions at a time by a masked store that keeps only the last position of each slot,
   and a host scatter read the same way. Nothing here is about one program. -/
module

public import Idealize.ShloMosaic.PureOps
public import Idealize.ShloMosaic.Lib.Routing.OpsPair

@[expose] public section

namespace Cert.Slots

open Idealize.ShloMosaic

variable {α : Type}

/-- What slot `j` holds after the positions below `n` have been taken in order, position `p` writing `val p` at slot
    `at p` when `s ≤ p < e`; `z` before any. -/
def slot (z : α) (target : ℕ → ℕ) (val : ℕ → α) (s e j : ℕ) : ℕ → α
  | 0 => z
  | n + 1 => if s ≤ n ∧ n < e ∧ target n = j then val n else slot z target val s e j n

/-- Positions at or past `e` write nothing. -/
theorem slot_stop (z : α) (target : ℕ → ℕ) (val : ℕ → α) (s e j : ℕ) :
    ∀ n, e ≤ n → slot z target val s e j n = slot z target val s e j e := by
  intro n h
  induction n, h using Nat.le_induction with
  | base => rfl
  | succ n hn ih => rw [slot, if_neg (by omega), ih]

/-- Positions below `s` write nothing. -/
theorem slot_start (z : α) (target : ℕ → ℕ) (val : ℕ → α) (s e j : ℕ) :
    ∀ n, n ≤ s → slot z target val s e j n = z := by
  intro n h
  induction n with
  | zero => rfl
  | succ n ih => rw [slot, if_neg (by omega), ih (by omega)]

/-- Two writings that agree on every position that writes agree on every slot. -/
theorem slot_congr (z : α) {t t' : ℕ → ℕ} {v v' : ℕ → α} {s e s' e' j : ℕ} :
    ∀ n, (∀ p < n, ((s ≤ p ∧ p < e ∧ t p = j) ↔ (s' ≤ p ∧ p < e' ∧ t' p = j)) ∧ (s ≤ p ∧ p < e ∧ t p = j → v p = v' p)) →
      slot z t v s e j n = slot z t' v' s' e' j n := by
  intro n h
  induction n with
  | zero => rfl
  | succ n ih =>
    have hn := h n (by omega)
    rw [slot, slot, ih fun p hp => h p (by omega)]
    by_cases hc : s ≤ n ∧ n < e ∧ t n = j
    · rw [if_pos hc, if_pos (hn.1.1 hc), hn.2 hc]
    · rw [if_neg hc, if_neg fun h' => hc (hn.1.2 h')]

/-- One slot through `k` lanes taken in order, the lanes in `M` writing. -/
def lanes (M : ℕ → Prop) [DecidablePred M] (target : ℕ → ℕ) (val : ℕ → α) (old : α) (j : ℕ) : ℕ → α
  | 0 => old
  | k + 1 => if M k ∧ target k = j then val k else lanes M target val old j k

/-- A slot's contents `k` positions on are its lanes' over what it held. -/
theorem slot_add (z : α) (target : ℕ → ℕ) (val : ℕ → α) (s e j P : ℕ) : ∀ k,
    slot z target val s e j (P + k)
      = lanes (fun k => s ≤ P + k ∧ P + k < e) (fun k => target (P + k)) (fun k => val (P + k)) (slot z target val s e j P) j k := by
  intro k
  induction k with
  | zero => rfl
  | succ k ih => rw [← Nat.add_assoc, slot, lanes, ih]; simp only [and_assoc]

/-- A slot is either as before or what the last lane that writes it wrote. -/
theorem lanes_last (M : ℕ → Prop) [DecidablePred M] (target : ℕ → ℕ) (val : ℕ → α) (old : α) (j : ℕ) : ∀ n,
    ((∀ k < n, ¬(M k ∧ target k = j)) ∧ lanes M target val old j n = old)
    ∨ ∃ k < n, M k ∧ target k = j ∧ (∀ k', k < k' → k' < n → ¬(M k' ∧ target k' = j)) ∧ lanes M target val old j n = val k := by
  intro n
  induction n with
  | zero => exact .inl ⟨fun k hk => absurd hk (by omega), rfl⟩
  | succ n ih =>
    by_cases hc : M n ∧ target n = j
    · exact .inr ⟨n, by omega, hc.1, hc.2, fun k' h h' => absurd h (by omega), by rw [lanes, if_pos hc]⟩
    · rw [lanes, if_neg hc]
      rcases ih with ⟨h, he⟩ | ⟨k, hk, hM, ht, hl, he⟩
      · refine .inl ⟨fun k hk => ?_, he⟩
        rcases Nat.lt_succ_iff_lt_or_eq.1 hk with h' | rfl
        · exact h k h'
        · exact hc
      · refine .inr ⟨k, by omega, hM, ht, fun k' h h' => ?_, he⟩
        rcases Nat.lt_succ_iff_lt_or_eq.1 h' with h'' | rfl
        · exact hl k' h h''
        · exact hc

/-- Keeping, of the lanes that write, only those no later one of which has their slot changes no slot. -/
theorem lanes_keep (V M : ℕ → Prop) [DecidablePred V] [DecidablePred M] (target : ℕ → ℕ) (val : ℕ → α) (old : α) (j n : ℕ)
    (hM : ∀ k < n, M k ↔ (V k ∧ ∀ k', k < k' → k' < n → ¬(V k' ∧ target k' = target k))) :
    lanes M target val old j n = lanes V target val old j n := by
  rcases lanes_last V target val old j n with ⟨h, he⟩ | ⟨k, hk, hV, ht, hl, he⟩
  · rcases lanes_last M target val old j n with ⟨h', he'⟩ | ⟨k', hk', hV', ht', hl', he'⟩
    · rw [he, he']
    · exact absurd ⟨((hM k' hk').1 hV').1, ht'⟩ (h k' hk')
  · have hMk : M k := (hM k hk).2 ⟨hV, fun k' h h' => by rw [ht]; exact hl k' h h'⟩
    rcases lanes_last M target val old j n with ⟨h', he'⟩ | ⟨k', hk', hV', ht', hl', he'⟩
    · exact absurd ⟨hMk, ht⟩ (h' k hk)
    · have hV'' := ((hM k' hk').1 hV').1
      have : k = k' := by
        rcases Nat.lt_trichotomy k k' with h | h | h
        · exact absurd ⟨hV'', ht'⟩ (hl k' h hk')
        · exact h
        · exact absurd ⟨hMk, ht⟩ (hl' k h hk)
      rw [he, he', this]

/-- Lanes that agree on what writes and where agree on every slot. -/
theorem lanes_congr (V V' : ℕ → Prop) [DecidablePred V] [DecidablePred V'] {target target' : ℕ → ℕ} (val : ℕ → α) (old : α) (j : ℕ) :
    ∀ n, (∀ k < n, (V k ↔ V' k) ∧ target k = target' k) → lanes V target val old j n = lanes V' target' val old j n := by
  intro n h
  induction n with
  | zero => rfl
  | succ n ih =>
    have hn := h n (by omega)
    rw [lanes, lanes, ih fun k hk => h k (by omega)]
    by_cases hc : V n ∧ target n = j
    · rw [if_pos hc, if_pos ⟨hn.1.1 hc.1, hn.2 ▸ hc.2⟩]
    · rw [if_neg hc, if_neg fun h' => hc ⟨hn.1.2 h'.1, hn.2.trans h'.2⟩]

/-- The slots' contents read off a left fold over the lanes in order. -/
theorem foldl_finRange {β : Type} (n : ℕ) (st : β → ℕ → β) (b : β) :
    (List.finRange n).foldl (fun g k => st g k.val) b = (List.range n).foldl st b := by
  rw [← List.map_coe_finRange_eq_range, List.foldl_map]

/-- A left fold that keeps the last value offered for a slot is that slot after all the positions. -/
theorem foldl_slot (z : α) (target : ℕ → ℕ) (val : ℕ → α) (s e j n : ℕ) (C : Fin n → Prop) [DecidablePred C] (u : Fin n → α)
    (hC : ∀ k, C k ↔ (s ≤ k.val ∧ k.val < e ∧ target k.val = j)) (hu : ∀ k, C k → u k = val k.val) :
    (List.finRange n).foldl (fun a k => if C k then u k else a) z = slot z target val s e j n := by
  have key : ∀ m (hm : m ≤ n), (List.finRange m).foldl (fun a (k : Fin m) => if C (k.castLE hm) then u (k.castLE hm) else a) z
      = slot z target val s e j m := by
    intro m
    induction m with
    | zero => intro _; rfl
    | succ m ih =>
      intro hm
      rw [List.finRange_succ_last, List.foldl_append, List.foldl_map, slot]
      simp only [List.foldl_cons, List.foldl_nil]
      have ih' := ih (by omega)
      have hk := hC ((Fin.last m).castLE hm)
      by_cases hc : C ((Fin.last m).castLE hm)
      · rw [if_pos hc, hu _ hc]; exact (if_pos (hk.1 hc)).symm
      · rw [if_neg hc]; exact ih'.trans (if_neg (fun h => hc (hk.2 h))).symm
  exact key n le_rfl

section Store
variable {F : FTy → Type} [FloatOps F] {e : EltTy}

/-- The number lane `k` of a list of words names (past the list, nothing is asked). -/
def laneNat {N : ℕ} (v : IVec ⟨1, ![N]⟩ 32) (k : ℕ) : ℕ := if h : k < N then (v (Shape.ofLane (d := ![N]) ⟨k, h⟩)).toNat else 0
/-- Whether lane `k` of a mask is set. -/
def laneSet {N : ℕ} (m : IVec ⟨1, ![N]⟩ 1) (k : ℕ) : Prop := ∃ h : k < N, m (Shape.ofLane (d := ![N]) ⟨k, h⟩) = 1

instance {N : ℕ} (m : IVec ⟨1, ![N]⟩ 1) : DecidablePred (laneSet m) := fun k => by unfold laneSet; infer_instance

/-- A masked indexed store into a row, read at one element: the element's slot through the lanes. -/
theorem storeIdx_row {N C : ℕ} (f : Vec F ⟨1, ![C]⟩ e) (ix : IVec ⟨1, ![N]⟩ 32) (v : Vec F ⟨1, ![N]⟩ e) (m : IVec ⟨1, ![N]⟩ 1)
    (h : ∀ a x, ((![ix] : Fin 1 → IVec ⟨1, ![N]⟩ 32) a x).toNat < (⟨1, ![C]⟩ : Shape).size a) (val : ℕ → Elt F e)
    (hval : ∀ k (hk : k < N), val k = v (Shape.ofLane (d := ![N]) ⟨k, hk⟩)) (j : (⟨1, ![C]⟩ : Shape).Idx) :
    storeIdx (F := F) (s := ⟨1, ![C]⟩) f ![ix] v m false h j = lanes (laneSet m) (laneNat ix) val (f j) (j 0).val N := by
  let st : Vec F ⟨1, ![C]⟩ e → Fin N → Vec F ⟨1, ![C]⟩ e := fun g k =>
    let x := Shape.ofLane (d := ![N]) k
    if m x = 1 then
      let i := idxAt (s := ⟨1, ![C]⟩) ![ix] h x
      let y := if false then Elt.idxAdd e (g i) (v x) else v x
      fun j => if (∀ a, (j a).val = (i a).val) then y else g j
    else g
  have hst : ∀ g k, st g k j = if laneSet m k.val ∧ laneNat ix k.val = (j 0).val then val k.val else g j := by
    intro g k
    have hix : laneNat ix k.val = (ix (Shape.ofLane (d := ![N]) k)).toNat := dif_pos k.isLt
    have hcond : (∀ a, (j a).val = ((idxAt (s := ⟨1, ![C]⟩) ![ix] h (Shape.ofLane (d := ![N]) k)) a).val) ↔ laneNat ix k.val = (j 0).val := by
      rw [hix]
      exact ⟨fun h0 => (h0 0).symm, fun h0 a => by rw [Fin.eq_zero a]; exact h0.symm⟩
    by_cases hm : m (Shape.ofLane (d := ![N]) k) = 1
    · have e1 : st g k = fun j => if (∀ a, (j a).val = ((idxAt (s := ⟨1, ![C]⟩) ![ix] h (Shape.ofLane (d := ![N]) k)) a).val)
          then v (Shape.ofLane (d := ![N]) k) else g j := if_pos hm
      rw [e1]
      by_cases hj : laneNat ix k.val = (j 0).val
      · exact (if_pos (hcond.2 hj)).trans ((hval k.val k.isLt).symm.trans (if_pos ⟨⟨k.isLt, hm⟩, hj⟩).symm)
      · exact (if_neg (fun h' => hj (hcond.1 h'))).trans (if_neg (fun h' => hj h'.2)).symm
    · have e1 : st g k = g := if_neg hm
      rw [e1, if_neg (fun h' => hm h'.1.2)]
  have key : ∀ n (hn : n ≤ N), ((List.finRange n).foldl (fun g (k : Fin n) => st g (k.castLE hn)) f) j
      = lanes (laneSet m) (laneNat ix) val (f j) (j 0).val n := by
    intro n
    induction n with
    | zero => intro _; rfl
    | succ n ih =>
      intro hn
      rw [List.finRange_succ_last, List.foldl_append, List.foldl_map, lanes]
      simp only [List.foldl_cons, List.foldl_nil]
      rw [hst]
      exact congrArg (fun t => if laneSet m n ∧ laneNat ix n = (j 0).val then val n else t) (ih (by omega))
  exact key N le_rfl

/-- The mask of a counted scan: the lanes set, no later set lane of which has their word. -/
theorem laneSet_scan {N : ℕ} (m : IVec ⟨1, ![N]⟩ 1) (ix : IVec ⟨1, ![N]⟩ 32) (k : ℕ) (hk : k < N) :
    laneSet (andi m (scanCount m ix).1) k
      ↔ (laneSet m k ∧ ∀ k', k < k' → k' < N → ¬(laneSet m k' ∧ laneNat ix k' = laneNat ix k)) := by
  have hpos : ∀ i : (⟨1, ![N]⟩ : Shape).Idx, ((⟨1, ![N]⟩ : Shape).rowMajor i).val = (i 0).val := fun i => Shape.rowMajor_val_one i
  have hval : ∀ q (hq : q < N), (Shape.ofLane (d := ![N]) ⟨q, hq⟩ 0).val = q := fun q hq => rfl
  have hlane : ∀ q (hq : q < N), laneNat ix q = (ix (Shape.ofLane (d := ![N]) ⟨q, hq⟩)).toNat := fun q hq => dif_pos hq
  have hset : ∀ q (hq : q < N), laneSet m q ↔ m (Shape.ofLane (d := ![N]) ⟨q, hq⟩) = 1 := fun q hq => ⟨fun h => h.2, fun h => ⟨hq, h⟩⟩
  have hone : ∀ (a b : BitVec 1), IntOp.andi a b = 1 ↔ a = 1 ∧ b = 1 := by decide
  have hsurj : ∀ i : (⟨1, ![N]⟩ : Shape).Idx, i = Shape.ofLane (d := ![N]) ⟨(i 0).val, (i 0).isLt⟩ := by
    intro i; funext a; rw [Fin.eq_zero a]; rfl
  have hite : ∀ (P : Prop) [Decidable P], (if P then (1 : BitVec 1) else 0) = 1 ↔ P := by
    intro P _; by_cases h : P <;> simp [h]
  constructor
  · rintro ⟨_, h⟩
    obtain ⟨h1, h2⟩ := (hone _ _).1 h
    obtain ⟨-, h2⟩ := (hite _).1 h2
    refine ⟨⟨hk, h1⟩, fun k' hkk hk' hc => ?_⟩
    rw [hset k' hk', hlane k hk, hlane k' hk'] at hc
    exact h2 _ ((hpos (Shape.ofLane (d := ![N]) ⟨k, hk⟩)).trans_lt (hkk.trans_eq (hpos (Shape.ofLane (d := ![N]) ⟨k', hk'⟩)).symm)) ⟨hc.1, BitVec.eq_of_toNat_eq hc.2⟩
  · rintro ⟨h1, h2⟩
    refine ⟨hk, (hone _ _).2 ⟨h1.2, (hite _).2 ⟨h1.2, fun i hi hc => ?_⟩⟩⟩
    have hiN : (i 0).val < N := (i 0).isLt
    have hi' : k < (i 0).val := (hpos (Shape.ofLane (d := ![N]) ⟨k, hk⟩)).symm.trans_lt (hi.trans_eq (hpos i))
    refine h2 _ hi' hiN ?_
    rw [hset _ hiN, hlane _ hiN, hlane k hk, ← hsurj i]
    exact ⟨hc.1, congrArg BitVec.toNat hc.2⟩

end Store

end Cert.Slots

end
-- ==== Proof.Chains.lean ====
/- The integer arithmetic of the row writer: from a row's first and last position (between 0 and 32768), the aligned
   position it starts reading at, the number of blocks it reads, where each block starts, and which lanes of a group
   write. -/
module

public import proofs.«01_k».proof.Proof.Gen.KernelIdeal.Skeleton
public import proofs.«01_k».proof.Proof.Slots

@[expose] public section

noncomputable section

namespace Cert.Proof.Scatter

open Idealize.ShloMosaic Cert.KernelIdeal Cert.KernelIdeal.Gen

/-- The aligned position a row whose positions start at `s` is read from. -/
abbrev base (s : ℕ) : ℕ := s / 8 * 8
/-- How many blocks of 2048 positions cover a row's positions. -/
abbrev blocks (s e : ℕ) : ℕ := (e - base s + 2047) / 2048

/-- The row's first position rounded down to a multiple of eight, as the chain computes it. -/
def baseWord (v7 : BitVec 32) : BitVec 32 :=
  Scalar.muli (Scalar.select (Scalar.andi (Scalar.cmpi .ne (Scalar.subi (Scalar.extui (Scalar.cmpi .sgt v7 0#32)) (Scalar.extui (Scalar.cmpi .slt v7 0#32)))
      (Scalar.subi (Scalar.extui (Scalar.cmpi .sgt 8#32 0#32)) (Scalar.extui (Scalar.cmpi .slt 8#32 0#32)))) (Scalar.cmpi .ne (Scalar.remsi v7 8#32) 0#32))
    (Scalar.subi (Scalar.divsi v7 8#32) 1#32) (Scalar.divsi v7 8#32)) 8#32

/-- The number of blocks, as the chain computes it from the number of positions rounded up. -/
def blocksWord (v31 : BitVec 32) : BitVec 32 :=
  Scalar.select (Scalar.andi (Scalar.cmpi .ne (Scalar.subi (Scalar.extui (Scalar.cmpi .sgt v31 0#32)) (Scalar.extui (Scalar.cmpi .slt v31 0#32)))
      (Scalar.subi (Scalar.extui (Scalar.cmpi .sgt 2048#32 0#32)) (Scalar.extui (Scalar.cmpi .slt 2048#32 0#32)))) (Scalar.cmpi .ne (Scalar.remsi v31 2048#32) 0#32))
    (Scalar.subi (Scalar.divsi v31 2048#32) 1#32) (Scalar.divsi v31 2048#32)

variable {v7 v9 : BitVec 32} {s e : ℕ}

open Affine in
theorem baseWord_int (h7 : IsInt v7 s) (hs : s ≤ 32768) : IsInt (baseWord v7) (base s : ℕ) := by
  have hdiv : IsInt (Scalar.divsi v7 8#32) ((s / 8 : ℕ) : Int) := Affine.divsi h7 (Affine.ofNat 8 ⟨rfl, by decide⟩) (by omega)
  have hneg : Fails (Scalar.cmpi .slt v7 0#32) := Affine.slt_fails h7 (Affine.ofNat 0 ⟨rfl, by decide⟩) (by omega)
  have hext0 : IsInt (Scalar.extui (Scalar.cmpi .slt v7 0#32)) 0 := Affine.extui_fails hneg rfl
  have hc8 : IsInt (Scalar.subi (Scalar.extui (Scalar.cmpi .sgt 8#32 0#32)) (Scalar.extui (Scalar.cmpi .slt 8#32 0#32))) 1 :=
    Affine.ofNat 1 ⟨rfl, by decide⟩
  have hsel : IsInt (Scalar.select (Scalar.andi (Scalar.cmpi .ne (Scalar.subi (Scalar.extui (Scalar.cmpi .sgt v7 0#32)) (Scalar.extui (Scalar.cmpi .slt v7 0#32)))
      (Scalar.subi (Scalar.extui (Scalar.cmpi .sgt 8#32 0#32)) (Scalar.extui (Scalar.cmpi .slt 8#32 0#32)))) (Scalar.cmpi .ne (Scalar.remsi v7 8#32) 0#32))
    (Scalar.subi (Scalar.divsi v7 8#32) 1#32) (Scalar.divsi v7 8#32)) ((s / 8 : ℕ) : Int) := by
    rcases Nat.eq_zero_or_pos s with h0 | h0
    · have hrem : IsInt (Scalar.remsi v7 8#32) 0 := Affine.remsi h7 (Affine.ofNat 8 ⟨rfl, by decide⟩) (by omega)
      have hf : Fails (Scalar.cmpi .ne (Scalar.remsi v7 8#32) 0#32) := Affine.ne_fails hrem (Affine.ofNat 0 ⟨rfl, by decide⟩) (by omega)
      exact Affine.select_fails (Affine.andi_fails_right (Affine.cmpi_term .ne (Affine.word _) (Affine.word _)) hf)
        (Affine.word _) hdiv rfl
    · have hsgt : Holds (Scalar.cmpi .sgt v7 0#32) := Affine.sgt_holds h7 (Affine.ofNat 0 ⟨rfl, by decide⟩) (by omega)
      have hext1 : IsInt (Scalar.extui (Scalar.cmpi .sgt v7 0#32)) 1 := Affine.extui_holds hsgt rfl
      have hsub : IsInt (Scalar.subi (Scalar.extui (Scalar.cmpi .sgt v7 0#32)) (Scalar.extui (Scalar.cmpi .slt v7 0#32))) 1 :=
        Affine.subi hext1 hext0 (by omega)
      exact Affine.select_fails (Affine.andi_fails_left (Affine.ne_fails hsub hc8 (by omega)) (Affine.cmpi_term .ne (Affine.word _) (Affine.word _)))
        (Affine.word _) hdiv rfl
  exact Affine.muli hsel (Affine.ofNat 8 ⟨rfl, by decide⟩) (by unfold base; omega)

open Affine in
theorem blocksWord_int {v31 : BitVec 32} {n : ℕ} (h : IsInt v31 n) (h0 : 0 < n) (hn : n ≤ 40000) : IsInt (blocksWord v31) ((n / 2048 : ℕ) : Int) := by
  have hdiv : IsInt (Scalar.divsi v31 2048#32) ((n / 2048 : ℕ) : Int) := Affine.divsi h (Affine.ofNat 2048 ⟨rfl, by decide⟩) (by omega)
  have hneg : Fails (Scalar.cmpi .slt v31 0#32) := Affine.slt_fails h (Affine.ofNat 0 ⟨rfl, by decide⟩) (by omega)
  have hext0 : IsInt (Scalar.extui (Scalar.cmpi .slt v31 0#32)) 0 := Affine.extui_fails hneg rfl
  have hc8 : IsInt (Scalar.subi (Scalar.extui (Scalar.cmpi .sgt 2048#32 0#32)) (Scalar.extui (Scalar.cmpi .slt 2048#32 0#32))) 1 :=
    Affine.ofNat 1 ⟨rfl, by decide⟩
  have hsgt : Holds (Scalar.cmpi .sgt v31 0#32) := Affine.sgt_holds h (Affine.ofNat 0 ⟨rfl, by decide⟩) (by omega)
  have hext1 : IsInt (Scalar.extui (Scalar.cmpi .sgt v31 0#32)) 1 := Affine.extui_holds hsgt rfl
  have hsub : IsInt (Scalar.subi (Scalar.extui (Scalar.cmpi .sgt v31 0#32)) (Scalar.extui (Scalar.cmpi .slt v31 0#32))) 1 :=
    Affine.subi hext1 hext0 (by omega)
  exact Affine.select_fails (Affine.andi_fails_left (Affine.ne_fails hsub hc8 (by omega)) (Affine.cmpi_term .ne (Affine.word _) (Affine.word _)))
    (Affine.word _) hdiv rfl

/-- The number of positions from the aligned start to the end, plus 2047, as the chain computes it. -/
def spanWord (v7 v9 : BitVec 32) : BitVec 32 := Scalar.subi (Scalar.addi (Scalar.subi v9 (baseWord v7)) 2048#32) 1#32

open Affine in
theorem spanWord_int (h7 : IsInt v7 s) (h9 : IsInt v9 e) (hse : s ≤ e) (he : e ≤ 32768) :
    IsInt (spanWord v7 v9) ((e - base s + 2047 : ℕ) : Int) := by
  have hb := baseWord_int h7 (by omega)
  have h1 : IsInt (Scalar.subi v9 (baseWord v7)) ((e : Int) - base s) := Affine.subi h9 hb (by unfold base; omega)
  have h2 : IsInt (Scalar.addi (Scalar.subi v9 (baseWord v7)) 2048#32) ((e : Int) - base s + 2048) :=
    Affine.addi h1 (Affine.ofNat 2048 ⟨rfl, by decide⟩) (by unfold base; omega)
  exact Affine.subi h2 (Affine.ofNat 1 ⟨rfl, by decide⟩) (by unfold base; omega)

open Affine in
theorem blocks_int (h7 : IsInt v7 s) (h9 : IsInt v9 e) (hse : s ≤ e) (he : e ≤ 32768) :
    IsInt (blocksWord (spanWord v7 v9)) (blocks s e : ℕ) :=
  blocksWord_int (spanWord_int h7 h9 hse he) (by omega) (by omega)

open Affine in
/-- The main loop runs once per block. -/
theorem loop2 (h7 : IsInt v7 s) (h9 : IsInt v9 e) (hse : s ≤ e) (he : e ≤ 32768) :
    (k5_t2_loop v7 v9).trips = blocks s e ∧ (k5_t2_loop v7 v9).OK := by
  have hb := blocks_int h7 h9 hse he
  have hs : IsInt (Scalar.subi (blocksWord (spanWord v7 v9)) 0#32) (blocks s e : ℕ) :=
    Affine.subi hb (Affine.ofNat 0 ⟨rfl, by decide⟩) (by unfold blocks; omega)
  have hd : IsInt (Scalar.divsi (Scalar.subi (blocksWord (spanWord v7 v9)) 0#32) 1#32) (blocks s e : ℕ) :=
    Affine.divsi_one hs (Affine.ofNat 1 ⟨rfl, by decide⟩) ⟨rfl, rfl⟩
  have hm : IsInt (Scalar.muli (Scalar.divsi (Scalar.subi (blocksWord (spanWord v7 v9)) 0#32) 1#32) 1#32) (blocks s e : ℕ) :=
    Affine.muli hd (Affine.ofNat 1 ⟨rfl, by decide⟩) (by unfold blocks; omega)
  have hub : IsInt (k5_t2_loop v7 v9).ub (blocks s e : ℕ) :=
    Affine.addi (Affine.ofNat 0 ⟨rfl, by decide⟩) hm (by unfold blocks; omega)
  have hlb : IsInt (k5_t2_loop v7 v9).lb 0 := Affine.ofNat 0 ⟨rfl, by decide⟩
  have hst : IsInt (k5_t2_loop v7 v9).st 1 := Affine.ofNat 1 ⟨rfl, by decide⟩
  exact ⟨Affine.trips_eq hlb hub hst _ (by omega), Affine.ok hlb hub hst (by unfold blocks; omega)⟩

open Affine in
/-- The loop after it runs no trip. -/
theorem loop4 (h7 : IsInt v7 s) (h9 : IsInt v9 e) (hse : s ≤ e) (he : e ≤ 32768) :
    (k5_t4_loop v7 v9).trips = 0 ∧ (k5_t4_loop v7 v9).OK := by
  have hb := blocks_int h7 h9 hse he
  have hs : IsInt (Scalar.subi (blocksWord (spanWord v7 v9)) 0#32) (blocks s e : ℕ) :=
    Affine.subi hb (Affine.ofNat 0 ⟨rfl, by decide⟩) (by unfold blocks; omega)
  have hd : IsInt (Scalar.divsi (Scalar.subi (blocksWord (spanWord v7 v9)) 0#32) 1#32) (blocks s e : ℕ) :=
    Affine.divsi_one hs (Affine.ofNat 1 ⟨rfl, by decide⟩) ⟨rfl, rfl⟩
  have hm : IsInt (Scalar.muli (Scalar.divsi (Scalar.subi (blocksWord (spanWord v7 v9)) 0#32) 1#32) 1#32) (blocks s e : ℕ) :=
    Affine.muli hd (Affine.ofNat 1 ⟨rfl, by decide⟩) (by unfold blocks; omega)
  have hlb : IsInt (k5_t4_loop v7 v9).lb (blocks s e : ℕ) :=
    Affine.addi (Affine.ofNat 0 ⟨rfl, by decide⟩) hm (by unfold blocks; omega)
  have hub : IsInt (k5_t4_loop v7 v9).ub (blocks s e : ℕ) :=
    Affine.addi (Affine.ofNat 0 ⟨rfl, by decide⟩) hs (by unfold blocks; omega)
  have hst : IsInt (k5_t4_loop v7 v9).st 1 := Affine.ofNat 1 ⟨rfl, by decide⟩
  exact ⟨Affine.trips_eq hlb hub hst _ (by omega), Affine.ok hlb hub hst (by unfold blocks; omega)⟩

open Affine in
theorem blockStart (h7 : IsInt v7 s) (hs : s ≤ 32768) (t : ℕ) (ht : t ≤ 17) :
    IsInt (Scalar.addi (baseWord v7) (Scalar.muli (Scf.iv 0#32 1#32 t) 2048#32)) ((base s + 2048 * t : ℕ) : Int) := by
  have hiv : IsInt (Scf.iv 0#32 1#32 t) (t : Int) := Affine.iv (Affine.ofNat 0 ⟨rfl, by decide⟩) (Affine.ofNat 1 ⟨rfl, by decide⟩) t (by omega)
  have hm : IsInt (Scalar.muli (Scf.iv 0#32 1#32 t) 2048#32) ((2048 * t : ℕ) : Int) :=
    Affine.muli hiv (Affine.ofNat 2048 ⟨rfl, by decide⟩) (by omega)
  exact Affine.addi (baseWord_int h7 hs) hm (by unfold base; omega)

/-- Block `t` of the slot list starts at the aligned start plus `2048 t`; -/
theorem off3_eq (h7 : Affine.IsInt v7 s) (h9 : Affine.IsInt v9 e) (hse : s ≤ e) (he : e ≤ 32768) (t : Fin (k5_t2_loop v7 v9).trips) :
    k5_off3 v7 v9 t = ![base s + 2048 * t.val] := by
  have ht : t.val < blocks s e := (loop2 h7 h9 hse he).1 ▸ t.isLt
  exact Affine.vec_cons (blockStart h7 (by omega) t.val (by unfold blocks at ht; omega)) rfl Affine.vec_nil
/-- so does block `t` of the values. -/
theorem off4_eq (h7 : Affine.IsInt v7 s) (h9 : Affine.IsInt v9 e) (hse : s ≤ e) (he : e ≤ 32768) (t : Fin (k5_t2_loop v7 v9).trips) :
    k5_off4 v7 v9 t = ![base s + 2048 * t.val] := off3_eq h7 h9 hse he t

/-- Every block lies in the padded lists, and the loops have a meaning: what the body checks. -/
theorem chk1 (i : grid5.Coords) (h7 : Affine.IsInt v7 s) (h9 : Affine.IsInt v9 e) (hse : s ≤ e) (he : e ≤ 32768) : k5_chk1 i v7 v9 := by
  have h4 : (k5_t4_loop v7 v9).trips = 0 := (loop4 h7 h9 hse he).1
  refine ⟨fun _ => (loop2 h7 h9 hse he).2, fun t _ a => ?_, fun t _ a => ?_, fun _ => (loop4 h7 h9 hse he).2, fun t => ?_, fun t => ?_⟩
  · have ht : t.val < blocks s e := (loop2 h7 h9 hse he).1 ▸ t.isLt
    rw [off3_eq h7 h9 hse he, Fin.eq_zero a]
    show base s + 2048 * t.val + 2064 ≤ 36864
    unfold blocks at ht; unfold base at *; omega
  · have ht : t.val < blocks s e := (loop2 h7 h9 hse he).1 ▸ t.isLt
    rw [off4_eq h7 h9 hse he, Fin.eq_zero a]
    show base s + 2048 * t.val + 2048 ≤ 36864
    unfold blocks at ht; unfold base at *; omega
  · exact absurd t.isLt (by omega)
  · exact absurd t.isLt (by omega)

/-- Which lanes of a group write before the repeated slots are dropped: those whose position is the row's. -/
theorem valid_lane {F : FTy → Type} [FloatOps F] (h7 : Affine.IsInt v7 s) (h9 : Affine.IsInt v9 e) (hse : s ≤ e) (he : e ≤ 32768) (t g : ℕ) (ht : t ≤ 17) (hg : g < 128)
    (k : ℕ) (hk : k < 16) :
    Slots.laneSet (N := 16) (andi (cmpi .sge (addi (broadcast S16 (Scalar.addi (Scalar.addi (baseWord v7) (Scalar.muli (Scf.iv 0#32 1#32 t) 2048#32))
        (Scalar.muli (Scf.iv 0#32 1#32 g) 16#32))) (iota .scVector S16 32 [0] Facts₀.iota_S16_d0_w32_scVector)) (broadcast S16 v7))
      (cmpi .slt (addi (broadcast S16 (Scalar.addi (Scalar.addi (baseWord v7) (Scalar.muli (Scf.iv 0#32 1#32 t) 2048#32))
        (Scalar.muli (Scf.iv 0#32 1#32 g) 16#32))) (iota .scVector S16 32 [0] Facts₀.iota_S16_d0_w32_scVector)) (broadcast S16 v9))) k
      ↔ (s ≤ base s + 2048 * t + 16 * g + k ∧ base s + 2048 * t + 16 * g + k < e) := by
  have hb := blockStart h7 (by omega) t ht
  have hiv : Affine.IsInt (Scf.iv 0#32 1#32 g) (g : Int) := Affine.iv (Affine.ofNat 0 ⟨rfl, by decide⟩) (Affine.ofNat 1 ⟨rfl, by decide⟩) g (by omega)
  have hm : Affine.IsInt (Scalar.muli (Scf.iv 0#32 1#32 g) 16#32) ((16 * g : ℕ) : Int) :=
    Affine.muli hiv (Affine.ofNat 16 ⟨rfl, by decide⟩) (by omega)
  have hp := Affine.addi hb hm (e := ((base s + 2048 * t + 16 * g : ℕ) : Int)) (by unfold base; omega)
  have hl : Affine.IsInt (BitVec.ofNat 32 k) (k : Int) := Affine.ofNat k ⟨rfl, by omega⟩
  have hq := Affine.addi hp hl (e := ((base s + 2048 * t + 16 * g + k : ℕ) : Int)) (by unfold base; omega)
  have hio : (iota .scVector S16 32 [0] Facts₀.iota_S16_d0_w32_scVector) (Shape.ofLane (d := ![16]) ⟨k, hk⟩) = BitVec.ofNat 32 k := by
    show BitVec.ofNat 32 (0 * 16 + k) = _
    rw [Nat.zero_mul, Nat.zero_add]
  have hge : (s ≤ base s + 2048 * t + 16 * g + k) ↔ Scalar.cmpi .sge (Scalar.addi (Scalar.addi (Scalar.addi (baseWord v7) (Scalar.muli (Scf.iv 0#32 1#32 t) 2048#32))
        (Scalar.muli (Scf.iv 0#32 1#32 g) 16#32)) (BitVec.ofNat 32 k)) v7 = 1#1 := by
    constructor
    · intro h; exact Affine.sge_holds hq h7 (by omega)
    · intro h; by_contra hc; exact Affine.sge_fails hq h7 (by omega) h
  have hlt : (base s + 2048 * t + 16 * g + k < e) ↔ Scalar.cmpi .slt (Scalar.addi (Scalar.addi (Scalar.addi (baseWord v7) (Scalar.muli (Scf.iv 0#32 1#32 t) 2048#32))
        (Scalar.muli (Scf.iv 0#32 1#32 g) 16#32)) (BitVec.ofNat 32 k)) v9 = 1#1 := by
    constructor
    · intro h; exact Affine.slt_holds hq h9 (by omega)
    · intro h; by_contra hc; exact Affine.slt_fails hq h9 (by omega) h
  rw [hge, hlt, ← hio]
  exact ⟨fun h => IntOp.andi_eq_one.1 h.2, fun h => ⟨hk, IntOp.andi_eq_one.2 h⟩⟩

variable {F : FTy → Type} [FloatOps F]

/-- One group's store read at a slot: the slot sixteen positions on. `val` and `at` are the values and slots by
    position. -/
theorem group_store (h7 : Affine.IsInt v7 s) (h9 : Affine.IsInt v9 e) (hse : s ≤ e) (he : e ≤ 32768)
    (t : Fin (k5_t2_loop v7 v9).trips) (g : Fin k5_t3_loop.trips) (z : Elt F .f32) (target : ℕ → ℕ) (val : ℕ → Elt F .f32)
    (f : Vec F S4096 .f32) (v64 : Vec F S16 .i32) (v66 : Vec F S16 .f32)
    (h : ∀ a x, ((![v64] : Fin 1 → IVec S16 32) a x).toNat < S4096.size a)
    (hix : ∀ x : S16.Idx, (v64 x).toNat = target (base s + 2048 * t.val + 16 * g.val + (x 0).val))
    (hval : ∀ x : S16.Idx, v66 x = val (base s + 2048 * t.val + 16 * g.val + (x 0).val))
    (hf : ∀ j : S4096.Idx, f j = Slots.slot z target val s e (j 0).val (base s + 2048 * t.val + 16 * g.val)) (j : S4096.Idx) :
    storeIdx (F := F) (s := S4096) f ![v64] v66
        (k5_pay2 (F := F) v7 v9 (iota .scVector S16 32 [0] Facts₀.iota_S16_d0_w32_scVector) (baseWord v7) t g v64) false h j
      = Slots.slot z target val s e (j 0).val (base s + 2048 * t.val + 16 * (g.val + 1)) := by
  have ht : t.val < blocks s e := (loop2 h7 h9 hse he).1 ▸ t.isLt
  have ht' : t.val ≤ 17 := by unfold blocks at ht; omega
  have hg : g.val < 128 := g.isLt
  rw [show base s + 2048 * t.val + 16 * (g.val + 1) = (base s + 2048 * t.val + 16 * g.val) + 16 by omega, Slots.slot_add, ← hf j]
  refine (Slots.storeIdx_row (N := 16) (C := 4096) f v64 v66 _ h (fun k => val (base s + 2048 * t.val + 16 * g.val + k))
    (fun k hk => (hval (Shape.ofLane (d := ![16]) ⟨k, hk⟩)).symm) j).trans ?_
  have htar : ∀ k, k < 16 → Slots.laneNat (N := 16) v64 k = target (base s + 2048 * t.val + 16 * g.val + k) := fun k hk =>
    (dif_pos hk).trans (hix (Shape.ofLane (d := ![16]) ⟨k, hk⟩))
  refine (Slots.lanes_keep (Slots.laneSet (N := 16) _) (Slots.laneSet (N := 16) _) _ _ _ _ 16 fun k hk => Slots.laneSet_scan (N := 16) _ v64 k hk).trans ?_
  exact Slots.lanes_congr _ _ _ _ _ 16 fun k hk => ⟨valid_lane (F := F) h7 h9 hse he t.val g.val ht' hg k hk, htar k hk⟩

end Cert.Proof.Scatter

end
-- ==== Proof.Tile.lean ====
/- One row writer, on a symbolic vector subcore: the subcore of row `w` reads the row's first and last position, zeroes
   its scratch row, walks the blocks of positions that cover the row storing each group of sixteen values at its
   actions, and copies the scratch row to row `w` of the output. The scratch row's contents are carried as
   `Slots.slot`: the last value whose action is the entry, zero where there is none. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.Affine.Words
public import proofs.«01_k».proof.Proof.Gen.KernelIdeal
public import proofs.«01_k».proof.Proof.Chains
public import proofs.«01_k».proof.Proof.Setup

@[expose] public section

noncomputable section

namespace Cert.Proof.Scatter

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What the row writers compute -/

/-- Zero. -/
abbrev z0 [FloatOps F] : F .f32 := Scalar.ofBits .f32 0x00000000#32
/-- The action of position `p`. -/
def actionAt (fM : IVec S36864 32) (p : ℕ) : ℕ := if h : p < 36864 then (fM (Shape.ofLane (d := ![36864]) ⟨p, h⟩)).toNat else 0
/-- The value of position `p`. -/
def valueAt [FloatOps F] (fV : FVec F S36864 .f32) (p : ℕ) : F .f32 := if h : p < 36864 then fV (Shape.ofLane (d := ![36864]) ⟨p, h⟩) else z0
/-- Row `w`'s first position. -/
def loAt (fO : IVec S32x16 32) (w : ℕ) : ℕ := if h : w < 32 then (fO (ValueIdx.ix2 ⟨w, h⟩ (0 : Fin 16))).toNat else 0
/-- The position after row `w`'s last. -/
def hiAt (fO : IVec S32x16 32) (w : ℕ) : ℕ := if h : w < 32 then (fO (ValueIdx.ix2 ⟨w, h⟩ (1 : Fin 16))).toNat else 0
/-- The output: entry `(w, j)` is the last of row `w`'s values whose action is `j`, zero where there is none. -/
def rowsOf [FloatOps F] (fV : FVec F S36864 .f32) (fM : IVec S36864 32) (fO : IVec S32x16 32) : FVec F S16x4096 .f32 := fun x =>
  Slots.slot z0 (actionAt fM) (valueAt fV) (loAt fO (x 0).val) (hiAt fO (x 0).val) (x 1).val 32768
/-- Every action is below 4096, and the first sixteen rows' bounds are in order and at most 32768. -/
def Good (fM : IVec S36864 32) (fO : IVec S32x16 32) : Prop :=
  (∀ p, (fM p).toNat < 4096) ∧ ∀ w, w < 16 → loAt fO w ≤ hiAt fO w ∧ hiAt fO w ≤ 32768

local notation "𝕄" => MT nD τ sig (HIx 3) (Elt F) ℕ UU ℕ

abbrev vLoc (d : Dev nD) : Loc nD τ sig := (SparseCore.T d).loc main_v17
abbrev mLoc (d : Dev nD) : Loc nD τ sig := (SparseCore.T d).loc main_v18
abbrev oLoc (d : Dev nD) : Loc nD τ sig := (SparseCore.T d).loc main_v7
abbrev rLoc (d : Dev nD) : Loc nD τ sig := (SparseCore.T d).loc main_v19

local notation "vV" => (Memref.whole Cert.KernelIdeal.main_v17_scv : Memref Cert.KernelIdeal.sig Kind.scVector Space.hbm Cert.KernelIdeal.S36864 EltTy.f32)
local notation "mV" => (Memref.whole Cert.KernelIdeal.main_v18_scv : Memref Cert.KernelIdeal.sig Kind.scVector Space.hbm Cert.KernelIdeal.S36864 EltTy.i32)
local notation "oV" => (Memref.whole Cert.KernelIdeal.main_v7_scv : Memref Cert.KernelIdeal.sig Kind.scVector Space.hbm Cert.KernelIdeal.S32x16 EltTy.i32)
local notation "rV" => (Memref.whole Cert.KernelIdeal.main_v19_scv : Memref Cert.KernelIdeal.sig Kind.scVector Space.hbm Cert.KernelIdeal.S16x4096 EltTy.f32)
local notation "sB" => (Memref.whole Cert.KernelIdeal.cc5_scratch0 : Memref Cert.KernelIdeal.sig Kind.scVector Space.vmem Cert.KernelIdeal.S16 EltTy.i32)
local notation "sM" => (Memref.whole Cert.KernelIdeal.cc5_scratch1 : Memref Cert.KernelIdeal.sig Kind.scVector Space.vmem Cert.KernelIdeal.S2064 EltTy.i32)
local notation "sW" => (Memref.whole Cert.KernelIdeal.cc5_scratch2 : Memref Cert.KernelIdeal.sig Kind.scVector Space.vmem Cert.KernelIdeal.S2048 EltTy.f32)
local notation "sR" => (Memref.whole Cert.KernelIdeal.cc5_scratch3 : Memref Cert.KernelIdeal.sig Kind.scVector Space.vmem Cert.KernelIdeal.S4096 EltTy.f32)

variable [FloatOps F] (d : Dev nD) (L : grid5.Coords)

abbrev cV (L : grid5.Coords) : Fin τ.nSC := (L 0).castLE hcore5
abbrev jV (L : grid5.Coords) : Fin τ.nSub := (L 1).castLE hsub5
/-- The row a subcore writes. -/
abbrev wid (L : grid5.Coords) : ℕ := 2 * (L 1).val + (L 0).val

/-! ## Zeroing the scratch row -/

/-- After `k` groups, the first `16 * k` entries are zero. -/
def invZ (k : ℕ) (_ : PUnit) : sProp 𝕄 :=
  iprop(∃ f : Buf (Elt F) ((V d (cV L) (jV L)).loc cc5_scratch3), ⌜∀ x : S4096.Idx, (x 0).val < 16 * k → (f : FVec F S4096 .f32) x = z0⌝
    ∗ ((sR).view.loc (V d (cV L) (jV L)) ↦{fullShare} f))

theorem zero_region (h1 : k5_cond1 L = 1#1) (k : Fin k5_t1_loop.trips) :
    invZ (F := F) d L k.val ⟨⟩
      ⊢ wp frame (wpE (defs₀ (F := F)) 𝒱₀ (V d (cV L) (jV L)) none) Set.univ
          (k5_t1_body L vV (Memref.isWhole_whole _) mV (Memref.isWhole_whole _) oV (Memref.isWhole_whole _) rV (Memref.isWhole_whole _)
            sB (Memref.isWhole_whole _) sM (Memref.isWhole_whole _) sW (Memref.isWhole_whole _) sR (Memref.isWhole_whole _)
            cc5_scoped0 cc5_scoped1 cc5_scoped2 cc5_scoped3 cc5_scoped4 cc5_scoped5 h1 k ⟨⟩)
          fun _ => invZ (F := F) d L (k.val + 1) ⟨⟩ := by
  unfold invZ k5_t1_body
  iintro ⟨%f, %hf, H⟩
  simp only [Prog.lift, Prog.bind_op, Prog.bind_ret]
  iapply (wp_load 𝒱₀ (V d (cV L) (jV L)) none Set.univ (m := (sR)) (S := Finset.univ) (Finset.subset_univ _)) $$ H; iintro H
  iapply (wp_store 𝒱₀ (V d (cV L) (jV L)) none Set.univ (m := (sR)) (r := Rect.unit (s := S4096) (k5_off2 k) S16.size (k5_off2_inb L k h1))
    (Mk := Finset.univ) (S := Finset.univ) (Finset.subset_univ _)) $$ H; iintro H
  sl_step
  iexists _; isplitr
  swap; · iexact H
  ipureintro; intro x hx
  by_cases hy : ∃ y, ((sR).access (Rect.unit (s := S4096) (k5_off2 k) S16.size (k5_off2_inb L k h1))).emb y = x
  · obtain ⟨y, rfl⟩ := hy
    exact (View.write_emb_of_mem (Val := Elt F) (v := (sR).access (Rect.unit (s := S4096) (k5_off2 k) S16.size (k5_off2_inb L k h1))) _ _ (Finset.mem_univ y)).trans rfl
  · refine (View.write_of_not_mem (Val := Elt F) (v := (sR).access (Rect.unit (s := S4096) (k5_off2 k) S16.size (k5_off2_inb L k h1))) _ _ _ ?_).trans (hf x ?_)
    · intro hm
      obtain ⟨y, -, hy'⟩ := Finset.mem_map.mp hm
      exact hy ⟨y, hy'⟩
    · by_contra hlt
      refine hy ⟨Shape.ofLane (d := ![16]) ⟨(x 0).val - 16 * k.val, show (x 0).val - 16 * k.val < 16 by omega⟩, ?_⟩
      funext (a : Fin 1)
      obtain rfl : a = 0 := Subsingleton.elim _ _
      apply Fin.ext
      show k5_off2 k 0 + 1 * ((x 0).val - 16 * k.val) = (x 0).val
      rw [k5_off2_eq]
      show 16 * k.val + 1 * ((x 0).val - 16 * k.val) = (x 0).val
      omega

/-! ## One group of sixteen positions -/

theorem actionAt_lt {fM : IVec S36864 32} (h : ∀ p, (fM p).toNat < 4096) (p : ℕ) : actionAt fM p < 4096 := by
  unfold actionAt
  split
  · exact h _
  · omega

/-- The scratch row after `g` groups of block `t`, the block's actions and values beside it. -/
def invG (fV : FVec F S36864 .f32) (fM : IVec S36864 32) (s e : ℕ) (t : ℕ) (fm : Buf (Elt F) ((V d (cV L) (jV L)).loc cc5_scratch1))
    (fw : Buf (Elt F) ((V d (cV L) (jV L)).loc cc5_scratch2)) (g : ℕ) (_ : PUnit) : sProp 𝕄 :=
  iprop(∃ f : Buf (Elt F) ((V d (cV L) (jV L)).loc cc5_scratch3),
    ⌜∀ j : S4096.Idx, (f : FVec F S4096 .f32) j = Slots.slot z0 (actionAt fM) (valueAt fV) s e (j 0).val (base s + 2048 * t + 16 * g)⌝
    ∗ ((sR).view.loc (V d (cV L) (jV L)) ↦{fullShare} f)
    ∗ ((sM).view.loc (V d (cV L) (jV L)) ↦{fullShare} fm)
    ∗ ((sW).view.loc (V d (cV L) (jV L)) ↦{fullShare} fw))

theorem group_region {v7 v9 : BitVec 32} {s e : ℕ} (h7 : Affine.IsInt v7 s) (h9 : Affine.IsInt v9 e) (hse : s ≤ e) (he : e ≤ 32768)
    (fV : FVec F S36864 .f32) (fM : IVec S36864 32) (hM : ∀ p, (fM p).toNat < 4096) (t : Fin (k5_t2_loop v7 v9).trips)
    (fm : Buf (Elt F) ((V d (cV L) (jV L)).loc cc5_scratch1)) (fw : Buf (Elt F) ((V d (cV L) (jV L)).loc cc5_scratch2))
    (hfm : ∀ x : S2064.Idx, ((fm : IVec S2064 32) x).toNat = actionAt fM (base s + 2048 * t.val + (x 0).val))
    (hfw : ∀ x : S2048.Idx, (fw : FVec F S2048 .f32) x = valueAt fV (base s + 2048 * t.val + (x 0).val))
    (h1 : k5_cond1 L = 1#1) (g : Fin k5_t3_loop.trips) :
    invG (F := F) d L fV fM s e t.val fm fw g.val ⟨⟩
      ⊢ wp frame (wpE (defs₀ (F := F)) 𝒱₀ (V d (cV L) (jV L)) none) Set.univ
          (k5_t3_body L vV (Memref.isWhole_whole _) mV (Memref.isWhole_whole _) oV (Memref.isWhole_whole _) rV (Memref.isWhole_whole _)
            sB (Memref.isWhole_whole _) sM (Memref.isWhole_whole _) sW (Memref.isWhole_whole _) sR (Memref.isWhole_whole _)
            cc5_scoped0 cc5_scoped1 cc5_scoped2 cc5_scoped3 cc5_scoped4 cc5_scoped5 h1 v7 v9
            (iota .scVector S16 32 [0] Facts₀.iota_S16_d0_w32_scVector) (baseWord v7) t g ⟨⟩)
          fun _ => invG (F := F) d L fV fM s e t.val fm fw (g.val + 1) ⟨⟩ := by
  unfold invG k5_t3_body
  iintro ⟨%f, %hf, H, Hm, Hw⟩
  simp only [Prog.lift, Prog.bind_op, Prog.bind_ret]
  have hix : ∀ x : S16.Idx, ((sM).view.readAt (Elt F) (Rect.unit (s := S2064) (k5_off5 g) S16.size (k5_off5_inb L g h1)).toLoadRect fm x).toNat
      = actionAt fM (base s + 2048 * t.val + 16 * g.val + (x 0).val) := by
    intro x
    simp only [View.readAt_apply, Memref.view_whole, View.read_whole]
    rw [hfm]
    congr 1
    rw [LoadRect.idx_apply]
    show base s + 2048 * t.val + (k5_off5 g 0 + 1 * (x 0).val) = _
    rw [k5_off5_eq]
    show base s + 2048 * t.val + (16 * g.val + 1 * (x 0).val) = _
    omega
  have hval : ∀ x : S16.Idx, (sW).view.readAt (Elt F) (Rect.unit (s := S2048) (k5_off6 g) S16.size (k5_off6_inb L g h1)).toLoadRect fw x
      = valueAt fV (base s + 2048 * t.val + 16 * g.val + (x 0).val) := by
    intro x
    simp only [View.readAt_apply, Memref.view_whole, View.read_whole]
    rw [hfw]
    congr 1
    rw [LoadRect.idx_apply]
    show base s + 2048 * t.val + (k5_off6 g 0 + 1 * (x 0).val) = _
    rw [k5_off6_eq]
    show base s + 2048 * t.val + (16 * g.val + 1 * (x 0).val) = _
    omega
  have hchk : k5_chk2 L ((sM).view.readAt (Elt F) (Rect.unit (s := S2064) (k5_off5 g) S16.size (k5_off5_inb L g h1)).toLoadRect fm) := by
    intro h1' a x
    obtain rfl : a = 0 := Subsingleton.elim _ _
    show ((sM).view.readAt (Elt F) (Rect.unit (s := S2064) (k5_off5 g) S16.size (k5_off5_inb L g h1)).toLoadRect fm x).toNat < 4096
    rw [hix]; exact actionAt_lt hM _
  iapply (wp_load 𝒱₀ (V d (cV L) (jV L)) none Set.univ (m := (sM)) (S := Finset.univ) (Finset.subset_univ _)) $$ Hm; iintro Hm
  rw [wp_assume_of _ _ _ _ hchk]
  iapply (wp_load 𝒱₀ (V d (cV L) (jV L)) none Set.univ (m := (sW)) (S := Finset.univ) (Finset.subset_univ _)) $$ Hw; iintro Hw
  ihave H' := (Entails.of_eq (show ((sR).view.loc (V d (cV L) (jV L)) ↦{fullShare} f : sProp 𝕄)
    = (((sR).access (.whole S4096)).loc (V d (cV L) (jV L)) ↦[((sR).access (.whole S4096)).set]{fullShare} f) by
      rw [show ((sR).access (.whole S4096)).set = Finset.univ from Memref.set_access_whole (cc5_scratch3 : Ref sig .scVector)])) $$ H
  iapply (SparseCore.wp_vectorStoreIdx 𝒱₀ (V d (cV L) (jV L)) none Set.univ (base := (sR))) $$ H'; iintro H'
  sl_step
  iexists _; isplitr
  swap
  · isplitl [H']
    · iapply (Entails.of_eq (show (((sR).access (.whole S4096)).loc (V d (cV L) (jV L)) ↦[((sR).access (.whole S4096)).set]{fullShare} _ : sProp 𝕄)
        = ((sR).view.loc (V d (cV L) (jV L)) ↦{fullShare} _) by
        rw [show ((sR).access (.whole S4096)).set = Finset.univ from Memref.set_access_whole (cc5_scratch3 : Ref sig .scVector)]))
      iexact H'
    isplitl [Hm]
    · iexact Hm
    · iexact Hw
  ipureintro; intro j
  refine (congrFun (Memref.write_access_whole_univ (Elt F) (cc5_scratch3 : Ref sig .scVector) _ _) j).trans ?_
  rw [Memref.read_access_whole]
  exact group_store h7 h9 hse he t g z0 (actionAt fM) (valueAt fV) f _ _ _ hix hval hf j

/-! ## One block of positions -/

abbrev cell (d : Dev nD) (L : grid5.Coords) (q : DmaSems sig S_) : GSem nD τ sig := (V d (cV L) (jV L), .dma q.sem)

/-- The scratch row after `t` blocks; the values and the actions are read through shares. -/
def invB (qv qm : PosShare TreeShare) (fV : FVec F S36864 .f32) (fM : IVec S36864 32) (s e : ℕ) (O : CellTallies nD τ sig (HIx 3)) (W : Waits sig (HIx 3))
    (t : ℕ) (_ : PUnit) : sProp 𝕄 :=
  iprop(Transfers.MayWaits (V d (cV L) (jV L)) (default : HIx 3) O
    ∗ ((vV).view.loc (V d (cV L) (jV L)) ↦{qv} (fV : Buf (Elt F) (vLoc d)))
    ∗ ((mV).view.loc (V d (cV L) (jV L)) ↦{qm} (fM : Buf (Elt F) (mLoc d)))
    ∗ (∃ fm : Buf (Elt F) ((V d (cV L) (jV L)).loc cc5_scratch1), (sM).view.loc (V d (cV L) (jV L)) ↦{fullShare} fm)
    ∗ (∃ fw : Buf (Elt F) ((V d (cV L) (jV L)).loc cc5_scratch2), (sW).view.loc (V d (cV L) (jV L)) ↦{fullShare} fw)
    ∗ (∃ f : Buf (Elt F) ((V d (cV L) (jV L)).loc cc5_scratch3),
        ⌜∀ j : S4096.Idx, (f : FVec F S4096 .f32) j = Slots.slot z0 (actionAt fM) (valueAt fV) s e (j 0).val (base s + 2048 * t)⌝
        ∗ ((sR).view.loc (V d (cV L) (jV L)) ↦{fullShare} f))
    ∗ semVal (cell d L cc5_scoped1) 0 ∗ semVal (cell d L cc5_scoped2) 0
    ∗ ∃ W', ⌜∀ p ∈ W', p ∈ W ∨ p.2 = none⌝ ∗ owes (V d (cV L) (jV L)) O W')

/-- What a block's copy of the actions lands. -/
theorem landed_actions {v7 v9 : BitVec 32} {s e : ℕ} (h7 : Affine.IsInt v7 s) (h9 : Affine.IsInt v9 e) (hse : s ≤ e) (he : e ≤ 32768)
    (fM : IVec S36864 32) (t : Fin (k5_t2_loop v7 v9).trips) (h1 : k5_cond1 L = 1#1) (hw : k5_chk1 L v7 v9) (x : S2064.Idx) :
    ((((mV).slice (Rect.unit (s := S36864) (k5_off3 v7 v9 t) S2064.size (k5_off3_inb L v7 v9 hw t h1)) (fun _ => rfl)).view.read (Elt F)
        (fM : Buf (Elt F) (mLoc d)) : IVec S2064 32) x).toNat = actionAt fM (base s + 2048 * t.val + (x 0).val) := by
  have hi := k5_off3_inb L v7 v9 hw t h1 0
  have hx : (x 0).val < 2064 := (x 0).isLt
  rw [off3_eq h7 h9 hse he t] at hi
  replace hi : base s + 2048 * t.val + 2064 ≤ 36864 := hi
  unfold actionAt
  rw [dif_pos (show base s + 2048 * t.val + (x 0).val < 36864 by omega)]
  refine congrArg BitVec.toNat (congrArg fM ?_)
  funext (a : Fin 1)
  obtain rfl : a = 0 := Subsingleton.elim _ _
  apply Fin.ext
  show k5_off3 v7 v9 t 0 + 1 * (x 0).val = base s + 2048 * t.val + (x 0).val
  rw [off3_eq h7 h9 hse he t]
  show base s + 2048 * t.val + 1 * (x 0).val = _
  omega

/-- What a block's copy of the values lands. -/
theorem landed_values {v7 v9 : BitVec 32} {s e : ℕ} (h7 : Affine.IsInt v7 s) (h9 : Affine.IsInt v9 e) (hse : s ≤ e) (he : e ≤ 32768)
    (fV : FVec F S36864 .f32) (t : Fin (k5_t2_loop v7 v9).trips) (h1 : k5_cond1 L = 1#1) (hw : k5_chk1 L v7 v9) (x : S2048.Idx) :
    (((vV).slice (Rect.unit (s := S36864) (k5_off4 v7 v9 t) S2048.size (k5_off4_inb L v7 v9 hw t h1)) (fun _ => rfl)).view.read (Elt F)
        (fV : Buf (Elt F) (vLoc d)) : FVec F S2048 .f32) x = valueAt fV (base s + 2048 * t.val + (x 0).val) := by
  have hi := k5_off4_inb L v7 v9 hw t h1 0
  have hx : (x 0).val < 2048 := (x 0).isLt
  rw [off4_eq h7 h9 hse he t] at hi
  replace hi : base s + 2048 * t.val + 2048 ≤ 36864 := hi
  unfold valueAt
  rw [dif_pos (show base s + 2048 * t.val + (x 0).val < 36864 by omega)]
  refine congrArg fV ?_
  funext (a : Fin 1)
  obtain rfl : a = 0 := Subsingleton.elim _ _
  apply Fin.ext
  show k5_off4 v7 v9 t 0 + 1 * (x 0).val = base s + 2048 * t.val + (x 0).val
  rw [off4_eq h7 h9 hse he t]
  show base s + 2048 * t.val + 1 * (x 0).val = _
  omega

theorem block_region {v7 v9 : BitVec 32} {s e : ℕ} (h7 : Affine.IsInt v7 s) (h9 : Affine.IsInt v9 e) (hse : s ≤ e) (he : e ≤ 32768)
    (qv qm : PosShare TreeShare)
    (fV : FVec F S36864 .f32) (fM : IVec S36864 32) (hM : ∀ p, (fM p).toNat < 4096) (O : CellTallies nD τ sig (HIx 3)) (W : Waits sig (HIx 3))
    (h1 : k5_cond1 L = 1#1) (hw : k5_chk1 L v7 v9) (t : Fin (k5_t2_loop v7 v9).trips) :
    invB (F := F) d L qv qm fV fM s e O W t.val ⟨⟩
      ⊢ wp frame (wpE (defs₀ (F := F)) 𝒱₀ (V d (cV L) (jV L)) none) Set.univ
          (k5_t2_body L vV (Memref.isWhole_whole _) mV (Memref.isWhole_whole _) oV (Memref.isWhole_whole _) rV (Memref.isWhole_whole _)
            sB (Memref.isWhole_whole _) sM (Memref.isWhole_whole _) sW (Memref.isWhole_whole _) sR (Memref.isWhole_whole _)
            cc5_scoped0 cc5_scoped1 cc5_scoped2 cc5_scoped3 cc5_scoped4 cc5_scoped5 h1 v7 v9 hw
            (iota .scVector S16 32 [0] Facts₀.iota_S16_d0_w32_scVector) (baseWord v7) t ⟨⟩)
          fun _ => invB (F := F) d L qv qm fV fM s e O W (t.val + 1) ⟨⟩ := by
  unfold invB k5_t2_body
  iintro ⟨Hmw, Hv, Hm, ⟨%fm, Hsm⟩, ⟨%fw, Hsw⟩, ⟨%f, %hf, H⟩, Hc1, Hc2, %W', %hW', HO⟩
  sl_exec
  have hfm : ∀ x : S2064.Idx, ((View.write (Elt F) (sM).view fm (block_region.sl.dma0 L fM h1 hw t) Finset.univ : IVec S2064 32) x).toNat
      = actionAt fM (base s + 2048 * t.val + (x 0).val) := fun x => by
    rw [View.write_whole_univ]
    exact landed_actions L h7 h9 hse he fM t h1 hw x
  have hfw : ∀ x : S2048.Idx, (View.write (Elt F) (sW).view fw (block_region.sl.dma0_1 L fV h1 hw t) Finset.univ : FVec F S2048 .f32) x
      = valueAt fV (base s + 2048 * t.val + (x 0).val) := fun x => by
    rw [View.write_whole_univ]
    exact landed_values L h7 h9 hse he fV t h1 hw x
  sl_for (invG (F := F) d L fV fM s e t.val (View.write (Elt F) (sM).view fm (block_region.sl.dma0 L fM h1 hw t) Finset.univ)
    (View.write (Elt F) (sW).view fw (block_region.sl.dma0_1 L fV h1 hw t) Finset.univ)) $$ [H Hsm Hsw]
  case region =>
    intro g _
    exact group_region d L h7 h9 hse he fV fM hM t _ _ hfm hfw h1 g
  · unfold invG
    iexists f; isplitr
    · ipureintro; intro j
      rw [hf j, Nat.mul_zero, Nat.add_zero]
    isplitl [H]; · iexact H
    isplitl [Hsm]
    · iexact Hsm
    · iexact Hsw
  unfold invG
  iintro %_ ⟨%f', %hf', H, Hsm, Hsw⟩
  sl_step
  isplitl [Hmw]; · iexact Hmw
  isplitl [Hv]; · iexact Hv
  isplitl [Hm]; · iexact Hm
  isplitl [Hsm]; · iexists _; iexact Hsm
  isplitl [Hsw]; · iexists _; iexact Hsw
  isplitl [H]
  · iexists f'; isplitr
    · ipureintro; intro j
      have htr : k5_t3_loop.trips = 128 := by decide
      rw [hf' j, show base s + 2048 * t.val + 16 * k5_t3_loop.trips = base s + 2048 * (t.val + 1) by rw [htr]; omega]
    · iexact H
  isplitl [Hc1]; · iexact Hc1
  isplitl [Hc2]; · iexact Hc2
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The whole row -/

abbrev rowRect (h1 : k5_cond1 L = 1#1) : Rect S16x4096 := Rect.unit (s := S16x4096) (k5_off11 L) S1x4096.size (k5_off11_inb L h1)
abbrev rowK (h1 : k5_cond1 L = 1#1) : Memref sig .scVector .hbm S4096 .f32 := ((rV).slice (rowRect L h1) (fun _ => rfl)).squeeze S4096 squeezes_S1x4096_S4096

/-- The entries of row `w` of the output. -/
def rowSet (w : ℕ) : Finset S16x4096.Idx := Finset.univ.filter fun x => (x 0).val = w

theorem cond_iff : ∀ L : grid5.Coords, k5_cond1 L = 1#1 ↔ wid L < 16 := by decide +kernel

/-- Adding a leading axis of one entry to a position. -/
theorem squeezed {n : ℕ} (h : (⟨1, ![n]⟩ : Shape).numel = (⟨2, ![1, n]⟩ : Shape).numel) (x : (⟨1, ![n]⟩ : Shape).Idx) :
    Shape.reshapeEquiv h x = ValueIdx.ix2 (0 : Fin 1) (x 0) := by
  refine (Shape.reshapeEquiv_cons_one h x).trans ?_
  funext a
  match a with
  | 0 => rfl
  | 1 => rfl

theorem emb_rowK (h1 : k5_cond1 L = 1#1) (x : S4096.Idx) (hw : wid L < 16) :
    (rowK L h1).view.emb x = ValueIdx.ix2 (⟨wid L, hw⟩ : Fin 16) (x 0) := by
  show (rowRect L h1).emb (Shape.reshapeEquiv _ x) = _
  rw [squeezed]
  funext a
  apply Fin.ext
  match a with
  | 0 =>
    show k5_off11 L 0 + 1 * 0 = wid L
    rw [k5_off11_eq]; rfl
  | 1 =>
    show k5_off11 L 1 + 1 * (x 0).val = (x 0).val
    rw [k5_off11_eq]
    show 0 + 1 * (x 0).val = (x 0).val
    omega

theorem set_rowK (h1 : k5_cond1 L = 1#1) : (rowK L h1).view.set = rowSet (wid L) := by
  have hw := (cond_iff L).mp h1
  ext y
  constructor
  · intro hy
    obtain ⟨x, -, rfl⟩ := Finset.mem_map.mp hy
    rw [emb_rowK L h1 x hw]
    exact Finset.mem_filter.mpr ⟨Finset.mem_univ _, rfl⟩
  · intro hy
    have hy' := (Finset.mem_filter.mp hy).2
    refine Finset.mem_map.mpr ⟨Shape.ofLane (d := ![4096]) (y 1), Finset.mem_univ _, ?_⟩
    rw [emb_rowK L h1 _ hw]
    funext a
    apply Fin.ext
    match a with
    | 0 => exact hy'.symm
    | 1 => rfl

theorem ownSems0_V (F : FTy → Type) :
    (ownSems0 (V d (cV L) (jV L)) : sProp 𝕄)
      = iprop(semVal (cell d L cc5_scoped0) 0 ∗ semVal (cell d L cc5_scoped1) 0 ∗ semVal (cell d L cc5_scoped2) 0 ∗ semVal (cell d L cc5_scoped5) 0
          ∗ bigSep (((((ownCells (V d (cV L) (jV L))).erase (cell d L cc5_scoped0)).erase (cell d L cc5_scoped1)).erase (cell d L cc5_scoped2)).erase (cell d L cc5_scoped5))
              fun g => semVal g 0) := by
  have hm : ∀ q : DmaSems sig S_, (SemLoc.dma q.sem : SemLoc sig).isScoped .scVector = true → cell d L q ∈ ownCells (V d (cV L) (jV L)) := fun q h =>
    (mem_ownCells (g := cell d L q)).mpr ⟨rfl, h⟩
  have hne : ∀ q q' : DmaSems sig S_, q.sem ≠ q'.sem → cell d L q ≠ cell d L q' := fun q q' h e => h (SemLoc.dma.inj (congrArg Prod.snd e))
  unfold SparseCore.Cfg.ownSems0
  rw [SparseCore.bigSep_erase' (hm cc5_scoped0 (by decide)),
    SparseCore.bigSep_erase' (Finset.mem_erase.mpr ⟨hne cc5_scoped1 cc5_scoped0 (by decide), hm cc5_scoped1 (by decide)⟩),
    SparseCore.bigSep_erase' (Finset.mem_erase.mpr ⟨hne cc5_scoped2 cc5_scoped1 (by decide), Finset.mem_erase.mpr ⟨hne cc5_scoped2 cc5_scoped0 (by decide), hm cc5_scoped2 (by decide)⟩⟩),
    SparseCore.bigSep_erase' (Finset.mem_erase.mpr ⟨hne cc5_scoped5 cc5_scoped2 (by decide), Finset.mem_erase.mpr ⟨hne cc5_scoped5 cc5_scoped1 (by decide),
      Finset.mem_erase.mpr ⟨hne cc5_scoped5 cc5_scoped0 (by decide), hm cc5_scoped5 (by decide)⟩⟩⟩)]

/-- The four scratch buffers are among the subcore's own. -/
theorem ownBufs_V (F : FTy → Type) :
    (ownBufs (V d (cV L) (jV L)) : sProp 𝕄)
      = iprop((∃ f, (V d (cV L) (jV L)).loc cc5_scratch0 ↦{fullShare} f) ∗ (∃ f, (V d (cV L) (jV L)).loc cc5_scratch1 ↦{fullShare} f)
          ∗ (∃ f, (V d (cV L) (jV L)).loc cc5_scratch2 ↦{fullShare} f) ∗ (∃ f, (V d (cV L) (jV L)).loc cc5_scratch3 ↦{fullShare} f)
          ∗ bigSep (((((ownRefs (τ := τ) (.scVector (cV L) (jV L))).erase ((Proc.scVector (cV L) (jV L)).devRef cc5_scratch0)).erase
              ((Proc.scVector (cV L) (jV L)).devRef cc5_scratch1)).erase ((Proc.scVector (cV L) (jV L)).devRef cc5_scratch2)).erase ((Proc.scVector (cV L) (jV L)).devRef cc5_scratch3))
              fun b => iprop(∃ f, ((d, b) : Loc nD τ sig) ↦{fullShare} f)) := by
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) (b := (Proc.scVector (cV L) (jV L)).devRef b) h
  have hne : ∀ b b' : Ref sig .scVector, b ≠ b' → (Proc.scVector (cV L) (jV L)).devRef b ≠ (Proc.scVector (cV L) (jV L)).devRef b' := fun b b' h e =>
    h (Proc.devRef_injective _ e)
  unfold SparseCore.Cfg.ownBufs
  refine (SparseCore.bigSep_erase' (hm cc5_scratch0 rfl)).trans ?_
  rw [SparseCore.bigSep_erase' (Finset.mem_erase.mpr ⟨hne cc5_scratch1 cc5_scratch0 (by decide), hm cc5_scratch1 rfl⟩),
    SparseCore.bigSep_erase' (Finset.mem_erase.mpr ⟨hne cc5_scratch2 cc5_scratch1 (by decide), Finset.mem_erase.mpr ⟨hne cc5_scratch2 cc5_scratch0 (by decide), hm cc5_scratch2 rfl⟩⟩),
    SparseCore.bigSep_erase' (Finset.mem_erase.mpr ⟨hne cc5_scratch3 cc5_scratch2 (by decide), Finset.mem_erase.mpr ⟨hne cc5_scratch3 cc5_scratch1 (by decide),
      Finset.mem_erase.mpr ⟨hne cc5_scratch3 cc5_scratch0 (by decide), hm cc5_scratch3 rfl⟩⟩⟩)]

abbrev boundsK (h1 : k5_cond1 L = 1#1) : Memref sig .scVector .hbm S16 .i32 :=
  ((oV).slice (Rect.unit (s := S32x16) (k5_off1 L) S1x16.size (k5_off1_inb L h1)) (fun _ => rfl)).squeeze S16 squeezes_S1x16_S16

/-- What the copy of the row's bounds lands. -/
theorem landed_bounds (h1 : k5_cond1 L = 1#1) (fO : IVec S32x16 32) (fb : Buf (Elt F) ((V d (cV L) (jV L)).loc cc5_scratch0)) (x : S16.Idx)
    (hw : wid L < 32) :
    ((sB).view.readAt (Elt F) (Rect.unit (s := S16) ![0] S16.size inb_S16_S16_0).toLoadRect
        (View.write (Elt F) (sB).view fb ((boundsK L h1).view.read (Elt F) (fO : Buf (Elt F) (oLoc d))) Finset.univ) : IVec S16 32) x
      = fO (ValueIdx.ix2 ⟨wid L, hw⟩ (x 0)) := by
  rw [View.write_whole_univ]
  simp only [View.readAt_apply, Memref.view_whole, View.read_whole]
  rw [show (Rect.unit (s := S16) ![0] S16.size inb_S16_S16_0).toLoadRect.idx x = x from by
    funext (a : Fin 1)
    obtain rfl : a = 0 := Subsingleton.elim _ _
    apply Fin.ext
    rw [LoadRect.idx_apply]
    show 0 + 1 * (x 0).val = (x 0).val
    omega]
  show fO ((Rect.unit (s := S32x16) (k5_off1 L) S1x16.size (k5_off1_inb L h1)).emb (Shape.reshapeEquiv _ x)) = _
  rw [squeezed]
  congr 1
  funext a
  apply Fin.ext
  match a with
  | 0 =>
    show k5_off1 L 0 + 1 * 0 = wid L
    rw [k5_off1_eq]; rfl
  | 1 =>
    show k5_off1 L 1 + 1 * (x 0).val = (x 0).val
    rw [k5_off1_eq]
    show 0 + 1 * (x 0).val = (x 0).val
    omega

/-- What a task holds: shares of the values, the actions and the bounds, and its row of the output. -/
abbrev taskPts (w : ℕ) (qv qm qo : PosShare TreeShare) (fV : FVec F S36864 .f32) (fM : IVec S36864 32) (fO : IVec S32x16 32)
    (f : FVec F S16x4096 .f32) : sProp 𝕄 :=
  iprop((vLoc d ↦{qv} (fV : Buf (Elt F) (vLoc d))) ∗ (mLoc d ↦{qm} (fM : Buf (Elt F) (mLoc d))) ∗ (oLoc d ↦{qo} (fO : Buf (Elt F) (oLoc d)))
    ∗ (rLoc d ↦[rowSet w]{fullShare} (f : Buf (Elt F) (rLoc d))))

set_option maxHeartbeats 400000 in
/-- The task of vector subcore `(L 0, L 1)`: it leaves its row of the output at `rowsOf`. -/
theorem tile_body (hF : (K (F := F)).Facts) (qv qm qo : PosShare TreeShare)
    (fV : FVec F S36864 .f32) (fM : IVec S36864 32) (fO : IVec S32x16 32) (hG : Good fM fO) (f₀ : FVec F S16x4096 .f32)
    (O : CellTallies nD τ sig (HIx 3)) (W : Waits sig (HIx 3)) (hO : ∀ g, O g none = 0) :
    iprop(levAts (K (F := F)).L (K (F := F)).lev ∗ emp
        ∗ taskPts d (wid L) qv qm qo fV fM fO f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc5__sc_scatter_body L vV (Memref.isWhole_whole _) mV (Memref.isWhole_whole _) oV (Memref.isWhole_whole _) rV (Memref.isWhole_whole _)
            sB (Memref.isWhole_whole _) sM (Memref.isWhole_whole _) sW (Memref.isWhole_whole _) sR (Memref.isWhole_whole _)
            cc5_scoped0 cc5_scoped1 cc5_scoped2 cc5_scoped3 cc5_scoped4 cc5_scoped5)
          fun _ => iprop(taskPts d (wid L) qv qm qo fV fM fO (rowsOf fV fM fO)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc5__sc_scatter_body_eq_skeleton]; unfold cc5__sc_scatter_body_skel
  simp only [k5_part1_eq_skeleton]; unfold k5_part1_skel
  rw [(K (F := F)).scopedBufs_V hF d (cV L) (jV L), SparseCore.Cfg.scopedSems0_V (Val := Elt F) d (cV L) (jV L), ownSems0_V d L F, ownBufs_V d L F]
  iintro ⟨#Hlv, -, Hpts, ⟨⟨%fb, Hsb⟩, ⟨%fm, Hsm⟩, ⟨%fw, Hsw⟩, ⟨%fr, Hsr⟩, Hbufs⟩, ⟨Hc0, Hc1, Hc2, Hc5, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  unfold taskPts
  icases Hpts with ⟨Hv, Hm, Ho, Hr⟩
  ihave Hv' := (Entails.of_eq (show (vLoc d ↦{qv} (fV : Buf (Elt F) (vLoc d)) : sProp 𝕄) = ((vV).view.loc (V d (cV L) (jV L)) ↦{qv} (fV : Buf (Elt F) (vLoc d))) from rfl)) $$ Hv
  ihave Hm' := (Entails.of_eq (show (mLoc d ↦{qm} (fM : Buf (Elt F) (mLoc d)) : sProp 𝕄) = ((mV).view.loc (V d (cV L) (jV L)) ↦{qm} (fM : Buf (Elt F) (mLoc d))) from rfl)) $$ Hm
  ihave Ho' := (Entails.of_eq (show (oLoc d ↦{qo} (fO : Buf (Elt F) (oLoc d)) : sProp 𝕄) = ((oV).view.loc (V d (cV L) (jV L)) ↦{qo} (fO : Buf (Elt F) (oLoc d))) from rfl)) $$ Ho
  ihave Hsb' := (Entails.of_eq (show ((V d (cV L) (jV L)).loc cc5_scratch0 ↦{fullShare} fb : sProp 𝕄) = ((sB).view.loc (V d (cV L) (jV L)) ↦{fullShare} fb) from rfl)) $$ Hsb
  ihave Hsm' := (Entails.of_eq (show ((V d (cV L) (jV L)).loc cc5_scratch1 ↦{fullShare} fm : sProp 𝕄) = ((sM).view.loc (V d (cV L) (jV L)) ↦{fullShare} fm) from rfl)) $$ Hsm
  ihave Hsw' := (Entails.of_eq (show ((V d (cV L) (jV L)).loc cc5_scratch2 ↦{fullShare} fw : sProp 𝕄) = ((sW).view.loc (V d (cV L) (jV L)) ↦{fullShare} fw) from rfl)) $$ Hsw
  ihave Hsr' := (Entails.of_eq (show ((V d (cV L) (jV L)).loc cc5_scratch3 ↦{fullShare} fr : sProp 𝕄) = ((sR).view.loc (V d (cV L) (jV L)) ↦{fullShare} fr) from rfl)) $$ Hsr
  rcases Classical.em (k5_cond1 L = 1#1) with h1 | h1
  · have hw16 : wid L < 16 := (cond_iff L).mp h1
    obtain ⟨hM, hB⟩ := hG
    obtain ⟨hse, he⟩ := hB _ hw16
    sl_exec
    have e7 : tile_body.sl.v7 d L fO fb h1 = fO (ValueIdx.ix2 ⟨wid L, by omega⟩ (0 : Fin 16)) :=
      (landed_bounds d L h1 fO fb (Shape.ofLane (d := ![16]) (0 : Fin 16)) (by omega))
    have e9 : tile_body.sl.v9 d L fO fb h1 = fO (ValueIdx.ix2 ⟨wid L, by omega⟩ (1 : Fin 16)) :=
      (landed_bounds d L h1 fO fb (Shape.ofLane (d := ![16]) (1 : Fin 16)) (by omega))
    have t7 : (tile_body.sl.v7 d L fO fb h1).toNat = loAt fO (wid L) := by
      rw [e7]; unfold loAt; rw [dif_pos (show wid L < 32 by omega)]
    have t9 : (tile_body.sl.v9 d L fO fb h1).toNat = hiAt fO (wid L) := by
      rw [e9]; unfold hiAt; rw [dif_pos (show wid L < 32 by omega)]
    have h7 : Affine.IsInt (tile_body.sl.v7 d L fO fb h1) (loAt fO (wid L)) := t7 ▸ Affine.isInt_toNat _ (by omega)
    have h9 : Affine.IsInt (tile_body.sl.v9 d L fO fb h1) (hiAt fO (wid L)) := t9 ▸ Affine.isInt_toNat _ (by omega)
    have hchk := chk1 L h7 h9 hse he
    rw [wp_assume_of _ _ _ _ hchk]
    sl_exec
    dsimp only
    -- the scratch row zeroed
    sl_for (invZ (F := F) d L) $$ [Hsr']
    case region =>
      intro k _
      exact zero_region d L h1 k
    · unfold invZ
      iexists fr; isplitr
      · ipureintro; intro x hx; exact absurd hx (by omega)
      · iexact Hsr'
    unfold invZ
    iintro %_ ⟨%fz, %hz, Hsr'⟩
    -- the blocks
    sl_for (invB (F := F) d L qv qm fV fM (loAt fO (wid L)) (hiAt fO (wid L)) O W) $$ [Hv' Hm' Hsm' Hsw' Hsr' Hc1 Hc2 HO]
    case region =>
      intro t _
      exact block_region d L h7 h9 hse he qv qm fV fM hM O W h1 hchk t
    · unfold invB
      isplitr; · iexact Hmw
      isplitl [Hv']; · iexact Hv'
      isplitl [Hm']; · iexact Hm'
      isplitl [Hsm']; · iexists _; iexact Hsm'
      isplitl [Hsw']; · iexists _; iexact Hsw'
      isplitl [Hsr']
      · iexists fz; isplitr
        · ipureintro; intro j
          have htr : k5_t1_loop.trips = 256 := by decide
          have hj : (j 0).val < 4096 := (j 0).isLt
          rw [hz j (lt_of_lt_of_eq hj (show 4096 = 16 * k5_t1_loop.trips by rw [htr])), Slots.slot_start]
          show base _ + 2048 * 0 ≤ _
          unfold base; omega
        · iexact Hsr'
      isplitl [Hc1]; · iexact Hc1
      isplitl [Hc2]; · iexact Hc2
      iexists _; isplitr
      swap; · iexact HO
      ipureintro; intro p hp
      rcases Finset.mem_insert.mp hp with hp | hp; · exact .inr (hp ▸ rfl)
      exact .inl hp
    unfold invB
    iintro %_ ⟨-, Hv', Hm', ⟨%fm', Hsm'⟩, ⟨%fw', Hsw'⟩, ⟨%f', %hf', Hsr'⟩, Hc1, Hc2, %W', %hW', HO⟩
    -- the second block loop runs no trip
    have hnone := (loop4 h7 h9 hse he).1
    sl_for (fun (_ : ℕ) (_ : PUnit) => Transfers.MayWaits (V d (cV L) (jV L)) (default : HIx 3) O) $$ []
    case region =>
      intro k _
      exact absurd (lt_of_lt_of_eq k.isLt hnone) (Nat.not_lt_zero _)
    · iexact Hmw
    iintro %_ -
    -- the row written out
    ihave Hr' := (Entails.of_eq (show (rLoc d ↦[rowSet (wid L)]{fullShare} (f₀ : Buf (Elt F) (rLoc d)) : sProp 𝕄)
      = ((rowK L h1).view.loc (V d (cV L) (jV L)) ↦[(rowK L h1).view.set]{fullShare} (f₀ : Buf (Elt F) (rLoc d))) by rw [set_rowK])) $$ Hr
    sl_exec
    sl_step
    have hrow : ∀ i ∈ rowSet (wid L), ((rowK L h1).view.writes (Elt F) (f₀ : Buf (Elt F) (rLoc d)) [⟨Rect.whole S4096, tile_body.sl.dma0_1 d L f'⟩] : FVec F S16x4096 .f32) i
        = rowsOf fV fM fO i := by
      intro i hi
      rw [← set_rowK L h1] at hi
      obtain ⟨x, -, rfl⟩ := Finset.mem_map.mp hi
      rw [View.writes_singleton]
      have hwx : (Rect.whole S4096).emb x = x := by
        funext (a : Fin 1)
        obtain rfl : a = 0 := Subsingleton.elim _ _
        apply Fin.ext
        show 0 + 1 * (x 0).val = (x 0).val
        omega
      have hwr := View.write_emb_of_mem (Val := Elt F) (v := (rowK L h1).view.slice (Rect.whole S4096)) (f₀ : Buf (Elt F) (rLoc d)) (tile_body.sl.dma0_1 d L f')
        (Finset.mem_univ x)
      rw [show ((rowK L h1).view.slice (Rect.whole S4096)).emb x = (rowK L h1).view.emb x from congrArg (rowK L h1).view.emb hwx] at hwr
      refine hwr.trans ?_
      show (f' : FVec F S4096 .f32) x = _
      rw [emb_rowK L h1 x hw16, hf' x]
      unfold rowsOf
      show Slots.slot _ _ _ _ _ _ _ = Slots.slot z0 _ _ (loAt fO (wid L)) (hiAt fO (wid L)) (x 0).val 32768
      have h2 : base (loAt fO (wid L)) + 2048 * blocks (loAt fO (wid L)) (hiAt fO (wid L)) ≥ hiAt fO (wid L) := by
        unfold blocks; omega
      rw [Slots.slot_stop z0 (actionAt fM) (valueAt fV) (loAt fO (wid L)) (hiAt fO (wid L)) (x 0).val 32768 he]
      refine Slots.slot_stop z0 (actionAt fM) (valueAt fV) (loAt fO (wid L)) (hiAt fO (wid L)) (x 0).val _ ?_
      refine le_trans h2 (le_of_eq ?_)
      exact congrArg (fun n => base (loAt fO (wid L)) + 2048 * n) (loop2 h7 h9 hse he).1.symm
    isplitl [Hv' Hm' Ho' Hr']
    · isplitl [Hv']; · iexact Hv'
      isplitl [Hm']; · iexact Hm'
      isplitl [Ho']; · iexact Ho'
      iapply (Entails.of_eq (pointsTo_congr (ℓ := rLoc d) (q := fullShare) (I := rowSet (wid L)) hrow))
      iapply (Entails.of_eq (show ((rowK L h1).view.loc (V d (cV L) (jV L)) ↦[(rowK L h1).view.set]{fullShare}
          (rowK L h1).view.writes (Elt F) (f₀ : Buf (Elt F) (rLoc d)) [⟨Rect.whole S4096, tile_body.sl.dma0_1 d L f'⟩] : sProp 𝕄)
        = (rLoc d ↦[rowSet (wid L)]{fullShare} (rowK L h1).view.writes (Elt F) (f₀ : Buf (Elt F) (rLoc d)) [⟨Rect.whole S4096, tile_body.sl.dma0_1 d L f'⟩]) by
          rw [set_rowK]))
      iexact Hr'
    isplitl [Hsb' Hsm' Hsw' Hsr' Hbufs]
    · isplitl [Hsb']; · iexists _; iexact Hsb'
      isplitl [Hsm']; · iexists _; iexact Hsm'
      isplitl [Hsw']; · iexists _; iexact Hsw'
      isplitl [Hsr']; · iexists _; iexact Hsr'
      iexact Hbufs
    isplitl [Hc0 Hc1 Hc2 Hc5 Hsems]
    · isplitl [Hc0]; · iexact Hc0
      isplitl [Hc1]; · iexact Hc1
      isplitl [Hc2]; · iexact Hc2
      isplitl [Hc5]; · iexact Hc5
      iexact Hsems
    iexists _; isplitr
    swap; · iexact HO
    ipureintro; intro p hp
    rcases Finset.mem_insert.mp hp with hp | hp; · exact .inr (hp ▸ rfl)
    exact hW' p hp
  · sl_exec
    sl_step
    have hempty : rowSet (wid L) = ∅ := by
      have hw : ¬wid L < 16 := fun h => h1 ((cond_iff L).mpr h)
      refine Finset.filter_eq_empty_iff.mpr fun x _ hx => hw ?_
      rw [← hx]; exact (x 0).isLt
    isplitl [Hv' Hm' Ho' Hr]
    · isplitl [Hv']; · iexact Hv'
      isplitl [Hm']; · iexact Hm'
      isplitl [Ho']; · iexact Ho'
      iapply (Entails.of_eq (pointsTo_congr (ℓ := rLoc d) (q := fullShare) (f := f₀) (g := rowsOf fV fM fO) (I := rowSet (wid L))
        (by rw [hempty]; intro i hi; exact absurd hi (Finset.notMem_empty i))))
      iexact Hr
    isplitl [Hsb' Hsm' Hsw' Hsr' Hbufs]
    · isplitl [Hsb']; · iexists _; iexact Hsb'
      isplitl [Hsm']; · iexists _; iexact Hsm'
      isplitl [Hsw']; · iexists _; iexact Hsw'
      isplitl [Hsr']; · iexists _; iexact Hsr'
      iexact Hbufs
    isplitl [Hc0 Hc1 Hc2 Hc5 Hsems]
    · isplitl [Hc0]; · iexact Hc0
      isplitl [Hc1]; · iexact Hc1
      isplitl [Hc2]; · iexact Hc2
      isplitl [Hc5]; · iexact Hc5
      iexact Hsems
    iexists W; isplitr
    · ipureintro; exact fun p hp => .inl hp
    · iexact HO

end Cert.Proof.Scatter
end
-- ==== Proof.Gather.lean ====
/- The two gather calls, on a symbolic vector subcore: subcore number `w` fetches its four lists of a hundred and
   twenty-eight row numbers, and by four indexed copies, two at a time, brings those rows of the table to rows
   `512 * w` to `512 * w + 511` of the output. -/
module

public import proofs.«01_k».proof.Proof.Setup
public import Idealize.ShloMosaic.Lib.Routing.OpsPair

@[expose] public section

noncomputable section

namespace Cert.Proof.Gather

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## What a gather call computes -/

/-- The row number at place `p` of the lists, the first list being number `b`. -/
def rowAt (fI : IVec S256x128 32) (b p : ℕ) : ℕ :=
  if h : b + p / 128 < 256 then (fI (ValueIdx.ix2 (⟨b + p / 128, h⟩ : Fin 256) (⟨p % 128, Nat.mod_lt _ (by decide)⟩ : Fin 128))).toNat else 0
/-- The output: row `p` is the table's row number `rowAt fI b p`. -/
def gathered (fX : FVec F S65536x128 .f32) (fI : IVec S256x128 32) (b : ℕ) : FVec F S16384x128 .f32 := fun x =>
  fX (ValueIdx.ix2 (⟨rowAt fI b (x 0).val % 65536, Nat.mod_lt _ (by decide)⟩ : Fin 65536) (⟨(x 1).val, (x 1).isLt⟩ : Fin 128))
/-- Every row number is a row of the table. -/
def InTable (fI : IVec S256x128 32) : Prop := ∀ p, (fI p).toNat < 65536

local notation "𝕄" => MT nD τ sig (HIx 3) (Elt F) ℕ UU ℕ

abbrev xLoc (d : Dev nD) : Loc nD τ sig := (SparseCore.T d).loc main_arg1
abbrev iLoc (d : Dev nD) : Loc nD τ sig := (SparseCore.T d).loc main_v8
abbrev oLoc (d : Dev nD) : Loc nD τ sig := (SparseCore.T d).loc main_v9

local notation "xV" => (Memref.whole Cert.KernelIdeal.main_arg1_scv : Memref Cert.KernelIdeal.sig Kind.scVector Space.hbm Cert.KernelIdeal.S65536x128 EltTy.f32)
local notation "iV" => (Memref.whole Cert.KernelIdeal.main_v8_scv : Memref Cert.KernelIdeal.sig Kind.scVector Space.hbm Cert.KernelIdeal.S256x128 EltTy.i32)
local notation "oV" => (Memref.whole Cert.KernelIdeal.main_v9_scv : Memref Cert.KernelIdeal.sig Kind.scVector Space.hbm Cert.KernelIdeal.S16384x128 EltTy.f32)
local notation "sI" => (Memref.whole Cert.KernelIdeal.cc1_scratch0 : Memref Cert.KernelIdeal.sig Kind.scVector Space.vmem Cert.KernelIdeal.S4x128 EltTy.i32)
local notation "sA" => (Memref.whole Cert.KernelIdeal.cc1_scratch1 : Memref Cert.KernelIdeal.sig Kind.scVector Space.vmem Cert.KernelIdeal.S128x128 EltTy.f32)
local notation "sB" => (Memref.whole Cert.KernelIdeal.cc1_scratch2 : Memref Cert.KernelIdeal.sig Kind.scVector Space.vmem Cert.KernelIdeal.S128x128 EltTy.f32)

variable [FloatOps F] (d : Dev nD) (L : grid1.Coords)

abbrev cV (L : grid1.Coords) : Fin τ.nSC := (L 0).castLE hcore1
abbrev jV (L : grid1.Coords) : Fin τ.nSub := (L 1).castLE hsub1
/-- A subcore's number. -/
abbrev wid (L : grid1.Coords) : ℕ := 2 * (L 1).val + (L 0).val

/-- Rows `128 * n` to `128 * n + 127` of the output. -/
def chunk (n : ℕ) : Finset S16384x128.Idx := Finset.univ.filter fun x => (x 0).val / 128 = n

theorem mem_chunk {n : ℕ} {x : S16384x128.Idx} : x ∈ chunk n ↔ (x 0).val / 128 = n := by
  unfold chunk; rw [Finset.mem_filter]; exact ⟨fun h => h.2, fun h => ⟨Finset.mem_univ _, h⟩⟩

/-- The lists a subcore fetches. -/
abbrev iK (L : grid1.Coords) := (iV).slice (Rect.unit (s := S256x128) (k1_off1 L) S4x128.size (k1_off1_inb L)) (fun _ => rfl)
/-- List `j` of the fetched four. -/
abbrev sK (o : Fin 2 → ℕ) (h : ∀ a, o a + S1x128.size a ≤ S4x128.size a) :=
  ((sI).slice (Rect.unit (s := S4x128) o S1x128.size h) (fun _ => rfl)).squeeze S128 squeezes_S1x128_S128
/-- The output rows of list `r`. -/
abbrev oK (L : grid1.Coords) (r : Fin 4) :=
  (oV).slice (Rect.unit (s := S16384x128) (k1_off2 L (BitVec.ofNat 32 (128 * r.val))) S128x128.size (k1_off2_inb L r)) (fun _ => rfl)

theorem off2_0 (r : Fin 4) : k1_off2 L (BitVec.ofNat 32 (128 * r.val)) 0 = 1024 * (L 1).val + 512 * (L 0).val + 128 * r.val := by rw [k1_off2_eq]; rfl
theorem off2_1 (r : Fin 4) : k1_off2 L (BitVec.ofNat 32 (128 * r.val)) 1 = 0 := by rw [k1_off2_eq]; rfl

theorem emb_oK_0 (r : Fin 4) (x : S128x128.Idx) : (((oK L r).view.emb x) 0).val = 1024 * (L 1).val + 512 * (L 0).val + 128 * r.val + (x 0).val := by
  have h := off2_0 L r
  show k1_off2 L (BitVec.ofNat 32 (128 * r.val)) 0 + 1 * (x 0).val = _
  omega
theorem emb_oK_1 (r : Fin 4) (x : S128x128.Idx) : (((oK L r).view.emb x) 1).val = (x 1).val := by
  have h := off2_1 L r
  show k1_off2 L (BitVec.ofNat 32 (128 * r.val)) 1 + 1 * (x 1).val = _
  omega

theorem set_oK (r : Fin 4) : (oK L r).view.set = chunk (4 * wid L + r.val) := by
  ext x
  rw [mem_chunk]
  constructor
  · intro hx
    obtain ⟨y, -, rfl⟩ := Finset.mem_map.mp hx
    have h1 : (y 0).val < 128 := (y 0).isLt
    have h2 := emb_oK_0 L r y
    have hw : wid L = 2 * (L 1).val + (L 0).val := rfl
    omega
  · intro hx
    have hw : wid L = 2 * (L 1).val + (L 0).val := rfl
    refine Finset.mem_map.mpr ⟨ValueIdx.ix2 (⟨(x 0).val % 128, Nat.mod_lt _ (by decide)⟩ : Fin 128) (⟨(x 1).val, (x 1).isLt⟩ : Fin 128), Finset.mem_univ _, ?_⟩
    funext a
    apply Fin.ext
    match a with
    | 0 =>
      refine (emb_oK_0 L r _).trans ?_
      show 1024 * (L 1).val + 512 * (L 0).val + 128 * r.val + (x 0).val % 128 = (x 0).val
      omega
    | 1 => exact emb_oK_1 L r _

theorem squeezed {n : ℕ} (h : (⟨1, ![n]⟩ : Shape).numel = (⟨2, ![1, n]⟩ : Shape).numel) (x : (⟨1, ![n]⟩ : Shape).Idx) :
    Shape.reshapeEquiv h x = ValueIdx.ix2 (0 : Fin 1) (x 0) := by
  refine (Shape.reshapeEquiv_cons_one h x).trans ?_
  funext a
  match a with
  | 0 => rfl
  | 1 => rfl

theorem rowMajor_one (k : Fin S128.numel) : ((S128.rowMajor.symm k) 0).val = k.val := by
  rw [← Shape.rowMajor_val_one (S128.rowMajor.symm k)]
  exact congrArg Fin.val (S128.rowMajor.apply_symm_apply k)

abbrev cell (q : DmaSems sig S_) : GSem nD τ sig := (V d (cV L) (jV L), .dma q.sem)

/-- The seven counters of the copies are among the subcore's own. -/
theorem ownSems0_V (F : FTy → Type) :
    (ownSems0 (V d (cV L) (jV L)) : sProp 𝕄)
      = iprop(semVal (cell d L cc1_scratch3) 0 ∗ semVal (cell d L cc1_scratch4) 0 ∗ semVal (cell d L cc1_scoped0) 0 ∗ semVal (cell d L cc1_scoped1) 0
          ∗ semVal (cell d L cc1_scoped2) 0 ∗ semVal (cell d L cc1_scoped3) 0 ∗ semVal (cell d L cc1_scoped4) 0
          ∗ bigSep ((((((((ownCells (V d (cV L) (jV L))).erase (cell d L cc1_scratch3)).erase (cell d L cc1_scratch4)).erase (cell d L cc1_scoped0)).erase (cell d L cc1_scoped1)).erase
              (cell d L cc1_scoped2)).erase (cell d L cc1_scoped3)).erase (cell d L cc1_scoped4))
              fun g => semVal g 0) := by
  have hm : ∀ q : DmaSems sig S_, (SemLoc.dma q.sem : SemLoc sig).isScoped .scVector = true → cell d L q ∈ ownCells (V d (cV L) (jV L)) := fun q h =>
    (mem_ownCells (g := cell d L q)).mpr ⟨rfl, h⟩
  have hne : ∀ q q' : DmaSems sig S_, q.sem ≠ q'.sem → cell d L q ≠ cell d L q' := fun q q' h e => h (SemLoc.dma.inj (congrArg Prod.snd e))
  have hr : ∀ (A : Finset (GSem nD τ sig)) (q q' : DmaSems sig S_), q.sem ≠ q'.sem → cell d L q ∈ A → cell d L q ∈ A.erase (cell d L q') :=
    fun A q q' h hA => Finset.mem_erase.mpr ⟨hne q q' h, hA⟩
  unfold SparseCore.Cfg.ownSems0
  rw [SparseCore.bigSep_erase' (hm cc1_scratch3 (by decide)),
    SparseCore.bigSep_erase' (hr _ cc1_scratch4 cc1_scratch3 (by decide) (hm cc1_scratch4 (by decide))),
    SparseCore.bigSep_erase' (hr _ cc1_scoped0 cc1_scratch4 (by decide) (hr _ cc1_scoped0 cc1_scratch3 (by decide) (hm cc1_scoped0 (by decide)))),
    SparseCore.bigSep_erase' (hr _ cc1_scoped1 cc1_scoped0 (by decide) (hr _ cc1_scoped1 cc1_scratch4 (by decide) (hr _ cc1_scoped1 cc1_scratch3 (by decide) (hm cc1_scoped1 (by decide))))),
    SparseCore.bigSep_erase' (hr _ cc1_scoped2 cc1_scoped1 (by decide) (hr _ cc1_scoped2 cc1_scoped0 (by decide) (hr _ cc1_scoped2 cc1_scratch4 (by decide) (hr _ cc1_scoped2 cc1_scratch3 (by decide) (hm cc1_scoped2 (by decide)))))),
    SparseCore.bigSep_erase' (hr _ cc1_scoped3 cc1_scoped2 (by decide) (hr _ cc1_scoped3 cc1_scoped1 (by decide) (hr _ cc1_scoped3 cc1_scoped0 (by decide) (hr _ cc1_scoped3 cc1_scratch4 (by decide) (hr _ cc1_scoped3 cc1_scratch3 (by decide) (hm cc1_scoped3 (by decide))))))),
    SparseCore.bigSep_erase' (hr _ cc1_scoped4 cc1_scoped3 (by decide) (hr _ cc1_scoped4 cc1_scoped2 (by decide) (hr _ cc1_scoped4 cc1_scoped1 (by decide) (hr _ cc1_scoped4 cc1_scoped0 (by decide) (hr _ cc1_scoped4 cc1_scratch4 (by decide) (hr _ cc1_scoped4 cc1_scratch3 (by decide) (hm cc1_scoped4 (by decide))))))))]

/-- The three scratch buffers are among the subcore's own. -/
theorem ownBufs_V (F : FTy → Type) :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) (b := (Proc.scVector (cV L) (jV L)).devRef b) h
  have hne : ∀ b b' : Ref sig .scVector, b ≠ b' → (Proc.scVector (cV L) (jV L)).devRef b ≠ (Proc.scVector (cV L) (jV L)).devRef b' := fun b b' h e =>
    h (Proc.devRef_injective _ e)
  unfold SparseCore.Cfg.ownBufs
  refine (SparseCore.bigSep_erase' (hm cc1_scratch0 rfl)).trans ?_
  rw [SparseCore.bigSep_erase' (Finset.mem_erase.mpr ⟨hne cc1_scratch1 cc1_scratch0 (by decide), hm cc1_scratch1 rfl⟩),
    SparseCore.bigSep_erase' (Finset.mem_erase.mpr ⟨hne cc1_scratch2 cc1_scratch1 (by decide), Finset.mem_erase.mpr ⟨hne cc1_scratch2 cc1_scratch0 (by decide), hm cc1_scratch2 rfl⟩⟩)]

theorem list_lt (o : Fin 2 → ℕ) (h : ∀ a, o a + S1x128.size a ≤ S4x128.size a) : 8 * (L 1).val + 4 * (L 0).val + o 0 < 256 := by
  have h0 : (L 0).val < 2 := (L 0).isLt
  have h1 : (L 1).val < 16 := (L 1).isLt
  have h2 : o 0 + 1 ≤ 4 := h 0
  omega

/-- What is read of a list after the fetch. -/
theorem list_at (o : Fin 2 → ℕ) (h : ∀ a, o a + S1x128.size a ≤ S4x128.size a) (ho : o 1 = 0) (fs : Buf (Elt F) ((V d (cV L) (jV L)).loc cc1_scratch0))
    (fI : IVec S256x128 32) (x : S128.Idx) :
    (sK o h).view.read (Elt F) ((sI).view.write (Elt F) fs ((iK L).view.read (Elt F) (fI : Buf (Elt F) (iLoc d))) Finset.univ) x
      = fI (ValueIdx.ix2 (⟨8 * (L 1).val + 4 * (L 0).val + o 0, list_lt L o h⟩ : Fin 256) (⟨(x 0).val, (x 0).isLt⟩ : Fin 128)) := by
  rw [View.write_whole_univ]
  show fI ((Rect.unit (s := S256x128) (k1_off1 L) S4x128.size (k1_off1_inb L)).emb
    ((Rect.unit (s := S4x128) o S1x128.size h).emb (Shape.reshapeEquiv _ x))) = _
  rw [squeezed]
  congr 1
  funext a
  apply Fin.ext
  match a with
  | 0 =>
    show k1_off1 L 0 + 1 * (o 0 + 1 * 0) = 8 * (L 1).val + 4 * (L 0).val + o 0
    rw [k1_off1_eq]
    show 8 * (L 1).val + 4 * (L 0).val + 1 * (o 0 + 1 * 0) = 8 * (L 1).val + 4 * (L 0).val + o 0
    omega
  | 1 =>
    show k1_off1 L 1 + 1 * (o 1 + 1 * (x 0).val) = (x 0).val
    rw [k1_off1_eq, ho]
    show 0 + 1 * (0 + 1 * (x 0).val) = (x 0).val
    omega

/-- A scratch buffer read whole after a piece was written over it whole. -/
theorem landed (b : Ref sig .scVector) (f : b.ty.shape.Idx → Elt F b.ty.elt) (p : b.ty.shape.Idx → Elt F b.ty.elt) (l : List (View.Piece (Elt F) b.ty.shape b.ty.elt)) :
    ReadAs.same.apply ((Memref.whole b).view.read (Elt F) ((Memref.whole b).view.writes (Elt F) f (⟨Rect.whole b.ty.shape, p⟩ :: l))) = p := by
  rw [ReadAs.apply_same]
  funext x
  rw [View.writes_cons]
  have hwx : (Rect.whole b.ty.shape).emb x = x := by
    funext a
    apply Fin.ext
    show 0 + 1 * (x a).val = (x a).val
    omega
  have hwr := View.write_emb_of_mem (Val := Elt F) (v := (Memref.whole b).view.slice (Rect.whole b.ty.shape))
    ((Memref.whole b).view.writes (Elt F) f l) p (Finset.mem_univ x)
  rw [show ((Memref.whole b).view.slice (Rect.whole b.ty.shape)).emb x = x from hwx] at hwr
  exact hwr

/-- What a stream of rows delivers, on the output rows it is copied to. -/
theorem delivered (r : Fin 4) (h : ∀ a, (![r.val, 0] : Fin 2 → ℕ) a + S1x128.size a ≤ S4x128.size a) (fs : Buf (Elt F) ((V d (cV L) (jV L)).loc cc1_scratch0))
    (fX : FVec F S65536x128 .f32) (fI : IVec S256x128 32) (f₀ : FVec F S16384x128 .f32)
    (hX : ∀ a, (![0, 0] : Fin 2 → ℕ) a + S65536x128.size a ≤ S65536x128.size a)
    (hin : ∀ x : S128.Idx, ((sK ![r.val, 0] h).view.read (Elt F) ((sI).view.write (Elt F) fs ((iK L).view.read (Elt F) (fI : Buf (Elt F) (iLoc d))) Finset.univ) x).toNat
        < S65536x128.size gathers_S65536x128_S128x128.axis)
    (p : FVec F S128x128 .f32)
    (hp : p = SparseCore.gatherPayload gathers_S65536x128_S128x128
      (((xV).slice (Rect.unit (s := S65536x128) ![0, 0] S65536x128.size hX) (fun _ => rfl)).view.read (Elt F) (fX : Buf (Elt F) (xLoc d)))
      (SparseCore.rows ((sK ![r.val, 0] h).view.read (Elt F) ((sI).view.write (Elt F) fs ((iK L).view.read (Elt F) (fI : Buf (Elt F) (iLoc d))) Finset.univ)) rfl hin)) :
    ∀ i ∈ (oK L r).view.set, ((oK L r).view.writes (Elt F) (f₀ : Buf (Elt F) (oLoc d)) [⟨Rect.whole S128x128, p⟩] : FVec F S16384x128 .f32) i = gathered fX fI 0 i := by
  intro i hi
  obtain ⟨x, -, rfl⟩ := Finset.mem_map.mp hi
  rw [View.writes_singleton]
  have hwx : (Rect.whole S128x128).emb x = x := by
    funext a
    apply Fin.ext
    show 0 + 1 * (x a).val = (x a).val
    omega
  have hwr := View.write_emb_of_mem (Val := Elt F) (v := (oK L r).view.slice (Rect.whole S128x128)) (f₀ : Buf (Elt F) (oLoc d)) p (Finset.mem_univ x)
  rw [show ((oK L r).view.slice (Rect.whole S128x128)).emb x = (oK L r).view.emb x from congrArg (oK L r).view.emb hwx] at hwr
  refine hwr.trans ?_
  have hx0 : (x 0).val < 128 := (x 0).isLt
  have hi0 := emb_oK_0 L r x
  have hi1 := emb_oK_1 L r x
  have hr4 : r.val < 4 := r.isLt
  have h0 : (L 0).val < 2 := (L 0).isLt
  have h1 : (L 1).val < 16 := (L 1).isLt
  have hrow : ∀ k : Fin 128, (SparseCore.rows ((sK ![r.val, 0] h).view.read (Elt F) ((sI).view.write (Elt F) fs ((iK L).view.read (Elt F) (fI : Buf (Elt F) (iLoc d))) Finset.univ)) rfl hin k).val
      = (fI (ValueIdx.ix2 (⟨8 * (L 1).val + 4 * (L 0).val + r.val, list_lt L _ h⟩ : Fin 256) k)).toNat := by
    intro k
    show ((sK ![r.val, 0] h).view.read (Elt F) _ (S128.rowMajor.symm _)).toNat = _
    rw [list_at d L _ h rfl]
    congr 2
    funext a
    apply Fin.ext
    match a with
    | 0 => rfl
    | 1 =>
      show ((S128.rowMajor.symm (k.cast _)) 0).val = k.val
      exact rowMajor_one k
  have hA : rowAt fI 0 (((oK L r).view.emb x) 0).val = (fI (ValueIdx.ix2 (⟨8 * (L 1).val + 4 * (L 0).val + r.val, list_lt L _ h⟩ : Fin 256) (⟨(x 0).val, hx0⟩ : Fin 128))).toNat := by
    unfold rowAt
    rw [hi0, dif_pos (by omega)]
    congr 2
    funext a
    apply Fin.ext
    match a with
    | 0 => show 0 + (1024 * (L 1).val + 512 * (L 0).val + 128 * r.val + (x 0).val) / 128 = 8 * (L 1).val + 4 * (L 0).val + r.val; omega
    | 1 => show (1024 * (L 1).val + 512 * (L 0).val + 128 * r.val + (x 0).val) % 128 = (x 0).val; omega
  unfold gathered
  subst hp
  show fX _ = fX _
  congr 1
  have hlt : (fI (ValueIdx.ix2 (⟨8 * (L 1).val + 4 * (L 0).val + r.val, list_lt L _ h⟩ : Fin 256) (⟨(x 0).val, hx0⟩ : Fin 128))).toNat < 65536 := by
    rw [← hrow ⟨(x 0).val, hx0⟩]; exact Fin.isLt _
  funext a
  apply Fin.ext
  match a with
  | 0 =>
    show 0 + 1 * (SparseCore.rows _ rfl hin (x 0)).val = rowAt fI 0 (((oK L r).view.emb x) 0).val % 65536
    rw [hA, Nat.mod_eq_of_lt hlt, show (SparseCore.rows _ rfl hin (x 0)).val = _ from hrow ⟨(x 0).val, hx0⟩]
    omega
  | 1 =>
    show 0 + 1 * (x 1).val = (((oK L r).view.emb x) 1).val
    rw [hi1]; omega

/-- What a task holds: shares of the table and the lists, and its four groups of output rows. -/
abbrev taskPts (w : ℕ) (qx qi : PosShare TreeShare) (fX : FVec F S65536x128 .f32) (fI : IVec S256x128 32) (f : FVec F S16384x128 .f32) : sProp 𝕄 :=
  iprop((xLoc d ↦{qx} (fX : Buf (Elt F) (xLoc d))) ∗ (iLoc d ↦{qi} (fI : Buf (Elt F) (iLoc d)))
    ∗ (oLoc d ↦[chunk (4 * w + 0)]{fullShare} (f : Buf (Elt F) (oLoc d))) ∗ (oLoc d ↦[chunk (4 * w + 1)]{fullShare} (f : Buf (Elt F) (oLoc d)))
    ∗ (oLoc d ↦[chunk (4 * w + 2)]{fullShare} (f : Buf (Elt F) (oLoc d))) ∗ (oLoc d ↦[chunk (4 * w + 3)]{fullShare} (f : Buf (Elt F) (oLoc d))))

set_option maxHeartbeats 4000000 in
/-- The task of vector subcore `(L 0, L 1)`: it leaves its rows of the output at `gathered`. -/
theorem tile_body (hF : (K (F := F)).Facts) (qx qi : PosShare TreeShare)
    (fX : FVec F S65536x128 .f32) (fI : IVec S256x128 32) (hI : InTable fI) (f₀ : FVec F S16384x128 .f32)
    (O : CellTallies nD τ sig (HIx 3)) (W : Waits sig (HIx 3)) (hO : ∀ g, O g none = 0) :
    iprop(levAts (K (F := F)).L (K (F := F)).lev ∗ emp
        ∗ taskPts d (wid L) qx qi fX fI f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1_body L xV (Memref.isWhole_whole _) iV (Memref.isWhole_whole _) oV (Memref.isWhole_whole _) sI (Memref.isWhole_whole _)
            sA (Memref.isWhole_whole _) sB (Memref.isWhole_whole _) cc1_scratch3 cc1_scratch4
            cc1_scoped0 cc1_scoped1 cc1_scoped2 cc1_scoped3 cc1_scoped4)
          fun _ => iprop(taskPts d (wid L) qx qi fX fI (gathered fX fI 0)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1_body_eq_skeleton]; unfold cc1_body_skel
  simp only [k1_part1_eq_skeleton, k1_part2_eq_skeleton]; unfold k1_part1_skel k1_part2_skel
  rw [(K (F := F)).scopedBufs_V hF d (cV L) (jV L), SparseCore.Cfg.scopedSems0_V (Val := Elt F) d (cV L) (jV L), ownSems0_V d L F, ownBufs_V d L F]
  iintro ⟨#Hlv, -, Hpts, ⟨⟨%fs, Hs⟩, ⟨%fa, Ha⟩, ⟨%fb, Hb⟩, Hbufs⟩, ⟨Hc8, Hc9, Hr0, Hr1, Hr2, Hr3, Hr4, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  unfold taskPts
  rw [show chunk (4 * wid L + 0) = (oK L 0).view.set from (set_oK L 0).symm, show chunk (4 * wid L + 1) = (oK L 1).view.set from (set_oK L 1).symm,
    show chunk (4 * wid L + 2) = (oK L 2).view.set from (set_oK L 2).symm, show chunk (4 * wid L + 3) = (oK L 3).view.set from (set_oK L 3).symm]
  icases Hpts with ⟨Hx, Hi, Ho0, Ho1, Ho2, Ho3⟩
  ihave Hx := (pointsTo_share (PosShare.mem_left_op_right qx)).1 $$ Hx
  icases Hx with ⟨Hx1, Hx2⟩
  ihave Hx1' := (Entails.of_eq (show (xLoc d ↦{qx.left} (fX : Buf (Elt F) (xLoc d)) : sProp 𝕄) = ((xV).view.loc (V d (cV L) (jV L)) ↦{qx.left} (fX : Buf (Elt F) (xLoc d))) from rfl)) $$ Hx1
  ihave Hx2' := (Entails.of_eq (show (xLoc d ↦{qx.right} (fX : Buf (Elt F) (xLoc d)) : sProp 𝕄) = ((xV).view.loc (V d (cV L) (jV L)) ↦{qx.right} (fX : Buf (Elt F) (xLoc d))) from rfl)) $$ Hx2
  ihave Hi' := (Entails.of_eq (show (iLoc d ↦{qi} (fI : Buf (Elt F) (iLoc d)) : sProp 𝕄) = ((iV).view.loc (V d (cV L) (jV L)) ↦{qi} (fI : Buf (Elt F) (iLoc d))) from rfl)) $$ Hi
  ihave Ho0' := (Entails.of_eq (show (oLoc d ↦[(oK L 0).view.set]{fullShare} (f₀ : Buf (Elt F) (oLoc d)) : sProp 𝕄) = ((oK L 0).view.loc (V d (cV L) (jV L)) ↦[(oK L 0).view.set]{fullShare} (f₀ : Buf (Elt F) (oLoc d))) from rfl)) $$ Ho0
  ihave Ho1' := (Entails.of_eq (show (oLoc d ↦[(oK L 1).view.set]{fullShare} (f₀ : Buf (Elt F) (oLoc d)) : sProp 𝕄) = ((oK L 1).view.loc (V d (cV L) (jV L)) ↦[(oK L 1).view.set]{fullShare} (f₀ : Buf (Elt F) (oLoc d))) from rfl)) $$ Ho1
  ihave Ho2' := (Entails.of_eq (show (oLoc d ↦[(oK L 2).view.set]{fullShare} (f₀ : Buf (Elt F) (oLoc d)) : sProp 𝕄) = ((oK L 2).view.loc (V d (cV L) (jV L)) ↦[(oK L 2).view.set]{fullShare} (f₀ : Buf (Elt F) (oLoc d))) from rfl)) $$ Ho2
  ihave Ho3' := (Entails.of_eq (show (oLoc d ↦[(oK L 3).view.set]{fullShare} (f₀ : Buf (Elt F) (oLoc d)) : sProp 𝕄) = ((oK L 3).view.loc (V d (cV L) (jV L)) ↦[(oK L 3).view.set]{fullShare} (f₀ : Buf (Elt F) (oLoc d))) from rfl)) $$ Ho3
  ihave Hs' := (Entails.of_eq (show ((V d (cV L) (jV L)).loc cc1_scratch0 ↦{fullShare} fs : sProp 𝕄) = ((sI).view.loc (V d (cV L) (jV L)) ↦{fullShare} fs) from rfl)) $$ Hs
  ihave Ha' := (Entails.of_eq (show ((V d (cV L) (jV L)).loc cc1_scratch1 ↦{fullShare} fa : sProp 𝕄) = ((sA).view.loc (V d (cV L) (jV L)) ↦{fullShare} fa) from rfl)) $$ Ha
  ihave Hb' := (Entails.of_eq (show ((V d (cV L) (jV L)).loc cc1_scratch2 ↦{fullShare} fb : sProp 𝕄) = ((sB).view.loc (V d (cV L) (jV L)) ↦{fullShare} fb) from rfl)) $$ Hb
  have hin : ∀ (r : Fin 4) (h : ∀ a, (![r.val, 0] : Fin 2 → ℕ) a + S1x128.size a ≤ S4x128.size a) (fs : Buf (Elt F) ((V d (cV L) (jV L)).loc cc1_scratch0)) (x : S128.Idx),
      ((sK ![r.val, 0] h).view.read (Elt F) ((sI).view.write (Elt F) fs (ReadAs.same.apply ((iK L).view.read (Elt F) (fI : Buf (Elt F) (iLoc d)))) Finset.univ) x).toNat
        < S65536x128.size gathers_S65536x128_S128x128.axis := by
    intro r h fs x
    rw [ReadAs.apply_same, list_at d L _ h rfl]
    exact hI _
  have hin0 := hin 0
  have hin1 := hin 1
  have hin2 := hin 2
  have hin3 := hin 3
  clear hin
  sl_exec
  sl_step
  have e0 := delivered d L 0 inb_S4x128_S1x128_0_0 fs fX fI f₀ inb_S65536x128_S65536x128_0_0 (hin0 inb_S4x128_S1x128_0_0 fs)
    (tile_body.sl.dma0_1 d L fX fI fs fa hin0) (by unfold tile_body.sl.dma0_1; refine (landed cc1_scratch1 _ _ _).trans ?_; unfold tile_body.sl.gather1 tile_body.sl.dma0; rfl)
  have e1 := delivered d L 1 inb_S4x128_S1x128_1_0 fs fX fI f₀ inb_S65536x128_S65536x128_0_0 (hin1 inb_S4x128_S1x128_1_0 fs)
    (tile_body.sl.dma0_2 d L fX fI fs fb hin1) (by unfold tile_body.sl.dma0_2; refine (landed cc1_scratch2 _ _ _).trans ?_; unfold tile_body.sl.gather2 tile_body.sl.dma0; rfl)
  have e2 := delivered d L 2 inb_S4x128_S1x128_2_0 fs fX fI f₀ inb_S65536x128_S65536x128_0_0 (hin2 inb_S4x128_S1x128_2_0 fs)
    (tile_body.sl.dma0_3 d L fX fI fs fa hin0 hin2) (by unfold tile_body.sl.dma0_3; refine (landed cc1_scratch1 _ _ _).trans ?_; unfold tile_body.sl.gather4 tile_body.sl.dma0; rfl)
  have e3 := delivered d L 3 inb_S4x128_S1x128_3_0 fs fX fI f₀ inb_S65536x128_S65536x128_0_0 (hin3 inb_S4x128_S1x128_3_0 fs)
    (tile_body.sl.dma0_4 d L fX fI fs fb hin1 hin3) (by unfold tile_body.sl.dma0_4; refine (landed cc1_scratch2 _ _ _).trans ?_; unfold tile_body.sl.gather6 tile_body.sl.dma0; rfl)
  isplitl [Hx1' Hx2' Hi' Ho0' Ho1' Ho2' Ho3']
  · isplitl [Hx1' Hx2']
    · iapply (pointsTo_share (PosShare.mem_left_op_right qx)).2
      isplitl [Hx1']; · iexact Hx1'
      iexact Hx2'
    isplitl [Hi']; · iexact Hi'
    isplitl [Ho0']
    · iapply (Entails.of_eq (pointsTo_congr (ℓ := oLoc d) (q := fullShare) (I := (oK L 0).view.set) e0)); iexact Ho0'
    isplitl [Ho1']
    · iapply (Entails.of_eq (pointsTo_congr (ℓ := oLoc d) (q := fullShare) (I := (oK L 1).view.set) e1)); iexact Ho1'
    isplitl [Ho2']
    · iapply (Entails.of_eq (pointsTo_congr (ℓ := oLoc d) (q := fullShare) (I := (oK L 2).view.set) e2)); iexact Ho2'
    · iapply (Entails.of_eq (pointsTo_congr (ℓ := oLoc d) (q := fullShare) (I := (oK L 3).view.set) e3)); iexact Ho3'
  isplitl [Hs' Ha' Hb' Hbufs]
  · isplitl [Hs']; · iexists _; iexact Hs'
    isplitl [Ha']; · iexists _; iexact Ha'
    isplitl [Hb']; · iexists _; iexact Hb'
    iexact Hbufs
  isplitl [Hc8 Hc9 Hr0 Hr1 Hr2 Hr3 Hr4 Hsems]
  · isplitl [Hc8]; · iexact Hc8
    isplitl [Hc9]; · iexact Hc9
    isplitl [Hr0]; · iexact Hr0
    isplitl [Hr1]; · iexact Hr1
    isplitl [Hr2]; · iexact Hr2
    isplitl [Hr3]; · iexact Hr3
    isplitl [Hr4]; · iexact Hr4
    iexact Hsems
  iexists _; isplitr
  swap; · iexact HO
  ipureintro; intro p hp
  simp only [Finset.mem_insert] at hp
  rcases hp with hp | hp | hp | hp | hp | hp | hp | hp | hp | hp
  all_goals first | exact .inl hp | exact .inr (hp ▸ rfl)

end Cert.Proof.Gather

end
-- ==== Proof.Gather3.lean ====
/- The second gather call on a symbolic vector subcore: as the first, its lists the other half of the row numbers, its
   output the other half of the rows. -/
module

public import proofs.«01_k».proof.Proof.Gather

@[expose] public section

noncomputable section

namespace Cert.Proof.Gather3

open Cert.KernelIdeal Cert.KernelIdeal.Gen
open Cert.Proof.Gather (gathered rowAt InTable chunk mem_chunk xLoc iLoc squeezed rowMajor_one landed)
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 3) (Elt F) ℕ UU ℕ

abbrev oLoc (d : Dev nD) : Loc nD τ sig := (SparseCore.T d).loc main_v12

local notation "xV" => (Memref.whole Cert.KernelIdeal.main_arg1_scv : Memref Cert.KernelIdeal.sig Kind.scVector Space.hbm Cert.KernelIdeal.S65536x128 EltTy.f32)
local notation "iV" => (Memref.whole Cert.KernelIdeal.main_v8_scv : Memref Cert.KernelIdeal.sig Kind.scVector Space.hbm Cert.KernelIdeal.S256x128 EltTy.i32)
local notation "oV" => (Memref.whole Cert.KernelIdeal.main_v12_scv : Memref Cert.KernelIdeal.sig Kind.scVector Space.hbm Cert.KernelIdeal.S16384x128 EltTy.f32)
local notation "sI" => (Memref.whole Cert.KernelIdeal.cc3_scratch0 : Memref Cert.KernelIdeal.sig Kind.scVector Space.vmem Cert.KernelIdeal.S4x128 EltTy.i32)
local notation "sA" => (Memref.whole Cert.KernelIdeal.cc3_scratch1 : Memref Cert.KernelIdeal.sig Kind.scVector Space.vmem Cert.KernelIdeal.S128x128 EltTy.f32)
local notation "sB" => (Memref.whole Cert.KernelIdeal.cc3_scratch2 : Memref Cert.KernelIdeal.sig Kind.scVector Space.vmem Cert.KernelIdeal.S128x128 EltTy.f32)

variable [FloatOps F] (d : Dev nD) (L : grid3.Coords)

abbrev cV (L : grid3.Coords) : Fin τ.nSC := (L 0).castLE hcore3
abbrev jV (L : grid3.Coords) : Fin τ.nSub := (L 1).castLE hsub3
/-- A subcore's number. -/
abbrev wid (L : grid3.Coords) : ℕ := 2 * (L 1).val + (L 0).val

/-- The lists a subcore fetches. -/
abbrev iK (L : grid3.Coords) := (iV).slice (Rect.unit (s := S256x128) (k3_off1 L) S4x128.size (k3_off1_inb L)) (fun _ => rfl)
/-- List `j` of the fetched four. -/
abbrev sK (o : Fin 2 → ℕ) (h : ∀ a, o a + S1x128.size a ≤ S4x128.size a) :=
  ((sI).slice (Rect.unit (s := S4x128) o S1x128.size h) (fun _ => rfl)).squeeze S128 squeezes_S1x128_S128
/-- The output rows of list `r`. -/
abbrev oK (L : grid3.Coords) (r : Fin 4) :=
  (oV).slice (Rect.unit (s := S16384x128) (k3_off2 L (BitVec.ofNat 32 (128 * r.val))) S128x128.size (k3_off2_inb L r)) (fun _ => rfl)

theorem off2_0 (r : Fin 4) : k3_off2 L (BitVec.ofNat 32 (128 * r.val)) 0 = 1024 * (L 1).val + 512 * (L 0).val + 128 * r.val := by rw [k3_off2_eq]; rfl
theorem off2_1 (r : Fin 4) : k3_off2 L (BitVec.ofNat 32 (128 * r.val)) 1 = 0 := by rw [k3_off2_eq]; rfl

theorem emb_oK_0 (r : Fin 4) (x : S128x128.Idx) : (((oK L r).view.emb x) 0).val = 1024 * (L 1).val + 512 * (L 0).val + 128 * r.val + (x 0).val := by
  have h := off2_0 L r
  show k3_off2 L (BitVec.ofNat 32 (128 * r.val)) 0 + 1 * (x 0).val = _
  omega
theorem emb_oK_1 (r : Fin 4) (x : S128x128.Idx) : (((oK L r).view.emb x) 1).val = (x 1).val := by
  have h := off2_1 L r
  show k3_off2 L (BitVec.ofNat 32 (128 * r.val)) 1 + 1 * (x 1).val = _
  omega

theorem set_oK (r : Fin 4) : (oK L r).view.set = chunk (4 * wid L + r.val) := by
  ext x
  rw [mem_chunk]
  constructor
  · intro hx
    obtain ⟨y, -, rfl⟩ := Finset.mem_map.mp hx
    have h1 : (y 0).val < 128 := (y 0).isLt
    have h2 := emb_oK_0 L r y
    have hw : wid L = 2 * (L 1).val + (L 0).val := rfl
    omega
  · intro hx
    have hw : wid L = 2 * (L 1).val + (L 0).val := rfl
    refine Finset.mem_map.mpr ⟨ValueIdx.ix2 (⟨(x 0).val % 128, Nat.mod_lt _ (by decide)⟩ : Fin 128) (⟨(x 1).val, (x 1).isLt⟩ : Fin 128), Finset.mem_univ _, ?_⟩
    funext a
    apply Fin.ext
    match a with
    | 0 =>
      refine (emb_oK_0 L r _).trans ?_
      show 1024 * (L 1).val + 512 * (L 0).val + 128 * r.val + (x 0).val % 128 = (x 0).val
      omega
    | 1 => exact emb_oK_1 L r _

abbrev cell (q : DmaSems sig S_) : GSem nD τ sig := (V d (cV L) (jV L), .dma q.sem)

/-- The seven counters of the copies are among the subcore's own. -/
theorem ownSems0_V (F : FTy → Type) :
    (ownSems0 (V d (cV L) (jV L)) : sProp 𝕄)
      = iprop(semVal (cell d L cc3_scratch3) 0 ∗ semVal (cell d L cc3_scratch4) 0 ∗ semVal (cell d L cc3_scoped0) 0 ∗ semVal (cell d L cc3_scoped1) 0
          ∗ semVal (cell d L cc3_scoped2) 0 ∗ semVal (cell d L cc3_scoped3) 0 ∗ semVal (cell d L cc3_scoped4) 0
          ∗ bigSep ((((((((ownCells (V d (cV L) (jV L))).erase (cell d L cc3_scratch3)).erase (cell d L cc3_scratch4)).erase (cell d L cc3_scoped0)).erase (cell d L cc3_scoped1)).erase
              (cell d L cc3_scoped2)).erase (cell d L cc3_scoped3)).erase (cell d L cc3_scoped4))
              fun g => semVal g 0) := by
  have hm : ∀ q : DmaSems sig S_, (SemLoc.dma q.sem : SemLoc sig).isScoped .scVector = true → cell d L q ∈ ownCells (V d (cV L) (jV L)) := fun q h =>
    (mem_ownCells (g := cell d L q)).mpr ⟨rfl, h⟩
  have hne : ∀ q q' : DmaSems sig S_, q.sem ≠ q'.sem → cell d L q ≠ cell d L q' := fun q q' h e => h (SemLoc.dma.inj (congrArg Prod.snd e))
  have hr : ∀ (A : Finset (GSem nD τ sig)) (q q' : DmaSems sig S_), q.sem ≠ q'.sem → cell d L q ∈ A → cell d L q ∈ A.erase (cell d L q') :=
    fun A q q' h hA => Finset.mem_erase.mpr ⟨hne q q' h, hA⟩
  unfold SparseCore.Cfg.ownSems0
  rw [SparseCore.bigSep_erase' (hm cc3_scratch3 (by decide)),
    SparseCore.bigSep_erase' (hr _ cc3_scratch4 cc3_scratch3 (by decide) (hm cc3_scratch4 (by decide))),
    SparseCore.bigSep_erase' (hr _ cc3_scoped0 cc3_scratch4 (by decide) (hr _ cc3_scoped0 cc3_scratch3 (by decide) (hm cc3_scoped0 (by decide)))),
    SparseCore.bigSep_erase' (hr _ cc3_scoped1 cc3_scoped0 (by decide) (hr _ cc3_scoped1 cc3_scratch4 (by decide) (hr _ cc3_scoped1 cc3_scratch3 (by decide) (hm cc3_scoped1 (by decide))))),
    SparseCore.bigSep_erase' (hr _ cc3_scoped2 cc3_scoped1 (by decide) (hr _ cc3_scoped2 cc3_scoped0 (by decide) (hr _ cc3_scoped2 cc3_scratch4 (by decide) (hr _ cc3_scoped2 cc3_scratch3 (by decide) (hm cc3_scoped2 (by decide)))))),
    SparseCore.bigSep_erase' (hr _ cc3_scoped3 cc3_scoped2 (by decide) (hr _ cc3_scoped3 cc3_scoped1 (by decide) (hr _ cc3_scoped3 cc3_scoped0 (by decide) (hr _ cc3_scoped3 cc3_scratch4 (by decide) (hr _ cc3_scoped3 cc3_scratch3 (by decide) (hm cc3_scoped3 (by decide))))))),
    SparseCore.bigSep_erase' (hr _ cc3_scoped4 cc3_scoped3 (by decide) (hr _ cc3_scoped4 cc3_scoped2 (by decide) (hr _ cc3_scoped4 cc3_scoped1 (by decide) (hr _ cc3_scoped4 cc3_scoped0 (by decide) (hr _ cc3_scoped4 cc3_scratch4 (by decide) (hr _ cc3_scoped4 cc3_scratch3 (by decide) (hm cc3_scoped4 (by decide))))))))]

/-- The three scratch buffers are among the subcore's own. -/
theorem ownBufs_V (F : FTy → Type) :
    (ownBufs (V d (cV L) (jV L)) : sProp 𝕄)
      = iprop((∃ f, (V d (cV L) (jV L)).loc cc3_scratch0 ↦{fullShare} f) ∗ (∃ f, (V d (cV L) (jV L)).loc cc3_scratch1 ↦{fullShare} f)
          ∗ (∃ f, (V d (cV L) (jV L)).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  have hm : ∀ b : Ref sig .scVector, ((Proc.scVector (cV L) (jV L)).devRef b).owner = .proc (Proc.scVector (cV L) (jV L)) →
      (Proc.scVector (cV L) (jV L)).devRef b ∈ ownRefs (τ := τ) (.scVector (cV L) (jV L)) := fun b h =>
    SparseCore.Cfg.mem_ownRefs_of_owner (p := Proc.scVector (cV L) (jV L)) (b := (Proc.scVector (cV L) (jV L)).devRef b) h
  have hne : ∀ b b' : Ref sig .scVector, b ≠ b' → (Proc.scVector (cV L) (jV L)).devRef b ≠ (Proc.scVector (cV L) (jV L)).devRef b' := fun b b' h e =>
    h (Proc.devRef_injective _ e)
  unfold SparseCore.Cfg.ownBufs
  refine (SparseCore.bigSep_erase' (hm cc3_scratch0 rfl)).trans ?_
  rw [SparseCore.bigSep_erase' (Finset.mem_erase.mpr ⟨hne cc3_scratch1 cc3_scratch0 (by decide), hm cc3_scratch1 rfl⟩),
    SparseCore.bigSep_erase' (Finset.mem_erase.mpr ⟨hne cc3_scratch2 cc3_scratch1 (by decide), Finset.mem_erase.mpr ⟨hne cc3_scratch2 cc3_scratch0 (by decide), hm cc3_scratch2 rfl⟩⟩)]

theorem list_lt (o : Fin 2 → ℕ) (h : ∀ a, o a + S1x128.size a ≤ S4x128.size a) : 128 + 8 * (L 1).val + 4 * (L 0).val + o 0 < 256 := by
  have h0 : (L 0).val < 2 := (L 0).isLt
  have h1 : (L 1).val < 16 := (L 1).isLt
  have h2 : o 0 + 1 ≤ 4 := h 0
  omega

/-- What is read of a list after the fetch. -/
theorem list_at (o : Fin 2 → ℕ) (h : ∀ a, o a + S1x128.size a ≤ S4x128.size a) (ho : o 1 = 0) (fs : Buf (Elt F) ((V d (cV L) (jV L)).loc cc3_scratch0))
    (fI : IVec S256x128 32) (x : S128.Idx) :
    (sK o h).view.read (Elt F) ((sI).view.write (Elt F) fs ((iK L).view.read (Elt F) (fI : Buf (Elt F) (iLoc d))) Finset.univ) x
      = fI (ValueIdx.ix2 (⟨128 + 8 * (L 1).val + 4 * (L 0).val + o 0, list_lt L o h⟩ : Fin 256) (⟨(x 0).val, (x 0).isLt⟩ : Fin 128)) := by
  rw [View.write_whole_univ]
  show fI ((Rect.unit (s := S256x128) (k3_off1 L) S4x128.size (k3_off1_inb L)).emb
    ((Rect.unit (s := S4x128) o S1x128.size h).emb (Shape.reshapeEquiv _ x))) = _
  rw [squeezed]
  congr 1
  funext a
  apply Fin.ext
  match a with
  | 0 =>
    show k3_off1 L 0 + 1 * (o 0 + 1 * 0) = 128 + 8 * (L 1).val + 4 * (L 0).val + o 0
    rw [k3_off1_eq]
    show 8 * (L 1).val + 4 * (L 0).val + 128 + 1 * (o 0 + 1 * 0) = 128 + 8 * (L 1).val + 4 * (L 0).val + o 0
    omega
  | 1 =>
    show k3_off1 L 1 + 1 * (o 1 + 1 * (x 0).val) = (x 0).val
    rw [k3_off1_eq, ho]
    show 0 + 1 * (0 + 1 * (x 0).val) = (x 0).val
    omega

/-- What a stream of rows delivers, on the output rows it is copied to. -/
theorem delivered (r : Fin 4) (h : ∀ a, (![r.val, 0] : Fin 2 → ℕ) a + S1x128.size a ≤ S4x128.size a) (fs : Buf (Elt F) ((V d (cV L) (jV L)).loc cc3_scratch0))
    (fX : FVec F S65536x128 .f32) (fI : IVec S256x128 32) (f₀ : FVec F S16384x128 .f32)
    (hX : ∀ a, (![0, 0] : Fin 2 → ℕ) a + S65536x128.size a ≤ S65536x128.size a)
    (hin : ∀ x : S128.Idx, ((sK ![r.val, 0] h).view.read (Elt F) ((sI).view.write (Elt F) fs ((iK L).view.read (Elt F) (fI : Buf (Elt F) (iLoc d))) Finset.univ) x).toNat
        < S65536x128.size gathers_S65536x128_S128x128.axis)
    (p : FVec F S128x128 .f32)
    (hp : p = SparseCore.gatherPayload gathers_S65536x128_S128x128
      (((xV).slice (Rect.unit (s := S65536x128) ![0, 0] S65536x128.size hX) (fun _ => rfl)).view.read (Elt F) (fX : Buf (Elt F) (xLoc d)))
      (SparseCore.rows ((sK ![r.val, 0] h).view.read (Elt F) ((sI).view.write (Elt F) fs ((iK L).view.read (Elt F) (fI : Buf (Elt F) (iLoc d))) Finset.univ)) rfl hin)) :
    ∀ i ∈ (oK L r).view.set, ((oK L r).view.writes (Elt F) (f₀ : Buf (Elt F) (oLoc d)) [⟨Rect.whole S128x128, p⟩] : FVec F S16384x128 .f32) i = gathered fX fI 128 i := by
  intro i hi
  obtain ⟨x, -, rfl⟩ := Finset.mem_map.mp hi
  rw [View.writes_singleton]
  have hwx : (Rect.whole S128x128).emb x = x := by
    funext a
    apply Fin.ext
    show 0 + 1 * (x a).val = (x a).val
    omega
  have hwr := View.write_emb_of_mem (Val := Elt F) (v := (oK L r).view.slice (Rect.whole S128x128)) (f₀ : Buf (Elt F) (oLoc d)) p (Finset.mem_univ x)
  rw [show ((oK L r).view.slice (Rect.whole S128x128)).emb x = (oK L r).view.emb x from congrArg (oK L r).view.emb hwx] at hwr
  refine hwr.trans ?_
  have hx0 : (x 0).val < 128 := (x 0).isLt
  have hi0 := emb_oK_0 L r x
  have hi1 := emb_oK_1 L r x
  have hr4 : r.val < 4 := r.isLt
  have h0 : (L 0).val < 2 := (L 0).isLt
  have h1 : (L 1).val < 16 := (L 1).isLt
  have hrow : ∀ k : Fin 128, (SparseCore.rows ((sK ![r.val, 0] h).view.read (Elt F) ((sI).view.write (Elt F) fs ((iK L).view.read (Elt F) (fI : Buf (Elt F) (iLoc d))) Finset.univ)) rfl hin k).val
      = (fI (ValueIdx.ix2 (⟨128 + 8 * (L 1).val + 4 * (L 0).val + r.val, list_lt L _ h⟩ : Fin 256) k)).toNat := by
    intro k
    show ((sK ![r.val, 0] h).view.read (Elt F) _ (S128.rowMajor.symm _)).toNat = _
    rw [list_at d L _ h rfl]
    congr 2
    funext a
    apply Fin.ext
    match a with
    | 0 => rfl
    | 1 =>
      show ((S128.rowMajor.symm (k.cast _)) 0).val = k.val
      exact rowMajor_one k
  have hA : rowAt fI 128 (((oK L r).view.emb x) 0).val = (fI (ValueIdx.ix2 (⟨128 + 8 * (L 1).val + 4 * (L 0).val + r.val, list_lt L _ h⟩ : Fin 256) (⟨(x 0).val, hx0⟩ : Fin 128))).toNat := by
    unfold rowAt
    rw [hi0, dif_pos (by omega)]
    congr 2
    funext a
    apply Fin.ext
    match a with
    | 0 => show 128 + (1024 * (L 1).val + 512 * (L 0).val + 128 * r.val + (x 0).val) / 128 = 128 + 8 * (L 1).val + 4 * (L 0).val + r.val; omega
    | 1 => show (1024 * (L 1).val + 512 * (L 0).val + 128 * r.val + (x 0).val) % 128 = (x 0).val; omega
  unfold gathered
  subst hp
  show fX _ = fX _
  congr 1
  have hlt : (fI (ValueIdx.ix2 (⟨128 + 8 * (L 1).val + 4 * (L 0).val + r.val, list_lt L _ h⟩ : Fin 256) (⟨(x 0).val, hx0⟩ : Fin 128))).toNat < 65536 := by
    rw [← hrow ⟨(x 0).val, hx0⟩]; exact Fin.isLt _
  funext a
  apply Fin.ext
  match a with
  | 0 =>
    show 0 + 1 * (SparseCore.rows _ rfl hin (x 0)).val = rowAt fI 128 (((oK L r).view.emb x) 0).val % 65536
    rw [hA, Nat.mod_eq_of_lt hlt, show (SparseCore.rows _ rfl hin (x 0)).val = _ from hrow ⟨(x 0).val, hx0⟩]
    omega
  | 1 =>
    show 0 + 1 * (x 1).val = (((oK L r).view.emb x) 1).val
    rw [hi1]; omega

/-- What a task holds: shares of the table and the lists, and its four groups of output rows. -/
abbrev taskPts (w : ℕ) (qx qi : PosShare TreeShare) (fX : FVec F S65536x128 .f32) (fI : IVec S256x128 32) (f : FVec F S16384x128 .f32) : sProp 𝕄 :=
  iprop((xLoc d ↦{qx} (fX : Buf (Elt F) (xLoc d))) ∗ (iLoc d ↦{qi} (fI : Buf (Elt F) (iLoc d)))
    ∗ (oLoc d ↦[chunk (4 * w + 0)]{fullShare} (f : Buf (Elt F) (oLoc d))) ∗ (oLoc d ↦[chunk (4 * w + 1)]{fullShare} (f : Buf (Elt F) (oLoc d)))
    ∗ (oLoc d ↦[chunk (4 * w + 2)]{fullShare} (f : Buf (Elt F) (oLoc d))) ∗ (oLoc d ↦[chunk (4 * w + 3)]{fullShare} (f : Buf (Elt F) (oLoc d))))

set_option maxHeartbeats 4000000 in
/-- The task of vector subcore `(L 0, L 1)`: it leaves its rows of the output at `gathered`. -/
theorem tile_body (hF : (K (F := F)).Facts) (qx qi : PosShare TreeShare)
    (fX : FVec F S65536x128 .f32) (fI : IVec S256x128 32) (hI : InTable fI) (f₀ : FVec F S16384x128 .f32)
    (O : CellTallies nD τ sig (HIx 3)) (W : Waits sig (HIx 3)) (hO : ∀ g, O g none = 0) :
    iprop(levAts (K (F := F)).L (K (F := F)).lev ∗ emp
        ∗ taskPts d (wid L) qx qi fX fI f₀
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc3_body L xV (Memref.isWhole_whole _) iV (Memref.isWhole_whole _) oV (Memref.isWhole_whole _) sI (Memref.isWhole_whole _)
            sA (Memref.isWhole_whole _) sB (Memref.isWhole_whole _) cc3_scratch3 cc3_scratch4
            cc3_scoped0 cc3_scoped1 cc3_scoped2 cc3_scoped3 cc3_scoped4)
          fun _ => iprop(taskPts d (wid L) qx qi fX fI (gathered fX fI 128)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc3_body_eq_skeleton]; unfold cc3_body_skel
  simp only [k3_part1_eq_skeleton, k3_part2_eq_skeleton]; unfold k3_part1_skel k3_part2_skel
  rw [(K (F := F)).scopedBufs_V hF d (cV L) (jV L), SparseCore.Cfg.scopedSems0_V (Val := Elt F) d (cV L) (jV L), ownSems0_V d L F, ownBufs_V d L F]
  iintro ⟨#Hlv, -, Hpts, ⟨⟨%fs, Hs⟩, ⟨%fa, Ha⟩, ⟨%fb, Hb⟩, Hbufs⟩, ⟨Hc8, Hc9, Hr0, Hr1, Hr2, Hr3, Hr4, Hsems⟩, HO⟩
  ihave Hmw := (show levAts (K (F := F)).L (K (F := F)).lev ⊢ Transfers.MayWaits (V d (cV L) (jV L)) (default : HIx 3) O from
    (K (F := F)).mayWaits_none (thr := V d (cV L) (jV L)) hO) $$ Hlv
  unfold taskPts
  rw [show chunk (4 * wid L + 0) = (oK L 0).view.set from (set_oK L 0).symm, show chunk (4 * wid L + 1) = (oK L 1).view.set from (set_oK L 1).symm,
    show chunk (4 * wid L + 2) = (oK L 2).view.set from (set_oK L 2).symm, show chunk (4 * wid L + 3) = (oK L 3).view.set from (set_oK L 3).symm]
  icases Hpts with ⟨Hx, Hi, Ho0, Ho1, Ho2, Ho3⟩
  ihave Hx := (pointsTo_share (PosShare.mem_left_op_right qx)).1 $$ Hx
  icases Hx with ⟨Hx1, Hx2⟩
  ihave Hx1' := (Entails.of_eq (show (xLoc d ↦{qx.left} (fX : Buf (Elt F) (xLoc d)) : sProp 𝕄) = ((xV).view.loc (V d (cV L) (jV L)) ↦{qx.left} (fX : Buf (Elt F) (xLoc d))) from rfl)) $$ Hx1
  ihave Hx2' := (Entails.of_eq (show (xLoc d ↦{qx.right} (fX : Buf (Elt F) (xLoc d)) : sProp 𝕄) = ((xV).view.loc (V d (cV L) (jV L)) ↦{qx.right} (fX : Buf (Elt F) (xLoc d))) from rfl)) $$ Hx2
  ihave Hi' := (Entails.of_eq (show (iLoc d ↦{qi} (fI : Buf (Elt F) (iLoc d)) : sProp 𝕄) = ((iV).view.loc (V d (cV L) (jV L)) ↦{qi} (fI : Buf (Elt F) (iLoc d))) from rfl)) $$ Hi
  ihave Ho0' := (Entails.of_eq (show (oLoc d ↦[(oK L 0).view.set]{fullShare} (f₀ : Buf (Elt F) (oLoc d)) : sProp 𝕄) = ((oK L 0).view.loc (V d (cV L) (jV L)) ↦[(oK L 0).view.set]{fullShare} (f₀ : Buf (Elt F) (oLoc d))) from rfl)) $$ Ho0
  ihave Ho1' := (Entails.of_eq (show (oLoc d ↦[(oK L 1).view.set]{fullShare} (f₀ : Buf (Elt F) (oLoc d)) : sProp 𝕄) = ((oK L 1).view.loc (V d (cV L) (jV L)) ↦[(oK L 1).view.set]{fullShare} (f₀ : Buf (Elt F) (oLoc d))) from rfl)) $$ Ho1
  ihave Ho2' := (Entails.of_eq (show (oLoc d ↦[(oK L 2).view.set]{fullShare} (f₀ : Buf (Elt F) (oLoc d)) : sProp 𝕄) = ((oK L 2).view.loc (V d (cV L) (jV L)) ↦[(oK L 2).view.set]{fullShare} (f₀ : Buf (Elt F) (oLoc d))) from rfl)) $$ Ho2
  ihave Ho3' := (Entails.of_eq (show (oLoc d ↦[(oK L 3).view.set]{fullShare} (f₀ : Buf (Elt F) (oLoc d)) : sProp 𝕄) = ((oK L 3).view.loc (V d (cV L) (jV L)) ↦[(oK L 3).view.set]{fullShare} (f₀ : Buf (Elt F) (oLoc d))) from rfl)) $$ Ho3
  ihave Hs' := (Entails.of_eq (show ((V d (cV L) (jV L)).loc cc3_scratch0 ↦{fullShare} fs : sProp 𝕄) = ((sI).view.loc (V d (cV L) (jV L)) ↦{fullShare} fs) from rfl)) $$ Hs
  ihave Ha' := (Entails.of_eq (show ((V d (cV L) (jV L)).loc cc3_scratch1 ↦{fullShare} fa : sProp 𝕄) = ((sA).view.loc (V d (cV L) (jV L)) ↦{fullShare} fa) from rfl)) $$ Ha
  ihave Hb' := (Entails.of_eq (show ((V d (cV L) (jV L)).loc cc3_scratch2 ↦{fullShare} fb : sProp 𝕄) = ((sB).view.loc (V d (cV L) (jV L)) ↦{fullShare} fb) from rfl)) $$ Hb
  have hin : ∀ (r : Fin 4) (h : ∀ a, (![r.val, 0] : Fin 2 → ℕ) a + S1x128.size a ≤ S4x128.size a) (fs : Buf (Elt F) ((V d (cV L) (jV L)).loc cc3_scratch0)) (x : S128.Idx),
      ((sK ![r.val, 0] h).view.read (Elt F) ((sI).view.write (Elt F) fs (ReadAs.same.apply ((iK L).view.read (Elt F) (fI : Buf (Elt F) (iLoc d)))) Finset.univ) x).toNat
        < S65536x128.size gathers_S65536x128_S128x128.axis := by
    intro r h fs x
    rw [ReadAs.apply_same, list_at d L _ h rfl]
    exact hI _
  have hin0 := hin 0
  have hin1 := hin 1
  have hin2 := hin 2
  have hin3 := hin 3
  clear hin
  sl_exec
  sl_step
  have e0 := delivered d L 0 inb_S4x128_S1x128_0_0 fs fX fI f₀ inb_S65536x128_S65536x128_0_0 (hin0 inb_S4x128_S1x128_0_0 fs)
    (tile_body.sl.dma0_1 d L fX fI fs fa hin0) (by unfold tile_body.sl.dma0_1; refine (landed cc3_scratch1 _ _ _).trans ?_; unfold tile_body.sl.gather1 tile_body.sl.dma0; rfl)
  have e1 := delivered d L 1 inb_S4x128_S1x128_1_0 fs fX fI f₀ inb_S65536x128_S65536x128_0_0 (hin1 inb_S4x128_S1x128_1_0 fs)
    (tile_body.sl.dma0_2 d L fX fI fs fb hin1) (by unfold tile_body.sl.dma0_2; refine (landed cc3_scratch2 _ _ _).trans ?_; unfold tile_body.sl.gather2 tile_body.sl.dma0; rfl)
  have e2 := delivered d L 2 inb_S4x128_S1x128_2_0 fs fX fI f₀ inb_S65536x128_S65536x128_0_0 (hin2 inb_S4x128_S1x128_2_0 fs)
    (tile_body.sl.dma0_3 d L fX fI fs fa hin0 hin2) (by unfold tile_body.sl.dma0_3; refine (landed cc3_scratch1 _ _ _).trans ?_; unfold tile_body.sl.gather4 tile_body.sl.dma0; rfl)
  have e3 := delivered d L 3 inb_S4x128_S1x128_3_0 fs fX fI f₀ inb_S65536x128_S65536x128_0_0 (hin3 inb_S4x128_S1x128_3_0 fs)
    (tile_body.sl.dma0_4 d L fX fI fs fb hin1 hin3) (by unfold tile_body.sl.dma0_4; refine (landed cc3_scratch2 _ _ _).trans ?_; unfold tile_body.sl.gather6 tile_body.sl.dma0; rfl)
  isplitl [Hx1' Hx2' Hi' Ho0' Ho1' Ho2' Ho3']
  · isplitl [Hx1' Hx2']
    · iapply (pointsTo_share (PosShare.mem_left_op_right qx)).2
      isplitl [Hx1']; · iexact Hx1'
      iexact Hx2'
    isplitl [Hi']; · iexact Hi'
    isplitl [Ho0']
    · iapply (Entails.of_eq (pointsTo_congr (ℓ := oLoc d) (q := fullShare) (I := (oK L 0).view.set) e0)); iexact Ho0'
    isplitl [Ho1']
    · iapply (Entails.of_eq (pointsTo_congr (ℓ := oLoc d) (q := fullShare) (I := (oK L 1).view.set) e1)); iexact Ho1'
    isplitl [Ho2']
    · iapply (Entails.of_eq (pointsTo_congr (ℓ := oLoc d) (q := fullShare) (I := (oK L 2).view.set) e2)); iexact Ho2'
    · iapply (Entails.of_eq (pointsTo_congr (ℓ := oLoc d) (q := fullShare) (I := (oK L 3).view.set) e3)); iexact Ho3'
  isplitl [Hs' Ha' Hb' Hbufs]
  · isplitl [Hs']; · iexists _; iexact Hs'
    isplitl [Ha']; · iexists _; iexact Ha'
    isplitl [Hb']; · iexists _; iexact Hb'
    iexact Hbufs
  isplitl [Hc8 Hc9 Hr0 Hr1 Hr2 Hr3 Hr4 Hsems]
  · isplitl [Hc8]; · iexact Hc8
    isplitl [Hc9]; · iexact Hc9
    isplitl [Hr0]; · iexact Hr0
    isplitl [Hr1]; · iexact Hr1
    isplitl [Hr2]; · iexact Hr2
    isplitl [Hr3]; · iexact Hr3
    isplitl [Hr4]; · iexact Hr4
    iexact Hsems
  iexists _; isplitr
  swap; · iexact HO
  ipureintro; intro p hp
  simp only [Finset.mem_insert] at hp
  rcases hp with hp | hp | hp | hp | hp | hp | hp | hp | hp | hp
  all_goals first | exact .inl hp | exact .inr (hp ▸ rfl)

end Cert.Proof.Gather3

end
-- ==== Proof.Pays.lean ====
/- The three SparseCore calls as the launch theorem sees them: what each handshake carries, that each subcore's task runs
   on what it is handed, and that the tasks' holdings are the calls' arrays whole. -/
module

public import proofs.«01_k».proof.Proof.Tile
public import proofs.«01_k».proof.Proof.Gather3
public import Idealize.ShloMosaic.Lib.Pipeline.Frame

@[expose] public section

noncomputable section

namespace Cert.Proof.Pays

open Cert.KernelIdeal Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Cert.Proof.Gather (gathered InTable chunk mem_chunk xLoc iLoc)
open Cert.Proof.Scatter (rowsOf Good rowSet vLoc mLoc rLoc)

variable {F : FTy → Type}

local notation "𝕄" => MT nD τ sig (HIx 3) (Elt F) ℕ UU ℕ

theorem facts : (K (F := F)).Facts where
  start_ne_taskDone := show sc_start ≠ sc_taskDone by decide
  start_unscoped := show (SemLoc.reg sc_start : SemLoc sig).isScoped .scScalar = false by decide
  taskDone_unscoped := show (SemLoc.reg sc_taskDone : SemLoc sig).isScoped .scScalar = false by decide
  go_unscoped := show (SemLoc.reg sc_go : SemLoc sig).isScoped .scVector = false by decide
  done_unscoped := show (SemLoc.reg sc_done : SemLoc sig).isScoped .tc = false by decide
  noTaskShared := show ∀ (b : DevRef τ sig) (c : Fin τ.nSC), b.owner = .sc c → sig.taskShared b.table b.idx = false by decide
  noSeq := fun _ => rfl

/-! ## Shares: one left half peeled off after another -/

/-- Share `i` of `n + 1`: each the left half of what those before it left, the last all of it. -/
def part : (n : ℕ) → PosShare TreeShare → Fin (n + 1) → PosShare TreeShare
  | 0, q, _ => q
  | n + 1, q, i => Fin.cases q.left (fun j => part n q.right j) i

/-- Cells held at a share are held at its parts at once. -/
theorem pointsTo_parts {ℓ : Loc nD τ sig} (I : Finset (Idx ℓ)) (f : Buf (Elt F) ℓ) :
    ∀ (n : ℕ) (q : PosShare TreeShare), (ℓ ↦[I]{q} f : sProp 𝕄) = bigSep Finset.univ fun i : Fin (n + 1) => ℓ ↦[I]{part n q i} f
  | 0, q => (bigSep_univ_of_subsingleton (0 : Fin 1) (Φ := fun i : Fin (0 + 1) => (ℓ ↦[I]{part 0 q i} f : sProp 𝕄))).symm
  | n + 1, q => by
    rw [Fin.univ_succ, Finset.cons_eq_insert, bigSep_insert (by simp [Fin.succ_ne_zero]), bigSep_map,
      BI.Entails.antisymm (pointsTo_share (PosShare.mem_left_op_right q)).1 (pointsTo_share (PosShare.mem_left_op_right q)).2,
      pointsTo_parts I f n q.right]
    rfl

/-! ## The tasks, and what the handshakes carry -/

/-- The row number of subcore `i` of core `c`. -/
abbrev rowNo (c : Fin 2) (i : Fin 16) : Fin 32 := ⟨2 * i.val + c.val, by omega⟩

/-- Per core and subcore is per row number. -/
theorem bigSep_rowNo (Φ : Fin 32 → sProp 𝕄) :
    (bigSep Finset.univ fun c : Fin 2 => bigSep Finset.univ fun i : Fin 16 => Φ (rowNo c i)) = bigSep Finset.univ Φ := by
  rw [bigSep_univ_equiv ((Equiv.prodComm (Fin 2) (Fin 16)).trans (finProdFinEquiv (m := 16) (n := 2))) Φ, bigSep_univ_prod]
  refine bigSep_congr fun c _ => bigSep_congr fun i _ => congrArg Φ (Fin.ext ?_)
  show 2 * i.val + c.val = c.val + 2 * i.val
  omega

/-- What the three calls read and the arrays they write, as they find them, on one device. -/
structure Args (F : FTy → Type) where
  X : FVec F S65536x128 .f32
  I : IVec S256x128 32
  f0 : FVec F S16384x128 .f32
  f1 : FVec F S16384x128 .f32
  V : FVec F S36864 .f32
  M : IVec S36864 32
  O : IVec S32x16 32
  f2 : FVec F S16x4096 .f32

variable [FloatOps F] (A : Dev nD → Args F)

/-- What number `w`'s subcore holds in the first call, the output at `f`. -/
abbrev task0 (d : Dev nD) (w : Fin 32) (f : FVec F S16384x128 .f32) : sProp 𝕄 :=
  Gather.taskPts d w.val (part 31 fullShare w) (part 31 fullShare w) (A d).X (A d).I f
/-- … in the second call. -/
abbrev task1 (d : Dev nD) (w : Fin 32) (f : FVec F S16384x128 .f32) : sProp 𝕄 :=
  Gather3.taskPts d w.val (part 31 fullShare w) (part 31 fullShare w) (A d).X (A d).I f
/-- … in the third. -/
abbrev task2 (d : Dev nD) (w : Fin 32) (f : FVec F S16x4096 .f32) : sProp 𝕄 :=
  Scatter.taskPts d w.val (part 31 fullShare w) (part 31 fullShare w) (part 31 fullShare w) (A d).V (A d).M (A d).O f

/-- What the first call leaves. -/
abbrev g0 (d : Dev nD) : FVec F S16384x128 .f32 := gathered (A d).X (A d).I 0
/-- What the second call leaves. -/
abbrev g1 (d : Dev nD) : FVec F S16384x128 .f32 := gathered (A d).X (A d).I 128
/-- What the third call leaves. -/
abbrev g2 (d : Dev nD) : FVec F S16x4096 .f32 := rowsOf (A d).V (A d).M (A d).O

theorem nCore_eq (q : Fin 3) : (K (F := F)).nCore q = 2 := by fin_cases q <;> rfl
theorem nSub_eq (q : Fin 3) : (K (F := F)).nSub q = 16 := by fin_cases q <;> rfl

/-- Number `w`'s task of call `q`: before it runs when `b` is false, after when `b` is true. -/
def task (b : Bool) (q : Fin 3) (d : Dev nD) (w : Fin 32) : sProp 𝕄 := match q with
  | 0 => task0 A d w (if b then g0 A d else (A d).f0)
  | 1 => task1 A d w (if b then g1 A d else (A d).f1)
  | 2 => task2 A d w (if b then g2 A d else (A d).f2)

/-- Each core takes its sixteen subcores' holdings, and brings them back with the output written. -/
def P : (K (F := F)).Pay (nD := nD) (Val := Elt F) (Name := ℕ) (U := UU) where
  st := fun q d c => bigSep Finset.univ fun i : Fin 16 => task A false q d (rowNo (Fin.cast (nCore_eq q) c) i)
  dn := fun q d c => bigSep Finset.univ fun i : Fin 16 => task A true q d (rowNo (Fin.cast (nCore_eq q) c) i)
  go := fun q d c i => task A false q d (rowNo (Fin.cast (nCore_eq q) c) (Fin.cast (nSub_eq q) i))
  td := fun q d c i => task A true q d (rowNo (Fin.cast (nCore_eq q) c) (Fin.cast (nSub_eq q) i))
  x := fun _ _ => iprop(emp)

instance task_storable (b : Bool) (q : Fin 3) (d : Dev nD) (w : Fin 32) : BI.Storable (upEmb : UEmb _ 𝕄) (task A b q d w) :=
  match q with
  | 0 => (inferInstance : BI.Storable (upEmb : UEmb _ 𝕄) (task0 A d w (if b then g0 A d else (A d).f0)))
  | 1 => (inferInstance : BI.Storable (upEmb : UEmb _ 𝕄) (task1 A d w (if b then g1 A d else (A d).f1)))
  | 2 => (inferInstance : BI.Storable (upEmb : UEmb _ 𝕄) (task2 A d w (if b then g2 A d else (A d).f2)))

instance P_storable : (P A).IsStorable where
  st q d c := (inferInstance : BI.Storable (upEmb : UEmb _ 𝕄) (bigSep Finset.univ fun i : Fin 16 => task A false q d (rowNo (Fin.cast (nCore_eq q) c) i)))
  dn q d c := (inferInstance : BI.Storable (upEmb : UEmb _ 𝕄) (bigSep Finset.univ fun i : Fin 16 => task A true q d (rowNo (Fin.cast (nCore_eq q) c) i)))
  go q d c i := task_storable A false q d _
  td q d c i := task_storable A true q d _

/-- The coordinates of subcore `s` of core `c`. -/
def coords1 (c : Fin (grid1.bound 0)) (s : Fin (grid1.bound 1)) : grid1.Coords := fun
  | 0 => c | 1 => s | ⟨_ + 2, h⟩ => absurd h (Nat.not_lt.2 (Nat.le_add_left 2 _))

/-- The coordinates of subcore `s` of core `c`. -/
def coords3 (c : Fin (grid3.bound 0)) (s : Fin (grid3.bound 1)) : grid3.Coords := fun
  | 0 => c | 1 => s | ⟨_ + 2, h⟩ => absurd h (Nat.not_lt.2 (Nat.le_add_left 2 _))

/-- The coordinates of subcore `s` of core `c`. -/
def coords5 (c : Fin (grid5.bound 0)) (s : Fin (grid5.bound 1)) : grid5.Coords := fun
  | 0 => c | 1 => s | ⟨_ + 2, h⟩ => absurd h (Nat.not_lt.2 (Nat.le_add_left 2 _))

theorem defs_vector1 (c : Fin τ.nSC) (s : Fin τ.nSub) :
    defs₀ (F := F) (.scVector c s) 1 ()
      = SparseCore.onTile hcore1 hsub1 (fun c s => cc1_body (coords1 c s)
          (Memref.whole main_arg1_scv) (Memref.isWhole_whole _) (Memref.whole main_v8_scv) (Memref.isWhole_whole _) (Memref.whole main_v9_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scoped0 cc1_scoped1 cc1_scoped2 cc1_scoped3 cc1_scoped4) ⟨⟩ c s := rfl

theorem defs_vector3 (c : Fin τ.nSC) (s : Fin τ.nSub) :
    defs₀ (F := F) (.scVector c s) 3 ()
      = SparseCore.onTile hcore3 hsub3 (fun c s => cc3_body (coords3 c s)
          (Memref.whole main_arg1_scv) (Memref.isWhole_whole _) (Memref.whole main_v8_scv) (Memref.isWhole_whole _) (Memref.whole main_v12_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scoped0 cc3_scoped1 cc3_scoped2 cc3_scoped3 cc3_scoped4) ⟨⟩ c s := rfl

theorem defs_vector5 (c : Fin τ.nSC) (s : Fin τ.nSub) :
    defs₀ (F := F) (.scVector c s) 5 ()
      = SparseCore.onTile hcore5 hsub5 (fun c s => cc5__sc_scatter_body (coords5 c s)
          (Memref.whole main_v17_scv) (Memref.isWhole_whole _) (Memref.whole main_v18_scv) (Memref.isWhole_whole _) (Memref.whole main_v7_scv) (Memref.isWhole_whole _) (Memref.whole main_v19_scv) (Memref.isWhole_whole _) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scoped0 cc5_scoped1 cc5_scoped2 cc5_scoped3 cc5_scoped4 cc5_scoped5) ⟨⟩ c s := rfl

omit [FloatOps F] in
theorem waits_weaken {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; intro p hp
    rcases hW' p hp with h | h
    · exact .inl h
    · exact .inr (.inl h)
  · iexact HO

set_option maxRecDepth 16384 in
/-- Each subcore runs call 0's task on what it holds. -/
theorem tileObl0 (hI : ∀ d, InTable (A d).I) : (K (F := F)).TileObl (D (F := F)) 𝒱 (P A) v₀ 0 := by
  intro d c i O W hO _ _
  simp only [show (P A).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs_vector1]; simp only [SparseCore.onTile, hci, and_self, ↓reduceDIte]
  exact (Gather.tile_body d (coords1 ⟨_, hci.1⟩ ⟨_, hci.2⟩) facts _ _ (A d).X (A d).I (hI d) (A d).f0 O W hO).trans
    (wp_mono frame _ _ fun _ => waits_weaken)

set_option maxRecDepth 16384 in
/-- Each subcore runs call 1's task on what it holds. -/
theorem tileObl1 (hI : ∀ d, InTable (A d).I) : (K (F := F)).TileObl (D (F := F)) 𝒱 (P A) v₀ 1 := by
  intro d c i O W hO _ _
  simp only [show (P A).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs_vector3]; simp only [SparseCore.onTile, hci, and_self, ↓reduceDIte]
  exact (Gather3.tile_body d (coords3 ⟨_, hci.1⟩ ⟨_, hci.2⟩) facts _ _ (A d).X (A d).I (hI d) (A d).f1 O W hO).trans
    (wp_mono frame _ _ fun _ => waits_weaken)

set_option maxRecDepth 16384 in
/-- Each subcore runs call 2's task on what it holds. -/
theorem tileObl2 (hG : ∀ d, Good (A d).M (A d).O) : (K (F := F)).TileObl (D (F := F)) 𝒱 (P A) v₀ 2 := by
  intro d c i O W hO _ _
  simp only [show (P A).ox = fun _ _ => 0 from rfl, add_zero]
  have hci : ((K (F := F)).core 2 c).val < grid5.bound 0 ∧ ((K (F := F)).sub 2 i).val < grid5.bound 1 := ⟨c.isLt, i.isLt⟩
  change _ ⊢ wp _ _ _ (Pipeline.liftProg (defs₀ (F := F) (.scVector ((K (F := F)).core 2 c) ((K (F := F)).sub 2 i)) 5 ())) _
  refine BI.Entails.trans ?_ (Pipeline.wp_liftProg (D (F := F)) (Pipeline.defs_kernel pcfgs defs₀) 𝒱₀ _ Set.univ none _ _)
  rw [defs_vector5]; simp only [SparseCore.onTile, hci, and_self, ↓reduceDIte]
  exact (Scatter.tile_body d (coords5 ⟨_, hci.1⟩ ⟨_, hci.2⟩) facts _ _ _ (A d).V (A d).M (A d).O (hG d) (A d).f2 O W hO).trans
    (wp_mono frame _ _ fun _ => waits_weaken)

theorem vecSplit (q : Fin 3) : (K (F := F)).VecSplit' (P A) q := by
  intro d c
  have e : ∀ b, (bigSep Finset.univ fun i : Fin ((K (F := F)).nSub q) => task A b q d (rowNo (Fin.cast (nCore_eq q) c) (Fin.cast (nSub_eq q) i)))
      = bigSep Finset.univ fun i : Fin 16 => task A b q d (rowNo (Fin.cast (nCore_eq q) c) i) := fun b => by
    fin_cases q <;> rfl
  show (bigSep Finset.univ fun i : Fin 16 => task A false q d (rowNo (Fin.cast (nCore_eq q) c) i)) ⊢ |={Set.univ}=> iprop(
      (bigSep Finset.univ fun i : Fin ((K (F := F)).nSub q) => task A false q d (rowNo (Fin.cast (nCore_eq q) c) (Fin.cast (nSub_eq q) i)))
      ∗ ((bigSep Finset.univ fun i : Fin ((K (F := F)).nSub q) => task A true q d (rowNo (Fin.cast (nCore_eq q) c) (Fin.cast (nSub_eq q) i)))
        -∗ (bigSep Finset.univ fun i : Fin 16 => task A true q d (rowNo (Fin.cast (nCore_eq q) c) i))))
  rw [e, e]
  iintro H; imodintro
  isplitl [H]; · iexact H
  iintro H; iexact H

/-! ## The arrays whole are the tasks' holdings -/

theorem rowSet_disjoint : ∀ w ∈ (Finset.univ : Finset (Fin 32)), ∀ w' ∈ (Finset.univ : Finset (Fin 32)), w ≠ w' → Disjoint (rowSet w.val) (rowSet w'.val) := by
  intro w _ w' _ h
  rw [Finset.disjoint_left]
  intro x hx hx'
  unfold rowSet at hx hx'
  rw [Finset.mem_filter] at hx hx'
  exact h (Fin.ext (hx.2.symm.trans hx'.2))

theorem rowSet_cover : (Finset.univ : Finset (Fin 32)).biUnion (fun w => rowSet w.val) = Finset.univ := by
  refine Finset.eq_univ_iff_forall.mpr fun x => Finset.mem_biUnion.mpr ⟨⟨(x 0).val, ?_⟩, Finset.mem_univ _, ?_⟩
  · have : (x 0).val < 16 := (x 0).isLt
    omega
  · unfold rowSet
    exact Finset.mem_filter.mpr ⟨Finset.mem_univ _, rfl⟩

theorem chunk_disjoint : ∀ p ∈ (Finset.univ : Finset (Fin 128)), ∀ p' ∈ (Finset.univ : Finset (Fin 128)), p ≠ p' → Disjoint (chunk p.val) (chunk p'.val) := by
  intro p _ p' _ h
  rw [Finset.disjoint_left]
  intro x hx hx'
  exact h (Fin.ext ((mem_chunk.mp hx).symm.trans (mem_chunk.mp hx')))

theorem chunk_cover : (Finset.univ : Finset (Fin 128)).biUnion (fun p => chunk p.val) = Finset.univ := by
  refine Finset.eq_univ_iff_forall.mpr fun x => Finset.mem_biUnion.mpr ⟨⟨(x 0).val / 128, ?_⟩, Finset.mem_univ _, mem_chunk.mpr rfl⟩
  have : (x 0).val < 16384 := (x 0).isLt
  omega

/-- Four chunks per number are the chunks. -/
theorem bigSep_chunks (Φ : ℕ → sProp 𝕄) :
    (bigSep Finset.univ fun w : Fin 32 => iprop(Φ (4 * w.val + 0) ∗ Φ (4 * w.val + 1) ∗ Φ (4 * w.val + 2) ∗ Φ (4 * w.val + 3)))
      = bigSep Finset.univ fun p : Fin 128 => Φ p.val := by
  rw [bigSep_univ_equiv (finProdFinEquiv (m := 32) (n := 4)) (fun p : Fin 128 => Φ p.val), bigSep_univ_prod]
  refine bigSep_congr fun w _ => ?_
  have e : ∀ r : Fin 4, Φ ((finProdFinEquiv (w, r) : Fin (32 * 4)) : Fin 128).val = Φ (4 * w.val + r.val) := fun r =>
    congrArg Φ (show r.val + 4 * w.val = _ by omega)
  simp only [e]
  rw [show (Finset.univ : Finset (Fin 4)) = {0, 1, 2, 3} from by decide, SparseCore.bigSep_insert' (by decide), SparseCore.bigSep_insert' (by decide),
    SparseCore.bigSep_insert' (by decide), bigSep_singleton]
  rfl

/-- The three arrays of the first call, whole. -/
abbrev arrays0 (d : Dev nD) (f : FVec F S16384x128 .f32) : sProp 𝕄 :=
  iprop((xLoc d ↦{fullShare} ((A d).X : Buf (Elt F) (xLoc d))) ∗ (iLoc d ↦{fullShare} ((A d).I : Buf (Elt F) (iLoc d)))
    ∗ (Gather.oLoc d ↦{fullShare} (f : Buf (Elt F) (Gather.oLoc d))))
/-- The three arrays of the second call, whole. -/
abbrev arrays1 (d : Dev nD) (f : FVec F S16384x128 .f32) : sProp 𝕄 :=
  iprop((xLoc d ↦{fullShare} ((A d).X : Buf (Elt F) (xLoc d))) ∗ (iLoc d ↦{fullShare} ((A d).I : Buf (Elt F) (iLoc d)))
    ∗ (Gather3.oLoc d ↦{fullShare} (f : Buf (Elt F) (Gather3.oLoc d))))
/-- The four arrays of the third call, whole. -/
abbrev arrays2 (d : Dev nD) (f : FVec F S16x4096 .f32) : sProp 𝕄 :=
  iprop((vLoc d ↦{fullShare} ((A d).V : Buf (Elt F) (vLoc d))) ∗ (mLoc d ↦{fullShare} ((A d).M : Buf (Elt F) (mLoc d)))
    ∗ (Scatter.oLoc d ↦{fullShare} ((A d).O : Buf (Elt F) (Scatter.oLoc d))) ∗ (rLoc d ↦{fullShare} (f : Buf (Elt F) (rLoc d))))

theorem share_eq (ℓ : Loc nD τ sig) (g : Buf (Elt F) ℓ) :
    (bigSep Finset.univ fun w : Fin 32 => (ℓ ↦{part 31 fullShare w} g : sProp 𝕄)) = (ℓ ↦{fullShare} g) :=
  (pointsTo_parts Finset.univ g 31 fullShare).symm

theorem tasks0_eq (d : Dev nD) (f : FVec F S16384x128 .f32) :
    (bigSep Finset.univ fun c : Fin 2 => bigSep Finset.univ fun i : Fin 16 => task0 A d (rowNo c i) f) = arrays0 A d f := by
  rw [bigSep_rowNo (fun w => task0 A d w f)]
  unfold task0 Gather.taskPts arrays0
  rw [bigSep_sep', bigSep_sep', share_eq, share_eq, bigSep_chunks (fun n => (Gather.oLoc d ↦[chunk n]{fullShare} (f : Buf (Elt F) (Gather.oLoc d)) : sProp 𝕄)),
    ← pointsTo_biUnion Finset.univ (ℓ := Gather.oLoc d) (fun p : Fin 128 => chunk p.val) chunk_disjoint, chunk_cover]

theorem tasks1_eq (d : Dev nD) (f : FVec F S16384x128 .f32) :
    (bigSep Finset.univ fun c : Fin 2 => bigSep Finset.univ fun i : Fin 16 => task1 A d (rowNo c i) f) = arrays1 A d f := by
  rw [bigSep_rowNo (fun w => task1 A d w f)]
  unfold task1 Gather3.taskPts arrays1
  rw [bigSep_sep', bigSep_sep', share_eq, share_eq, bigSep_chunks (fun n => (Gather3.oLoc d ↦[chunk n]{fullShare} (f : Buf (Elt F) (Gather3.oLoc d)) : sProp 𝕄)),
    ← pointsTo_biUnion Finset.univ (ℓ := Gather3.oLoc d) (fun p : Fin 128 => chunk p.val) chunk_disjoint, chunk_cover]

theorem tasks2_eq (d : Dev nD) (f : FVec F S16x4096 .f32) :
    (bigSep Finset.univ fun c : Fin 2 => bigSep Finset.univ fun i : Fin 16 => task2 A d (rowNo c i) f) = arrays2 A d f := by
  rw [bigSep_rowNo (fun w => task2 A d w f)]
  unfold task2 Scatter.taskPts arrays2
  rw [bigSep_sep', bigSep_sep', bigSep_sep', share_eq, share_eq, share_eq,
    ← pointsTo_biUnion Finset.univ (ℓ := rLoc d) (fun w : Fin 32 => rowSet w.val) rowSet_disjoint, rowSet_cover]

theorem st0_eq (d : Dev nD) : (bigSep Finset.univ fun c : Fin ((K (F := F)).nCore 0) => (P A).st 0 d c) = arrays0 A d (A d).f0 := tasks0_eq A d (A d).f0
theorem dn0_eq (d : Dev nD) : (bigSep Finset.univ fun c : Fin ((K (F := F)).nCore 0) => (P A).dn 0 d c) = arrays0 A d (g0 A d) := tasks0_eq A d (g0 A d)
theorem st1_eq (d : Dev nD) : (bigSep Finset.univ fun c : Fin ((K (F := F)).nCore 1) => (P A).st 1 d c) = arrays1 A d (A d).f1 := tasks1_eq A d (A d).f1
theorem dn1_eq (d : Dev nD) : (bigSep Finset.univ fun c : Fin ((K (F := F)).nCore 1) => (P A).dn 1 d c) = arrays1 A d (g1 A d) := tasks1_eq A d (g1 A d)
theorem st2_eq (d : Dev nD) : (bigSep Finset.univ fun c : Fin ((K (F := F)).nCore 2) => (P A).st 2 d c) = arrays2 A d (A d).f2 := tasks2_eq A d (A d).f2
theorem dn2_eq (d : Dev nD) : (bigSep Finset.univ fun c : Fin ((K (F := F)).nCore 2) => (P A).dn 2 d c) = arrays2 A d (g2 A d) := tasks2_eq A d (g2 A d)

end Cert.Proof.Pays

end
-- ==== Proof.Steps.lean ====
/- The six device calls of @main, each as a step of the TensorCore's thread: what it needs of the arrays held, and the
   arrays as it leaves them. -/
module

public import proofs.«01_k».proof.Proof.Calls
public import proofs.«01_k».proof.Proof.Pays

@[expose] public section

noncomputable section

namespace Cert.Proof.Steps

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held)
open Idealize.ShloMosaic.Pipeline (Dat)
open Cert.Proof.Tc Cert.Proof.Pays
open Cert.Proof.Gather (gathered InTable xLoc iLoc)
open Cert.Proof.Scatter (rowsOf Good vLoc mLoc rLoc)

variable {F : FTy → Type} [FloatOps F] [∀ e, Nonempty (Elt F e)]

local notation "𝕄" => MT nD τ sig (HIx 3) (Elt F) ℕ UU ℕ

/-- An array of the device. -/
abbrev dv (r : Ref sig .tc) : DevRef τ sig := Proc.devRef .tc r
/-- The pipelines' ghost state of call `p`. -/
abbrev ghost (p : Fin 3) (d : Dev nD) : sProp 𝕄 :=
  iprop(Pipeline.cellsGhost (Pipeline.pin (pcfgs (F := F)) adm0) EP p d ∗ Pipeline.toksInit (Pipeline.pin (pcfgs (F := F)) adm0) EP p d)

/-! ## The three TensorCore calls -/

/-- The arrays after the call that counts. -/
def next0 (v : Valuation τ sig (Elt F)) : Valuation τ sig (Elt F) := Function.update v (dv main_v7) (boundsOf F (v (dv main_v6)))
/-- The scores of the first half. -/
def scores1 (v : Valuation τ sig (Elt F)) : FVec F S1x16384 .f32 :=
  scoreArr F (v (dv main_v9)) (v (dv main_v10)) (v (dv main_v0)) (v (dv main_arg5)) (v (dv main_v3)) (v (dv main_v1)) (v (dv main_v2)) (v (dv main_v4)) (v (dv main_arg9)) (v (dv main_v5))
/-- The arrays after the first scoring call. -/
def next1 (v : Valuation τ sig (Elt F)) : Valuation τ sig (Elt F) := Function.update v (dv main_v11) (scores1 v)
/-- The scores of the second half. -/
def scores2 (v : Valuation τ sig (Elt F)) : FVec F S1x16384 .f32 :=
  scoreArr F (v (dv main_v12)) (v (dv main_v13)) (v (dv main_v0)) (v (dv main_arg5)) (v (dv main_v3)) (v (dv main_v1)) (v (dv main_v2)) (v (dv main_v4)) (v (dv main_arg9)) (v (dv main_v5))
/-- The arrays after the second scoring call. -/
def next2 (v : Valuation τ sig (Elt F)) : Valuation τ sig (Elt F) := Function.update v (dv main_v14) (scores2 v)

variable (V : Dev nD → Valuation τ sig (Elt F)) (n : ℕ)

omit [∀ e, Nonempty (Elt F e)] in
theorem next0_self (v : Valuation τ sig (Elt F)) : next0 v (dv main_v7) = boundsOf F (v (dv main_v6)) := Function.update_self _ _ _
omit [∀ e, Nonempty (Elt F e)] in
theorem next0_ne (v : Valuation τ sig (Elt F)) {r : DevRef τ sig} (h : r ≠ dv main_v7) : next0 v r = v r := Function.update_of_ne h _ _

theorem end0 (b : ℕ) (c : Dev nD) : ∀ w : Fin 2, (dat0 V n b c).arrAt w cfg0.N = next0 (V c) (dv (Pipeline.arrRef spec0 w))
  | ⟨0, _⟩ => ((dat0 V n b c).arrAt_in 0 rfl _).trans (next0_ne (V c) (r := dv main_v6) (by decide)).symm
  | ⟨1, _⟩ => (arr0 V n b c).trans (next0_self (V c)).symm

set_option backward.isDefEq.respectTransparency.types false in
/-- Call 0 of the TensorCore as a region. -/
def reg0 (b : ℕ) := region V (fun c => next0 (V c)) n b (pd0 V n b) 0 launch0 (fun _ _ => rfl) (fun _ _ => rfl) (fun _ _ => rfl) (fun _ _ => rfl) (fun _ _ => rfl)
    (body0 V n b)
    (end0 V n b)
    (fun c r hr => next0_ne (V c) (fun h => hr (by
      rw [Proc.devRef_injective _ h]; exact Finset.mem_image.mpr ⟨1, Finset.mem_univ _, rfl⟩)))

/-- Call 0 of the TensorCore as @main makes it. -/
theorem wp_call0 (d : Dev nD) (Φ : PUnit → sProp 𝕄) :
    iprop(levAts (K (F := F)).L (K (F := F)).lev ∗ (K (F := F)).tcSt EH d n ∗ boundary (SparseCore.T d) ∗ held (SparseCore.T d) (Pipeline.ucRefs τ sig) (V d)
        ∗ ghost 0 d
        ∗ (iprop((K (F := F)).tcSt EH d n ∗ boundary (SparseCore.T d) ∗ held (SparseCore.T d) (Pipeline.ucRefs τ sig) (next0 (V d))) -∗ Φ ⟨⟩))
      ⊢ wp frame (wpE ((K (F := F)).defs (D (F := F))) 𝒱 (SparseCore.T d) none) Set.univ (Prog.lift (.customCall (SparseCore.inner (Pipeline.entry 0)) ())) Φ :=
  wp_region V (fun c => next0 (V c)) 0 n (fun b => pd0 V n b) (reg0 V n) (fun _ _ => rfl) (fun _ _ => rfl) d Φ

omit [∀ e, Nonempty (Elt F e)] in
theorem next1_self (v : Valuation τ sig (Elt F)) : next1 v (dv main_v11) = scores1 v := Function.update_self _ _ _
omit [∀ e, Nonempty (Elt F e)] in
theorem next1_ne (v : Valuation τ sig (Elt F)) {r : DevRef τ sig} (h : r ≠ dv main_v11) : next1 v r = v r := Function.update_of_ne h _ _

theorem end1 (b : ℕ) (c : Dev nD) : ∀ w : Fin 11, (First.dat V n b c).arrAt w cfg2.N = next1 (V c) (dv (Pipeline.arrRef spec2 w))
  | ⟨0, _⟩ => ((First.dat V n b c).arrAt_in 0 rfl _).trans (next1_ne (V c) (r := dv main_v9) (by decide)).symm
  | ⟨1, _⟩ => ((First.dat V n b c).arrAt_in 1 rfl _).trans (next1_ne (V c) (r := dv main_v10) (by decide)).symm
  | ⟨2, _⟩ => ((First.dat V n b c).arrAt_in 2 rfl _).trans (next1_ne (V c) (r := dv main_v0) (by decide)).symm
  | ⟨3, _⟩ => ((First.dat V n b c).arrAt_in 3 rfl _).trans (next1_ne (V c) (r := dv main_arg5) (by decide)).symm
  | ⟨4, _⟩ => ((First.dat V n b c).arrAt_in 4 rfl _).trans (next1_ne (V c) (r := dv main_v3) (by decide)).symm
  | ⟨5, _⟩ => ((First.dat V n b c).arrAt_in 5 rfl _).trans (next1_ne (V c) (r := dv main_v1) (by decide)).symm
  | ⟨6, _⟩ => ((First.dat V n b c).arrAt_in 6 rfl _).trans (next1_ne (V c) (r := dv main_v2) (by decide)).symm
  | ⟨7, _⟩ => ((First.dat V n b c).arrAt_in 7 rfl _).trans (next1_ne (V c) (r := dv main_v4) (by decide)).symm
  | ⟨8, _⟩ => ((First.dat V n b c).arrAt_in 8 rfl _).trans (next1_ne (V c) (r := dv main_arg9) (by decide)).symm
  | ⟨9, _⟩ => ((First.dat V n b c).arrAt_in 9 rfl _).trans (next1_ne (V c) (r := dv main_v5) (by decide)).symm
  | ⟨10, _⟩ => (First.arr V n b c).trans (next1_self (V c)).symm

set_option backward.isDefEq.respectTransparency.types false in
/-- Call 1 of the TensorCore as a region. -/
def reg1 (b : ℕ) := region V (fun c => next1 (V c)) n b (First.pd V n b) 1 launch2 (fun _ _ => rfl) (fun _ _ => rfl) (fun _ _ => rfl) (fun _ _ => rfl) (fun _ _ => rfl)
    (First.body V n b)
    (end1 V n b)
    (fun c r hr => next1_ne (V c) (fun h => hr (by
      rw [Proc.devRef_injective _ h]; exact Finset.mem_image.mpr ⟨10, Finset.mem_univ _, rfl⟩)))

/-- Call 1 of the TensorCore as @main makes it. -/
theorem wp_call1 (d : Dev nD) (Φ : PUnit → sProp 𝕄) :
    iprop(levAts (K (F := F)).L (K (F := F)).lev ∗ (K (F := F)).tcSt EH d n ∗ boundary (SparseCore.T d) ∗ held (SparseCore.T d) (Pipeline.ucRefs τ sig) (V d)
        ∗ ghost 1 d
        ∗ (iprop((K (F := F)).tcSt EH d n ∗ boundary (SparseCore.T d) ∗ held (SparseCore.T d) (Pipeline.ucRefs τ sig) (next1 (V d))) -∗ Φ ⟨⟩))
      ⊢ wp frame (wpE ((K (F := F)).defs (D (F := F))) 𝒱 (SparseCore.T d) none) Set.univ (Prog.lift (.customCall (SparseCore.inner (Pipeline.entry 1)) ())) Φ :=
  wp_region V (fun c => next1 (V c)) 1 n (fun b => First.pd V n b) (reg1 V n) (fun _ _ => rfl) (fun _ _ => rfl) d Φ

omit [∀ e, Nonempty (Elt F e)] in
theorem next2_self (v : Valuation τ sig (Elt F)) : next2 v (dv main_v14) = scores2 v := Function.update_self _ _ _
omit [∀ e, Nonempty (Elt F e)] in
theorem next2_ne (v : Valuation τ sig (Elt F)) {r : DevRef τ sig} (h : r ≠ dv main_v14) : next2 v r = v r := Function.update_of_ne h _ _

theorem end2 (b : ℕ) (c : Dev nD) : ∀ w : Fin 11, (Second.dat V n b c).arrAt w cfg4.N = next2 (V c) (dv (Pipeline.arrRef spec4 w))
  | ⟨0, _⟩ => ((Second.dat V n b c).arrAt_in 0 rfl _).trans (next2_ne (V c) (r := dv main_v12) (by decide)).symm
  | ⟨1, _⟩ => ((Second.dat V n b c).arrAt_in 1 rfl _).trans (next2_ne (V c) (r := dv main_v13) (by decide)).symm
  | ⟨2, _⟩ => ((Second.dat V n b c).arrAt_in 2 rfl _).trans (next2_ne (V c) (r := dv main_v0) (by decide)).symm
  | ⟨3, _⟩ => ((Second.dat V n b c).arrAt_in 3 rfl _).trans (next2_ne (V c) (r := dv main_arg5) (by decide)).symm
  | ⟨4, _⟩ => ((Second.dat V n b c).arrAt_in 4 rfl _).trans (next2_ne (V c) (r := dv main_v3) (by decide)).symm
  | ⟨5, _⟩ => ((Second.dat V n b c).arrAt_in 5 rfl _).trans (next2_ne (V c) (r := dv main_v1) (by decide)).symm
  | ⟨6, _⟩ => ((Second.dat V n b c).arrAt_in 6 rfl _).trans (next2_ne (V c) (r := dv main_v2) (by decide)).symm
  | ⟨7, _⟩ => ((Second.dat V n b c).arrAt_in 7 rfl _).trans (next2_ne (V c) (r := dv main_v4) (by decide)).symm
  | ⟨8, _⟩ => ((Second.dat V n b c).arrAt_in 8 rfl _).trans (next2_ne (V c) (r := dv main_arg9) (by decide)).symm
  | ⟨9, _⟩ => ((Second.dat V n b c).arrAt_in 9 rfl _).trans (next2_ne (V c) (r := dv main_v5) (by decide)).symm
  | ⟨10, _⟩ => (Second.arr V n b c).trans (next2_self (V c)).symm

set_option backward.isDefEq.respectTransparency.types false in
/-- Call 2 of the TensorCore as a region. -/
def reg2 (b : ℕ) := region V (fun c => next2 (V c)) n b (Second.pd V n b) 2 launch4 (fun _ _ => rfl) (fun _ _ => rfl) (fun _ _ => rfl) (fun _ _ => rfl) (fun _ _ => rfl)
    (Second.body V n b)
    (end2 V n b)
    (fun c r hr => next2_ne (V c) (fun h => hr (by
      rw [Proc.devRef_injective _ h]; exact Finset.mem_image.mpr ⟨10, Finset.mem_univ _, rfl⟩)))

/-- Call 2 of the TensorCore as @main makes it. -/
theorem wp_call2 (d : Dev nD) (Φ : PUnit → sProp 𝕄) :
    iprop(levAts (K (F := F)).L (K (F := F)).lev ∗ (K (F := F)).tcSt EH d n ∗ boundary (SparseCore.T d) ∗ held (SparseCore.T d) (Pipeline.ucRefs τ sig) (V d)
        ∗ ghost 2 d
        ∗ (iprop((K (F := F)).tcSt EH d n ∗ boundary (SparseCore.T d) ∗ held (SparseCore.T d) (Pipeline.ucRefs τ sig) (next2 (V d))) -∗ Φ ⟨⟩))
      ⊢ wp frame (wpE ((K (F := F)).defs (D (F := F))) 𝒱 (SparseCore.T d) none) Set.univ (Prog.lift (.customCall (SparseCore.inner (Pipeline.entry 2)) ())) Φ :=
  wp_region V (fun c => next2 (V c)) 2 n (fun b => Second.pd V n b) (reg2 V n) (fun _ _ => rfl) (fun _ _ => rfl) d Φ

/-! ## The three SparseCore calls -/

/-- The arrays of SparseCore call 0. -/
abbrev S0 : Finset (DevRef τ sig) := {dv main_arg1, dv main_v8, dv main_v9}
theorem S0_sub : S0 ⊆ Pipeline.ucRefs τ sig := by decide
theorem held_S0 (d : Dev nD) (W : Valuation τ sig (Elt F)) :
    (held (SparseCore.T d) S0 W : sProp 𝕄) = iprop(((SparseCore.T d).loc main_arg1 ↦{fullShare} W (dv main_arg1)) ∗ ((SparseCore.T d).loc main_v8 ↦{fullShare} W (dv main_v8)) ∗ ((SparseCore.T d).loc main_v9 ↦{fullShare} W (dv main_v9))) := by
  unfold held S0
  rw [SparseCore.bigSep_insert' (by decide), SparseCore.bigSep_insert' (by decide), bigSep_singleton]

/-- SparseCore call 0 as @main makes it. -/
theorem wp_sc0 (A : Dev nD → Args F) (κ : GSem nD τ sig → ℕ) (d : Dev nD) (v : Valuation τ sig (Elt F))
    (h0 : v (dv main_arg1) = (A d).X) (h1 : v (dv main_v8) = (A d).I) (h2 : v (dv main_v9) = (A d).f0) (Φ : PUnit → sProp 𝕄) :
    iprop((K (F := F)).ctx EH (P A) κ ∗ (K (F := F)).tcSt EH d 0 ∗ held (SparseCore.T d) (Pipeline.ucRefs τ sig) v
        ∗ (iprop((K (F := F)).tcSt EH d 1 ∗ held (SparseCore.T d) (Pipeline.ucRefs τ sig) (Function.update v (dv main_v9) (g0 A d))) -∗ Φ ⟨⟩))
      ⊢ wp frame (wpE ((K (F := F)).defs (D (F := F))) 𝒱 (SparseCore.T d) none) Set.univ ((K (F := F)).run d 0) Φ := by
  have e1 : (held (SparseCore.T d) (Pipeline.ucRefs τ sig) v : sProp 𝕄) = iprop(arrays0 A d (A d).f0 ∗ held (SparseCore.T d) (Pipeline.ucRefs τ sig \ S0) v) := by
    rw [StableHlo.held_sub_split (SparseCore.T d) S0_sub, held_S0, h0, h1, h2]
  have e2 : (held (SparseCore.T d) (Pipeline.ucRefs τ sig) (Function.update v (dv main_v9) (g0 A d)) : sProp 𝕄)
      = iprop(arrays0 A d (g0 A d) ∗ held (SparseCore.T d) (Pipeline.ucRefs τ sig \ S0) v) := by
    rw [StableHlo.held_sub_split (SparseCore.T d) S0_sub, held_S0, Function.update_self, Function.update_of_ne (show dv main_arg1 ≠ dv main_v9 by decide), Function.update_of_ne (show dv main_v8 ≠ dv main_v9 by decide), h0, h1,
      StableHlo.held_congr (SparseCore.T d) (V' := v) (S := Pipeline.ucRefs τ sig \ S0) fun b hb => Function.update_of_ne (fun h => by
        subst h
        exact (Finset.mem_sdiff.mp hb).2 (by decide)) _ _]
  rw [e1, e2]
  iintro ⟨#Hctx, Hst, ⟨Ha, Hrest⟩, Hk⟩
  iapply ((K (F := F)).wp_run (D (F := F)) 𝒱 (EH := EH) (P := P A) κ d 0)
  isplitr; · iexact Hctx
  isplitl [Hst]; · iexact Hst
  isplitl [Ha]
  · rw [st0_eq]; iexact Ha
  iintro ⟨Hst, Hdn⟩
  ihave Ha := (Entails.of_eq (dn0_eq A d)) $$ Hdn
  iapply Hk
  isplitl [Hst]; · iexact Hst
  isplitl [Ha]; · iexact Ha
  iexact Hrest

/-- The arrays of SparseCore call 1. -/
abbrev S1 : Finset (DevRef τ sig) := {dv main_arg1, dv main_v8, dv main_v12}
theorem S1_sub : S1 ⊆ Pipeline.ucRefs τ sig := by decide
theorem held_S1 (d : Dev nD) (W : Valuation τ sig (Elt F)) :
    (held (SparseCore.T d) S1 W : sProp 𝕄) = iprop(((SparseCore.T d).loc main_arg1 ↦{fullShare} W (dv main_arg1)) ∗ ((SparseCore.T d).loc main_v8 ↦{fullShare} W (dv main_v8)) ∗ ((SparseCore.T d).loc main_v12 ↦{fullShare} W (dv main_v12))) := by
  unfold held S1
  rw [SparseCore.bigSep_insert' (by decide), SparseCore.bigSep_insert' (by decide), bigSep_singleton]

/-- SparseCore call 1 as @main makes it. -/
theorem wp_sc1 (A : Dev nD → Args F) (κ : GSem nD τ sig → ℕ) (d : Dev nD) (v : Valuation τ sig (Elt F))
    (h0 : v (dv main_arg1) = (A d).X) (h1 : v (dv main_v8) = (A d).I) (h2 : v (dv main_v12) = (A d).f1) (Φ : PUnit → sProp 𝕄) :
    iprop((K (F := F)).ctx EH (P A) κ ∗ (K (F := F)).tcSt EH d 1 ∗ held (SparseCore.T d) (Pipeline.ucRefs τ sig) v
        ∗ (iprop((K (F := F)).tcSt EH d 2 ∗ held (SparseCore.T d) (Pipeline.ucRefs τ sig) (Function.update v (dv main_v12) (g1 A d))) -∗ Φ ⟨⟩))
      ⊢ wp frame (wpE ((K (F := F)).defs (D (F := F))) 𝒱 (SparseCore.T d) none) Set.univ ((K (F := F)).run d 1) Φ := by
  have e1 : (held (SparseCore.T d) (Pipeline.ucRefs τ sig) v : sProp 𝕄) = iprop(arrays1 A d (A d).f1 ∗ held (SparseCore.T d) (Pipeline.ucRefs τ sig \ S1) v) := by
    rw [StableHlo.held_sub_split (SparseCore.T d) S1_sub, held_S1, h0, h1, h2]
  have e2 : (held (SparseCore.T d) (Pipeline.ucRefs τ sig) (Function.update v (dv main_v12) (g1 A d)) : sProp 𝕄)
      = iprop(arrays1 A d (g1 A d) ∗ held (SparseCore.T d) (Pipeline.ucRefs τ sig \ S1) v) := by
    rw [StableHlo.held_sub_split (SparseCore.T d) S1_sub, held_S1, Function.update_self, Function.update_of_ne (show dv main_arg1 ≠ dv main_v12 by decide), Function.update_of_ne (show dv main_v8 ≠ dv main_v12 by decide), h0, h1,
      StableHlo.held_congr (SparseCore.T d) (V' := v) (S := Pipeline.ucRefs τ sig \ S1) fun b hb => Function.update_of_ne (fun h => by
        subst h
        exact (Finset.mem_sdiff.mp hb).2 (by decide)) _ _]
  rw [e1, e2]
  iintro ⟨#Hctx, Hst, ⟨Ha, Hrest⟩, Hk⟩
  iapply ((K (F := F)).wp_run (D (F := F)) 𝒱 (EH := EH) (P := P A) κ d 1)
  isplitr; · iexact Hctx
  isplitl [Hst]; · iexact Hst
  isplitl [Ha]
  · rw [st1_eq]; iexact Ha
  iintro ⟨Hst, Hdn⟩
  ihave Ha := (Entails.of_eq (dn1_eq A d)) $$ Hdn
  iapply Hk
  isplitl [Hst]; · iexact Hst
  isplitl [Ha]; · iexact Ha
  iexact Hrest

/-- The arrays of SparseCore call 2. -/
abbrev S2 : Finset (DevRef τ sig) := {dv main_v17, dv main_v18, dv main_v7, dv main_v19}
theorem S2_sub : S2 ⊆ Pipeline.ucRefs τ sig := by decide
theorem held_S2 (d : Dev nD) (W : Valuation τ sig (Elt F)) :
    (held (SparseCore.T d) S2 W : sProp 𝕄) = iprop(((SparseCore.T d).loc main_v17 ↦{fullShare} W (dv main_v17)) ∗ ((SparseCore.T d).loc main_v18 ↦{fullShare} W (dv main_v18)) ∗ ((SparseCore.T d).loc main_v7 ↦{fullShare} W (dv main_v7)) ∗ ((SparseCore.T d).loc main_v19 ↦{fullShare} W (dv main_v19))) := by
  unfold held S2
  rw [SparseCore.bigSep_insert' (by decide), SparseCore.bigSep_insert' (by decide), SparseCore.bigSep_insert' (by decide), bigSep_singleton]

/-- SparseCore call 2 as @main makes it. -/
theorem wp_sc2 (A : Dev nD → Args F) (κ : GSem nD τ sig → ℕ) (d : Dev nD) (v : Valuation τ sig (Elt F))
    (h0 : v (dv main_v17) = (A d).V) (h1 : v (dv main_v18) = (A d).M) (h2 : v (dv main_v7) = (A d).O) (h3 : v (dv main_v19) = (A d).f2) (Φ : PUnit → sProp 𝕄) :
    iprop((K (F := F)).ctx EH (P A) κ ∗ (K (F := F)).tcSt EH d 2 ∗ held (SparseCore.T d) (Pipeline.ucRefs τ sig) v
        ∗ (iprop((K (F := F)).tcSt EH d 3 ∗ held (SparseCore.T d) (Pipeline.ucRefs τ sig) (Function.update v (dv main_v19) (g2 A d))) -∗ Φ ⟨⟩))
      ⊢ wp frame (wpE ((K (F := F)).defs (D (F := F))) 𝒱 (SparseCore.T d) none) Set.univ ((K (F := F)).run d 2) Φ := by
  have e1 : (held (SparseCore.T d) (Pipeline.ucRefs τ sig) v : sProp 𝕄) = iprop(arrays2 A d (A d).f2 ∗ held (SparseCore.T d) (Pipeline.ucRefs τ sig \ S2) v) := by
    rw [StableHlo.held_sub_split (SparseCore.T d) S2_sub, held_S2, h0, h1, h2, h3]
  have e2 : (held (SparseCore.T d) (Pipeline.ucRefs τ sig) (Function.update v (dv main_v19) (g2 A d)) : sProp 𝕄)
      = iprop(arrays2 A d (g2 A d) ∗ held (SparseCore.T d) (Pipeline.ucRefs τ sig \ S2) v) := by
    rw [StableHlo.held_sub_split (SparseCore.T d) S2_sub, held_S2, Function.update_self, Function.update_of_ne (show dv main_v17 ≠ dv main_v19 by decide), Function.update_of_ne (show dv main_v18 ≠ dv main_v19 by decide), Function.update_of_ne (show dv main_v7 ≠ dv main_v19 by decide), h0, h1, h2,
      StableHlo.held_congr (SparseCore.T d) (V' := v) (S := Pipeline.ucRefs τ sig \ S2) fun b hb => Function.update_of_ne (fun h => by
        subst h
        exact (Finset.mem_sdiff.mp hb).2 (by decide)) _ _]
  rw [e1, e2]
  iintro ⟨#Hctx, Hst, ⟨Ha, Hrest⟩, Hk⟩
  iapply ((K (F := F)).wp_run (D (F := F)) 𝒱 (EH := EH) (P := P A) κ d 2)
  isplitr; · iexact Hctx
  isplitl [Hst]; · iexact Hst
  isplitl [Ha]
  · rw [st2_eq]; iexact Ha
  iintro ⟨Hst, Hdn⟩
  ihave Ha := (Entails.of_eq (dn2_eq A d)) $$ Hdn
  iapply Hk
  isplitl [Hst]; · iexact Hst
  isplitl [Ha]; · iexact Ha
  iexact Hrest

end Cert.Proof.Steps

end
-- ==== Proof.Launch.lean ====
/- @main on the TensorCore: its host operations between the six device calls, the arrays' contents at each point, and
   the whole program's run: the result array is `rowsOf` of the padded scores, the padded actions and the bounds. -/
module

public import proofs.«01_k».proof.Proof.Steps

@[expose] public section

noncomputable section

namespace Cert.Proof.Whole

open Cert.KernelIdeal Cert.KernelIdeal.Gen
open Idealize.ShloMosaic
open Idealize.ShloMosaic.TcCoe Idealize.ShloMosaic.Tactic
open Idealize.ShloMosaic.SparseCore (T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held after)
open Cert.Proof.Tc Cert.Proof.Pays Cert.Proof.Steps
open Cert.Proof.Gather (gathered InTable)
open Cert.Proof.Scatter (rowsOf Good)

variable {F : FTy → Type} [FloatOps F] [∀ e, Nonempty (Elt F e)]

local notation "𝕄" => MT nD τ sig (HIx 3) (Elt F) ℕ UU ℕ

/-! ## The host's operations, in five stretches -/

abbrev opsA : List (HloOp τ sig (Elt F)) :=
  [ StableHlo.reshape main_arg0 main_v0 (rfl : (.f32 : EltTy) = .f32) shapeCasts_S16x1x128_S16x128,
    StableHlo.unary main_arg7 main_v1 ((extractStridedSlice S128x128 ![0, 0] · slices_S256x128_S128x128_0_0) : (⟨S256x128, .f32⟩ : BufTy).Contents (Elt F) → (⟨S128x128, .f32⟩ : BufTy).Contents (Elt F)),
    StableHlo.unary main_arg7 main_v2 ((extractStridedSlice S128x128 ![128, 0] · slices_S256x128_S128x128_128_0) : (⟨S256x128, .f32⟩ : BufTy).Contents (Elt F) → (⟨S128x128, .f32⟩ : BufTy).Contents (Elt F)),
    StableHlo.reshape main_arg6 main_v3 (rfl : (.f32 : EltTy) = .f32) shapeCasts_S128_S1x128,
    StableHlo.reshape main_arg8 main_v4 (rfl : (.f32 : EltTy) = .f32) shapeCasts_S128_S1x128,
    StableHlo.reshape main_arg10 main_v5 (rfl : (.f32 : EltTy) = .f32) shapeCasts_S1_S1x1,
    StableHlo.reshape main_arg3 main_v6 (rfl : (.i32 : EltTy) = .i32) shapeCasts_S32768_S8x1x4096 ]
theorem subA : ∀ op ∈ (opsA : List (HloOp τ sig (Elt F))), op.bufs ⊆ Pipeline.ucRefs τ sig := by
  intro op h
  simp only [opsA, List.mem_cons, List.not_mem_nil, _root_.or_false] at h
  rcases h with rfl | rfl | rfl | rfl | rfl | rfl | rfl
  · exact show ({dv main_arg0, dv main_v0} : Finset (DevRef τ sig)) ⊆ _ by decide
  · exact show ({dv main_arg7, dv main_v1} : Finset (DevRef τ sig)) ⊆ _ by decide
  · exact show ({dv main_arg7, dv main_v2} : Finset (DevRef τ sig)) ⊆ _ by decide
  · exact show ({dv main_arg6, dv main_v3} : Finset (DevRef τ sig)) ⊆ _ by decide
  · exact show ({dv main_arg8, dv main_v4} : Finset (DevRef τ sig)) ⊆ _ by decide
  · exact show ({dv main_arg10, dv main_v5} : Finset (DevRef τ sig)) ⊆ _ by decide
  · exact show ({dv main_arg3, dv main_v6} : Finset (DevRef τ sig)) ⊆ _ by decide
theorem freshA : ∀ op ∈ (opsA : List (HloOp τ sig (Elt F))), op.fresh = ∅ := by
  intro op h
  simp only [opsA, List.mem_cons, List.not_mem_nil, _root_.or_false] at h
  rcases h with rfl | rfl | rfl | rfl | rfl | rfl | rfl <;> rfl
abbrev writA : List (Ref sig .tc) := [main_v0, main_v1, main_v2, main_v3, main_v4, main_v5, main_v6]
theorem keepA (V : Valuation τ sig (Elt F)) {r : Ref sig .tc} (hr : r ∉ writA) : after opsA V (dv r) = V (dv r) := by
  refine StableHlo.after_of_writes_sub (W := writA) opsA V ?_ hr
  refine List.forall_iff_forall_mem.mpr fun op h => ?_
  simp only [opsA, List.mem_cons, List.not_mem_nil, _root_.or_false] at h
  rcases h with rfl | rfl | rfl | rfl | rfl | rfl | rfl
  · exact show ({dv main_v0} : Finset (DevRef τ sig)) ⊆ _ by decide
  · exact show ({dv main_v1} : Finset (DevRef τ sig)) ⊆ _ by decide
  · exact show ({dv main_v2} : Finset (DevRef τ sig)) ⊆ _ by decide
  · exact show ({dv main_v3} : Finset (DevRef τ sig)) ⊆ _ by decide
  · exact show ({dv main_v4} : Finset (DevRef τ sig)) ⊆ _ by decide
  · exact show ({dv main_v5} : Finset (DevRef τ sig)) ⊆ _ by decide
  · exact show ({dv main_v6} : Finset (DevRef τ sig)) ⊆ _ by decide

abbrev opsB : List (HloOp τ sig (Elt F)) :=
  [ StableHlo.reshape main_arg2 main_v8 (rfl : (.i32 : EltTy) = .i32) shapeCasts_S32768_S256x128 ]
theorem subB : ∀ op ∈ (opsB : List (HloOp τ sig (Elt F))), op.bufs ⊆ Pipeline.ucRefs τ sig := by
  intro op h
  simp only [opsB, List.mem_cons, List.not_mem_nil, _root_.or_false] at h
  rcases h with rfl
  · exact show ({dv main_arg2, dv main_v8} : Finset (DevRef τ sig)) ⊆ _ by decide
theorem freshB : ∀ op ∈ (opsB : List (HloOp τ sig (Elt F))), op.fresh = ∅ := by
  intro op h
  simp only [opsB, List.mem_cons, List.not_mem_nil, _root_.or_false] at h
  rcases h with rfl
  rfl
abbrev writB : List (Ref sig .tc) := [main_v8]
theorem keepB (V : Valuation τ sig (Elt F)) {r : Ref sig .tc} (hr : r ∉ writB) : after opsB V (dv r) = V (dv r) := by
  refine StableHlo.after_of_writes_sub (W := writB) opsB V ?_ hr
  refine List.forall_iff_forall_mem.mpr fun op h => ?_
  simp only [opsB, List.mem_cons, List.not_mem_nil, _root_.or_false] at h
  rcases h with rfl
  · exact show ({dv main_v8} : Finset (DevRef τ sig)) ⊆ _ by decide

abbrev opsC : List (HloOp τ sig (Elt F)) :=
  [ StableHlo.unary main_v6 main_v10 ((extractStridedSlice S4x1x4096 ![0, 0, 0] · slices_S8x1x4096_S4x1x4096_0_0_0) : (⟨S8x1x4096, .i32⟩ : BufTy).Contents (Elt F) → (⟨S4x1x4096, .i32⟩ : BufTy).Contents (Elt F)) ]
theorem subC : ∀ op ∈ (opsC : List (HloOp τ sig (Elt F))), op.bufs ⊆ Pipeline.ucRefs τ sig := by
  intro op h
  simp only [opsC, List.mem_cons, List.not_mem_nil, _root_.or_false] at h
  rcases h with rfl
  · exact show ({dv main_v6, dv main_v10} : Finset (DevRef τ sig)) ⊆ _ by decide
theorem freshC : ∀ op ∈ (opsC : List (HloOp τ sig (Elt F))), op.fresh = ∅ := by
  intro op h
  simp only [opsC, List.mem_cons, List.not_mem_nil, _root_.or_false] at h
  rcases h with rfl
  rfl
abbrev writC : List (Ref sig .tc) := [main_v10]
theorem keepC (V : Valuation τ sig (Elt F)) {r : Ref sig .tc} (hr : r ∉ writC) : after opsC V (dv r) = V (dv r) := by
  refine StableHlo.after_of_writes_sub (W := writC) opsC V ?_ hr
  refine List.forall_iff_forall_mem.mpr fun op h => ?_
  simp only [opsC, List.mem_cons, List.not_mem_nil, _root_.or_false] at h
  rcases h with rfl
  · exact show ({dv main_v10} : Finset (DevRef τ sig)) ⊆ _ by decide

abbrev opsD : List (HloOp τ sig (Elt F)) :=
  [ StableHlo.unary main_v6 main_v13 ((extractStridedSlice S4x1x4096 ![4, 0, 0] · slices_S8x1x4096_S4x1x4096_4_0_0) : (⟨S8x1x4096, .i32⟩ : BufTy).Contents (Elt F) → (⟨S4x1x4096, .i32⟩ : BufTy).Contents (Elt F)) ]
theorem subD : ∀ op ∈ (opsD : List (HloOp τ sig (Elt F))), op.bufs ⊆ Pipeline.ucRefs τ sig := by
  intro op h
  simp only [opsD, List.mem_cons, List.not_mem_nil, _root_.or_false] at h
  rcases h with rfl
  · exact show ({dv main_v6, dv main_v13} : Finset (DevRef τ sig)) ⊆ _ by decide
theorem freshD : ∀ op ∈ (opsD : List (HloOp τ sig (Elt F))), op.fresh = ∅ := by
  intro op h
  simp only [opsD, List.mem_cons, List.not_mem_nil, _root_.or_false] at h
  rcases h with rfl
  rfl
abbrev writD : List (Ref sig .tc) := [main_v13]
theorem keepD (V : Valuation τ sig (Elt F)) {r : Ref sig .tc} (hr : r ∉ writD) : after opsD V (dv r) = V (dv r) := by
  refine StableHlo.after_of_writes_sub (W := writD) opsD V ?_ hr
  refine List.forall_iff_forall_mem.mpr fun op h => ?_
  simp only [opsD, List.mem_cons, List.not_mem_nil, _root_.or_false] at h
  rcases h with rfl
  · exact show ({dv main_v13} : Finset (DevRef τ sig)) ⊆ _ by decide

abbrev opsE : List (HloOp τ sig (Elt F)) :=
  [ StableHlo.binary main_v11 main_v14 main_v15 ((fun a b => concatenate S1x32768 1 [⟨S1x16384, a⟩, ⟨S1x16384, b⟩] concatenates_S1x16384_S1x16384_S1x32768_d1) : (⟨S1x16384, .f32⟩ : BufTy).Contents (Elt F) → (⟨S1x16384, .f32⟩ : BufTy).Contents (Elt F) → (⟨S1x32768, .f32⟩ : BufTy).Contents (Elt F)),
    StableHlo.reshape main_v15 main_v16 (rfl : (.f32 : EltTy) = .f32) shapeCasts_S1x32768_S32768,
    StableHlo.nullary main_c (constantI S_ 32 0#32),
    StableHlo.TRef.unary (.of main_c) main_call0.v0 (sitofp .f32),
    StableHlo.TRef.binary (.of main_v16 : StableHlo.TRef sig ⟨S32768, .f32⟩) main_call0.v0 main_call0.v1 (fun x v => pad S36864 ![0] ![4096] ![0] x v pads_S32768_S36864_040960 h_S_),
    StableHlo.nullary main_c_0 (constantI S_ 32 0#32),
    StableHlo.TRef.unary (.of main_c_0) main_call1.v0 id,
    StableHlo.TRef.binary (.of main_arg4 : StableHlo.TRef sig ⟨S32768, .i32⟩) main_call1.v0 main_call1.v1 (fun x v => pad S36864 ![0] ![4096] ![0] x v pads_S32768_S36864_040960 h_S_) ]
theorem subE : ∀ op ∈ (opsE : List (HloOp τ sig (Elt F))), op.bufs ⊆ Pipeline.ucRefs τ sig := by
  intro op h
  simp only [opsE, List.mem_cons, List.not_mem_nil, _root_.or_false] at h
  rcases h with rfl | rfl | rfl | rfl | rfl | rfl | rfl | rfl
  · exact show ({dv main_v11, dv main_v14, dv main_v15} : Finset (DevRef τ sig)) ⊆ _ by decide
  · exact show ({dv main_v15, dv main_v16} : Finset (DevRef τ sig)) ⊆ _ by decide
  · exact show ({dv main_c} : Finset (DevRef τ sig)) ⊆ _ by decide
  · exact show ({dv main_c, dv main_call0_v0} : Finset (DevRef τ sig)) ⊆ _ by decide
  · exact show ({dv main_v16, dv main_call0_v0, dv main_v17} : Finset (DevRef τ sig)) ⊆ _ by decide
  · exact show ({dv main_c_0} : Finset (DevRef τ sig)) ⊆ _ by decide
  · exact show ({dv main_c_0, dv main_call1_v0} : Finset (DevRef τ sig)) ⊆ _ by decide
  · exact show ({dv main_arg4, dv main_call1_v0, dv main_v18} : Finset (DevRef τ sig)) ⊆ _ by decide
theorem freshE : ∀ op ∈ (opsE : List (HloOp τ sig (Elt F))), op.fresh = ∅ := by
  intro op h
  simp only [opsE, List.mem_cons, List.not_mem_nil, _root_.or_false] at h
  rcases h with rfl | rfl | rfl | rfl | rfl | rfl | rfl | rfl <;> rfl
abbrev writE : List (Ref sig .tc) := [main_v15, main_v16, main_c, main_call0_v0, main_v17, main_c_0, main_call1_v0, main_v18]
theorem keepE (V : Valuation τ sig (Elt F)) {r : Ref sig .tc} (hr : r ∉ writE) : after opsE V (dv r) = V (dv r) := by
  refine StableHlo.after_of_writes_sub (W := writE) opsE V ?_ hr
  refine List.forall_iff_forall_mem.mpr fun op h => ?_
  simp only [opsE, List.mem_cons, List.not_mem_nil, _root_.or_false] at h
  rcases h with rfl | rfl | rfl | rfl | rfl | rfl | rfl | rfl
  · exact show ({dv main_v15} : Finset (DevRef τ sig)) ⊆ _ by decide
  · exact show ({dv main_v16} : Finset (DevRef τ sig)) ⊆ _ by decide
  · exact show ({dv main_c} : Finset (DevRef τ sig)) ⊆ _ by decide
  · exact show ({dv main_call0_v0} : Finset (DevRef τ sig)) ⊆ _ by decide
  · exact show ({dv main_v17} : Finset (DevRef τ sig)) ⊆ _ by decide
  · exact show ({dv main_c_0} : Finset (DevRef τ sig)) ⊆ _ by decide
  · exact show ({dv main_call1_v0} : Finset (DevRef τ sig)) ⊆ _ by decide
  · exact show ({dv main_v18} : Finset (DevRef τ sig)) ⊆ _ by decide

/-! ## The arrays' contents -/

variable (m : (ℓ : Loc nD τ sig) → Buf (Elt F) ℓ) (ρ : Dev nD → PrngReg)

/-- After the first stretch, … -/
def Va (d : Dev nD) : Valuation τ sig (Elt F) := after opsA (StableHlo.launchContents m d)
/-- … the count, … -/
def Vb (d : Dev nD) : Valuation τ sig (Elt F) := next0 (Va m d)
def Vc (d : Dev nD) : Valuation τ sig (Elt F) := after opsB (Vb m d)
/-- … the first gather, … -/
def Vd (d : Dev nD) : Valuation τ sig (Elt F) :=
  Function.update (Vc m d) (dv main_v9) (gathered (F := F) (Vc m d (dv main_arg1)) (Vc m d (dv main_v8)) 0)
def Ve (d : Dev nD) : Valuation τ sig (Elt F) := after opsC (Vd m d)
/-- … the first scores, … -/
def Vf (d : Dev nD) : Valuation τ sig (Elt F) := next1 (Ve m d)
/-- … the second gather, … -/
def Vg (d : Dev nD) : Valuation τ sig (Elt F) :=
  Function.update (Vf m d) (dv main_v12) (gathered (F := F) (Vc m d (dv main_arg1)) (Vc m d (dv main_v8)) 128)
def Vh (d : Dev nD) : Valuation τ sig (Elt F) := after opsD (Vg m d)
/-- … the second scores, … -/
def Vi (d : Dev nD) : Valuation τ sig (Elt F) := next2 (Vh m d)
def Vj (d : Dev nD) : Valuation τ sig (Elt F) := after opsE (Vi m d)
/-- … and the row writers. -/
def Vk (d : Dev nD) : Valuation τ sig (Elt F) :=
  Function.update (Vj m d) (dv main_v19) (rowsOf (F := F) (Vj m d (dv main_v17)) (Vj m d (dv main_v18)) (Vj m d (dv main_v7)))

/-- What nothing up to the first gather writes. -/
theorem Vc_of_launch (d : Dev nD) (r : Ref sig .tc) (hc : r ∉ writB := by decide) (hb : dv r ≠ dv main_v7 := by decide) (ha : r ∉ writA := by decide) :
    Vc m d (dv r) = StableHlo.launchContents m d (dv r) :=
  (keepB _ hc).trans ((next0_ne _ hb).trans ((keepA _ ha)))
/-- From the first stretch to the first scores. -/
theorem Ve_of_Va (d : Dev nD) (r : Ref sig .tc) (he : r ∉ writC := by decide) (hd : dv r ≠ dv main_v9 := by decide) (hc : r ∉ writB := by decide) (hb : dv r ≠ dv main_v7 := by decide) :
    Ve m d (dv r) = Va m d (dv r) :=
  (keepC _ he).trans ((Function.update_of_ne hd _ _).trans ((keepB _ hc).trans ((next0_ne _ hb))))
/-- From the first gather to the second. -/
theorem Vf_of_Vc (d : Dev nD) (r : Ref sig .tc) (hf : dv r ≠ dv main_v11 := by decide) (he : r ∉ writC := by decide) (hd : dv r ≠ dv main_v9 := by decide) :
    Vf m d (dv r) = Vc m d (dv r) :=
  (next1_ne _ hf).trans ((keepC _ he).trans ((Function.update_of_ne hd _ _)))
/-- From the first stretch to the second scores. -/
theorem Vh_of_Va (d : Dev nD) (r : Ref sig .tc) (hh : r ∉ writD := by decide) (hg : dv r ≠ dv main_v12 := by decide) (hf : dv r ≠ dv main_v11 := by decide) (he : r ∉ writC := by decide) (hd : dv r ≠ dv main_v9 := by decide) (hc : r ∉ writB := by decide) (hb : dv r ≠ dv main_v7 := by decide) :
    Vh m d (dv r) = Va m d (dv r) :=
  (keepD _ hh).trans ((Function.update_of_ne hg _ _).trans ((next1_ne _ hf).trans ((keepC _ he).trans ((Function.update_of_ne hd _ _).trans ((keepB _ hc).trans ((next0_ne _ hb)))))))
/-- From the first scores to the joining. -/
theorem Vi_of_Vf (d : Dev nD) (r : Ref sig .tc) (hi : dv r ≠ dv main_v14 := by decide) (hh : r ∉ writD := by decide) (hg : dv r ≠ dv main_v12 := by decide) :
    Vi m d (dv r) = Vf m d (dv r) :=
  (next2_ne _ hi).trans ((keepD _ hh).trans ((Function.update_of_ne hg _ _)))
/-- From the count to the row writers. -/
theorem Vj_of_Vb (d : Dev nD) (r : Ref sig .tc) (hj : r ∉ writE := by decide) (hi : dv r ≠ dv main_v14 := by decide) (hh : r ∉ writD := by decide) (hg : dv r ≠ dv main_v12 := by decide) (hf : dv r ≠ dv main_v11 := by decide) (he : r ∉ writC := by decide) (hd : dv r ≠ dv main_v9 := by decide) (hc : r ∉ writB := by decide) :
    Vj m d (dv r) = Vb m d (dv r) :=
  (keepE _ hj).trans ((next2_ne _ hi).trans ((keepD _ hh).trans ((Function.update_of_ne hg _ _).trans ((next1_ne _ hf).trans ((keepC _ he).trans ((Function.update_of_ne hd _ _).trans ((keepB _ hc))))))))
/-- What nothing up to the joining writes. -/
theorem Vi_of_launch (d : Dev nD) (r : Ref sig .tc) (hi : dv r ≠ dv main_v14 := by decide) (hh : r ∉ writD := by decide) (hg : dv r ≠ dv main_v12 := by decide) (hf : dv r ≠ dv main_v11 := by decide) (he : r ∉ writC := by decide) (hd : dv r ≠ dv main_v9 := by decide) (hc : r ∉ writB := by decide) (hb : dv r ≠ dv main_v7 := by decide) (ha : r ∉ writA := by decide) :
    Vi m d (dv r) = StableHlo.launchContents m d (dv r) :=
  (next2_ne _ hi).trans ((keepD _ hh).trans ((Function.update_of_ne hg _ _).trans ((next1_ne _ hf).trans ((keepC _ he).trans ((Function.update_of_ne hd _ _).trans ((keepB _ hc).trans ((next0_ne _ hb).trans ((keepA _ ha)))))))))
/-- What nothing writes. -/
theorem Vk_of_launch (d : Dev nD) (r : Ref sig .tc) (hk : dv r ≠ dv main_v19 := by decide) (hj : r ∉ writE := by decide) (hi : dv r ≠ dv main_v14 := by decide) (hh : r ∉ writD := by decide) (hg : dv r ≠ dv main_v12 := by decide) (hf : dv r ≠ dv main_v11 := by decide) (he : r ∉ writC := by decide) (hd : dv r ≠ dv main_v9 := by decide) (hc : r ∉ writB := by decide) (hb : dv r ≠ dv main_v7 := by decide) (ha : r ∉ writA := by decide) :
    Vk m d (dv r) = StableHlo.launchContents m d (dv r) :=
  (Function.update_of_ne hk _ _).trans ((keepE _ hj).trans ((next2_ne _ hi).trans ((keepD _ hh).trans ((Function.update_of_ne hg _ _).trans ((next1_ne _ hf).trans ((keepC _ he).trans ((Function.update_of_ne hd _ _).trans ((keepB _ hc).trans ((next0_ne _ hb).trans ((keepA _ ha)))))))))))

/-- The values and the actions, padded with zeros. -/
def padV (v : FVec F S32768 .f32) : FVec F S36864 .f32 :=
  pad S36864 ![0] ![4096] ![0] v (sitofp .f32 (constantI S_ 32 0#32)) pads_S32768_S36864_040960 h_S_
def padM (a : IVec S32768 32) : IVec S36864 32 := pad S36864 ![0] ![4096] ![0] a (constantI S_ 32 0#32) pads_S32768_S36864_040960 h_S_

theorem Va_v0 (d : Dev nD) : Va m d (dv main_v0) = shapeCast S16x128 (m ((d.tc : Thread nD τ).loc main_arg0) : FVec F S16x1x128 .f32) shapeCasts_S16x1x128_S16x128 := by
  unfold Va; after_results; rfl
theorem Va_v1 (d : Dev nD) : Va m d (dv main_v1) = extractStridedSlice S128x128 ![0, 0] (m ((d.tc : Thread nD τ).loc main_arg7) : FVec F S256x128 .f32) slices_S256x128_S128x128_0_0 := by
  unfold Va; after_results
theorem Va_v2 (d : Dev nD) : Va m d (dv main_v2) = extractStridedSlice S128x128 ![128, 0] (m ((d.tc : Thread nD τ).loc main_arg7) : FVec F S256x128 .f32) slices_S256x128_S128x128_128_0 := by
  unfold Va; after_results
theorem Va_v3 (d : Dev nD) : Va m d (dv main_v3) = shapeCast S1x128 (m ((d.tc : Thread nD τ).loc main_arg6) : FVec F S128 .f32) shapeCasts_S128_S1x128 := by
  unfold Va; after_results; rfl
theorem Va_v4 (d : Dev nD) : Va m d (dv main_v4) = shapeCast S1x128 (m ((d.tc : Thread nD τ).loc main_arg8) : FVec F S128 .f32) shapeCasts_S128_S1x128 := by
  unfold Va; after_results; rfl
theorem Va_v5 (d : Dev nD) : Va m d (dv main_v5) = shapeCast S1x1 (m ((d.tc : Thread nD τ).loc main_arg10) : FVec F S1 .f32) shapeCasts_S1_S1x1 := by
  unfold Va; after_results; rfl
theorem Va_v6 (d : Dev nD) : Va m d (dv main_v6) = shapeCast S8x1x4096 (m ((d.tc : Thread nD τ).loc main_arg3) : IVec S32768 32) shapeCasts_S32768_S8x1x4096 := by
  unfold Va; after_results; rfl
theorem Vc_v8 (d : Dev nD) : Vc m d (dv main_v8) = shapeCast S256x128 (Vb m d (dv main_arg2) : IVec S32768 32) shapeCasts_S32768_S256x128 := by
  unfold Vc; after_results; rfl
theorem Ve_v10 (d : Dev nD) : Ve m d (dv main_v10) = extractStridedSlice S4x1x4096 ![0, 0, 0] (Vd m d (dv main_v6) : IVec S8x1x4096 32) slices_S8x1x4096_S4x1x4096_0_0_0 := by
  unfold Ve; after_results
theorem Vh_v13 (d : Dev nD) : Vh m d (dv main_v13) = extractStridedSlice S4x1x4096 ![4, 0, 0] (Vg m d (dv main_v6) : IVec S8x1x4096 32) slices_S8x1x4096_S4x1x4096_4_0_0 := by
  unfold Vh; after_results
theorem Vj_v17 (d : Dev nD) : Vj m d (dv main_v17) = padV (shapeCast S32768 (concatenate S1x32768 1
    [⟨S1x16384, (Vi m d (dv main_v11) : FVec F S1x16384 .f32)⟩, ⟨S1x16384, (Vi m d (dv main_v14) : FVec F S1x16384 .f32)⟩] concatenates_S1x16384_S1x16384_S1x32768_d1) shapeCasts_S1x32768_S32768) := by
  unfold Vj padV; after_results; rfl
theorem Vj_v18 (d : Dev nD) : Vj m d (dv main_v18) = padM (Vi m d (dv main_arg4)) := by
  unfold Vj padM; after_results; rfl

/-! ## The result, of the arguments -/

/-- The first half's scores. -/
def halfA (a0 : FVec F S16x1x128 .f32) (a1 : FVec F S65536x128 .f32) (a2 a3 : IVec S32768 32) (a5 : FVec F S128x128 .f32) (a6 : FVec F S128 .f32)
    (a7 : FVec F S256x128 .f32) (a8 : FVec F S128 .f32) (a9 : FVec F S128x1 .f32) (a10 : FVec F S1 .f32) : FVec F S1x16384 .f32 :=
  scoreArr F (gathered a1 (shapeCast S256x128 a2 shapeCasts_S32768_S256x128) 0)
    (extractStridedSlice S4x1x4096 ![0, 0, 0] (shapeCast S8x1x4096 a3 shapeCasts_S32768_S8x1x4096) slices_S8x1x4096_S4x1x4096_0_0_0) (shapeCast S16x128 a0 shapeCasts_S16x1x128_S16x128) a5
    (shapeCast S1x128 a6 shapeCasts_S128_S1x128) (extractStridedSlice S128x128 ![0, 0] a7 slices_S256x128_S128x128_0_0)
    (extractStridedSlice S128x128 ![128, 0] a7 slices_S256x128_S128x128_128_0) (shapeCast S1x128 a8 shapeCasts_S128_S1x128) a9 (shapeCast S1x1 a10 shapeCasts_S1_S1x1)
/-- The second half's scores. -/
def halfB (a0 : FVec F S16x1x128 .f32) (a1 : FVec F S65536x128 .f32) (a2 a3 : IVec S32768 32) (a5 : FVec F S128x128 .f32) (a6 : FVec F S128 .f32)
    (a7 : FVec F S256x128 .f32) (a8 : FVec F S128 .f32) (a9 : FVec F S128x1 .f32) (a10 : FVec F S1 .f32) : FVec F S1x16384 .f32 :=
  scoreArr F (gathered a1 (shapeCast S256x128 a2 shapeCasts_S32768_S256x128) 128)
    (extractStridedSlice S4x1x4096 ![4, 0, 0] (shapeCast S8x1x4096 a3 shapeCasts_S32768_S8x1x4096) slices_S8x1x4096_S4x1x4096_4_0_0) (shapeCast S16x128 a0 shapeCasts_S16x1x128_S16x128) a5
    (shapeCast S1x128 a6 shapeCasts_S128_S1x128) (extractStridedSlice S128x128 ![0, 0] a7 slices_S256x128_S128x128_0_0)
    (extractStridedSlice S128x128 ![128, 0] a7 slices_S256x128_S128x128_128_0) (shapeCast S1x128 a8 shapeCasts_S128_S1x128) a9 (shapeCast S1x1 a10 shapeCasts_S1_S1x1)
/-- All the scores, in the order of the candidates. -/
def scores (a0 : FVec F S16x1x128 .f32) (a1 : FVec F S65536x128 .f32) (a2 a3 : IVec S32768 32) (a5 : FVec F S128x128 .f32) (a6 : FVec F S128 .f32)
    (a7 : FVec F S256x128 .f32) (a8 : FVec F S128 .f32) (a9 : FVec F S128x1 .f32) (a10 : FVec F S1 .f32) : FVec F S32768 .f32 :=
  shapeCast S32768 (concatenate S1x32768 1 [⟨S1x16384, halfA a0 a1 a2 a3 a5 a6 a7 a8 a9 a10⟩, ⟨S1x16384, halfB a0 a1 a2 a3 a5 a6 a7 a8 a9 a10⟩]
    concatenates_S1x16384_S1x16384_S1x32768_d1) shapeCasts_S1x32768_S32768
/-- The bounds of the segments. -/
def bounds (F : FTy → Type) [FloatOps F] (a3 : IVec S32768 32) : IVec S32x16 32 := boundsOf F (shapeCast S8x1x4096 a3 shapeCasts_S32768_S8x1x4096)
/-- The result. -/
def result (a0 : FVec F S16x1x128 .f32) (a1 : FVec F S65536x128 .f32) (a2 a3 a4 : IVec S32768 32) (a5 : FVec F S128x128 .f32) (a6 : FVec F S128 .f32)
    (a7 : FVec F S256x128 .f32) (a8 : FVec F S128 .f32) (a9 : FVec F S128x1 .f32) (a10 : FVec F S1 .f32) : FVec F S16x4096 .f32 :=
  rowsOf (padV (scores a0 a1 a2 a3 a5 a6 a7 a8 a9 a10)) (padM a4) (bounds F a3)

theorem Vc_v8' (d : Dev nD) : Vc m d (dv main_v8) = shapeCast S256x128 ((m ((d.tc : Thread nD τ).loc main_arg2)) : IVec S32768 32) shapeCasts_S32768_S256x128 := by
  rw [Vc_v8]
  exact congrArg (fun a : IVec S32768 32 => shapeCast S256x128 a shapeCasts_S32768_S256x128) ((next0_ne _ (by decide)).trans (keepA _ (by decide)))
theorem Vb_v7 (d : Dev nD) : Vb m d (dv main_v7) = bounds F (m ((d.tc : Thread nD τ).loc main_arg3)) :=
  (next0_self _).trans (congrArg (boundsOf F) (Va_v6 m d))
theorem Vj_v7 (d : Dev nD) : Vj m d (dv main_v7) = bounds F (m ((d.tc : Thread nD τ).loc main_arg3)) := (Vj_of_Vb m d main_v7).trans (Vb_v7 m d)
theorem Vj_v18' (d : Dev nD) : Vj m d (dv main_v18) = padM (m ((d.tc : Thread nD τ).loc main_arg4)) := (Vj_v18 m d).trans (congrArg padM (Vi_of_launch m d main_arg4))
theorem Ve_scores (d : Dev nD) : scores1 (Ve m d) = halfA (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  have hv : Ve m d (dv main_v9) = gathered (F := F) (Vc m d (dv main_arg1)) (Vc m d (dv main_v8)) 0 := (keepC _ (by decide)).trans (Function.update_self _ _ _)
  have hs : Vd m d (dv main_v6) = Va m d (dv main_v6) := (Ve_of_Va m d main_v6 (hd := by decide) |> (keepC _ (by decide)).symm.trans)
  unfold scores1 halfA
  rw [hv, Ve_v10, hs, Ve_of_Va m d main_v0, Ve_of_Va m d main_v1, Ve_of_Va m d main_v2, Ve_of_Va m d main_v3, Ve_of_Va m d main_v4, Ve_of_Va m d main_v5, Va_v0, Va_v1, Va_v2, Va_v3, Va_v4, Va_v5, Va_v6, Vc_v8', Vc_of_launch m d main_arg1,
    Ve_of_Va m d main_arg5, Ve_of_Va m d main_arg9]
  rw [show Va m d (dv main_arg5) = (m ((d.tc : Thread nD τ).loc main_arg5)) from keepA _ (by decide), show Va m d (dv main_arg9) = (m ((d.tc : Thread nD τ).loc main_arg9)) from keepA _ (by decide)]
theorem Vh_scores (d : Dev nD) : scores2 (Vh m d) = halfB (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  have hv : Vh m d (dv main_v12) = gathered (F := F) (Vc m d (dv main_arg1)) (Vc m d (dv main_v8)) 128 := (keepD _ (by decide)).trans (Function.update_self _ _ _)
  have hs : Vg m d (dv main_v6) = Va m d (dv main_v6) := (Vh_of_Va m d main_v6 |> (keepD _ (by decide)).symm.trans)
  unfold scores2 halfB
  rw [hv, Vh_v13, hs, Vh_of_Va m d main_v0, Vh_of_Va m d main_v1, Vh_of_Va m d main_v2, Vh_of_Va m d main_v3, Vh_of_Va m d main_v4, Vh_of_Va m d main_v5, Va_v0, Va_v1, Va_v2, Va_v3, Va_v4, Va_v5, Va_v6, Vc_v8', Vc_of_launch m d main_arg1,
    Vh_of_Va m d main_arg5, Vh_of_Va m d main_arg9]
  rw [show Va m d (dv main_arg5) = (m ((d.tc : Thread nD τ).loc main_arg5)) from keepA _ (by decide), show Va m d (dv main_arg9) = (m ((d.tc : Thread nD τ).loc main_arg9)) from keepA _ (by decide)]
theorem Vk_v19 (d : Dev nD) : Vk m d (dv main_v19) = result (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  refine (Function.update_self _ _ _).trans ?_
  unfold result scores
  rw [Vj_v17, Vj_v18', Vj_v7, show Vi m d (dv main_v11) = _ from (Vi_of_Vf m d main_v11).trans (next1_self _),
    show Vi m d (dv main_v14) = _ from next2_self _, Ve_scores, Vh_scores]

/-! ## The launch -/

/-- What the three SparseCore calls are given. -/
abbrev args (d : Dev nD) : Args F where
  X := Vc m d (dv main_arg1)
  I := Vc m d (dv main_v8)
  f0 := Vc m d (dv main_v9)
  f1 := Vf m d (dv main_v12)
  V := Vj m d (dv main_v17)
  M := Vj m d (dv main_v18)
  O := Vj m d (dv main_v7)
  f2 := Vj m d (dv main_v19)

/-- The rounds of the handshakes and of the pipelines. -/
def u₀ : UU := (initOf (K (F := F)).hsCells (K (F := F)).hsToks,
  (initOf (Pipeline.cells (nD := nD) (τ := τ) (Pipeline.pin (pcfgs (F := F)) adm0) cellOf_inj) (Pipeline.launchToks (nD := nD) (τ := τ) (Pipeline.pin (pcfgs (F := F)) adm0) cellOf_inj), 1))

/-- A device's share of the launch element: the ghost state of its three pipelines. -/
abbrev share (d : Dev nD) : sProp 𝕄 := iprop(ghost 0 d ∗ ghost 1 d ∗ ghost 2 d)

theorem hu₀ : (ownU (u₀ (F := F)) : sProp 𝕄)
    ⊢ |={Set.univ}=> iprop(BI.own (EH (initOf (K (F := F)).hsCells (K (F := F)).hsToks)) ∗ (bigSep Finset.univ fun d : Dev nD => share (F := F) d)
        ∗ bigSep Finset.univ fun thr : Thread nD τ => bigSep Finset.univ fun q : Fin 3 => (P (args m)).x q thr) := by
  have hx : (bigSep Finset.univ fun thr : Thread nD τ => bigSep Finset.univ fun q : Fin 3 => (P (args m)).x q thr) = (iprop(emp) : sProp 𝕄) :=
    (bigSep_congr fun thr _ => bigSep_emp_const (M := 𝕄) Finset.univ).trans (bigSep_emp_const Finset.univ)
  have h3 : ∀ Φ : Fin 3 → sProp 𝕄, bigSep Finset.univ Φ = iprop(Φ 0 ∗ Φ 1 ∗ Φ 2) := fun Φ => by
    rw [show (Finset.univ : Finset (Fin 3)) = {0, 1, 2} from by decide, SparseCore.bigSep_insert' (by decide), SparseCore.bigSep_insert' (by decide), bigSep_singleton]
  have hs : (bigSep Finset.univ fun d : Dev nD => share (F := F) d)
      = iprop((bigSep Finset.univ fun c : Dev nD => bigSep Finset.univ fun p => Pipeline.cellsGhost (Pipeline.pin (pcfgs (F := F)) adm0) EP p c)
          ∗ (bigSep Finset.univ fun c : Dev nD => bigSep Finset.univ fun p => (Pipeline.toksInit (Pipeline.pin (pcfgs (F := F)) adm0) EP p c : sProp 𝕄))) := by
    rw [← bigSep_sep']
    refine bigSep_congr fun d _ => ?_
    rw [← bigSep_sep', h3]
  rw [hx, hs]
  unfold u₀
  iintro Hu
  ihave H := (ownU_pair (initOf (K (F := F)).hsCells (K (F := F)).hsToks) _) $$ Hu
  icases H with ⟨HH, HR⟩
  ihave HR := (own_pair_emb embR _ _) $$ HR
  icases HR with ⟨HP, -⟩
  ihave HP := (Pipeline.fund_ghost (Pipeline.pin (pcfgs (F := F)) adm0) EP cellOf_inj) $$ HP
  imod HP
  imodintro
  isplitl [HH]; · iexact HH
  isplitl [HP]; · iexact HP
  iempintro

theorem main_eq (d : Dev nD) : main (F := F) d = (StableHlo.seq opsA >>= fun _ =>
    Prog.lift (.customCall (SparseCore.inner (Pipeline.entry 0)) ()) >>= fun _ =>
    StableHlo.seq opsB >>= fun _ => sc.run d 0 >>= fun _ => StableHlo.seq opsC >>= fun _ =>
    Prog.lift (.customCall (SparseCore.inner (Pipeline.entry 1)) ()) >>= fun _ =>
    sc.run d 1 >>= fun _ => StableHlo.seq opsD >>= fun _ =>
    Prog.lift (.customCall (SparseCore.inner (Pipeline.entry 2)) ()) >>= fun _ =>
    StableHlo.seq opsE >>= fun _ => sc.run d 2 >>= fun _ => pure ⟨⟩) := rfl

/-- What @main leaves the claim: every array, at its final contents. -/
abbrev FIN (d : Dev nD) : sProp 𝕄 := held (SparseCore.T d) (Pipeline.ucRefs τ sig) (Vk m d)

set_option backward.isDefEq.respectTransparency.types false in
theorem hmain (κ : GSem nD τ sig → ℕ) (d : Dev nD) :
    iprop((K (F := F)).ctx EH (P (args m)) κ ∗ (K (F := F)).tcSt EH d 0 ∗ (K (F := F)).tcRes m ρ d ∗ share d)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [main_eq, show (unscopedBufs d (fun b => m ((SparseCore.T d).loc b)) : sProp 𝕄) = held (SparseCore.T d) (Pipeline.ucRefs τ sig) (StableHlo.launchContents m d)
    from Pipeline.unscopedBufs_held d (StableHlo.launchContents m d)]
  iintro ⟨#Hctx, Hst, ⟨Hb, Hheld, Hts, -⟩, ⟨Hg0, Hg1, Hg2⟩⟩
  ihave #Hlev := (SparseCore.Cfg.ctx_levAts κ) $$ Hctx
  iapply (StableHlo.wp_seq 𝒱 none Set.univ d (Pipeline.ucRefs τ sig) _ opsA subA freshA (StableHlo.launchContents m d)) $$ [Hb Hheld]
  · isplitl [Hb]; · iexact Hb
    iexact Hheld
  iintro ⟨Hb, Hheld⟩
  rw [wp_bind]
  iapply (wp_call0 (Va m) 0 d)
  isplitr; · iexact Hlev
  isplitl [Hst]; · iexact Hst
  isplitl [Hb]; · iexact Hb
  isplitl [Hheld]; · iexact Hheld
  isplitl [Hg0]; · iexact Hg0
  iintro ⟨Hst, Hb, Hheld⟩
  iapply (StableHlo.wp_seq 𝒱 none Set.univ d (Pipeline.ucRefs τ sig) _ opsB subB freshB (Vb m d)) $$ [Hb Hheld]
  · isplitl [Hb]; · iexact Hb
    iexact Hheld
  iintro ⟨Hb, Hheld⟩
  rw [wp_bind]
  iapply (wp_sc0 (args m) κ d (Vc m d) rfl rfl rfl)
  isplitr; · iexact Hctx
  isplitl [Hst]; · iexact Hst
  isplitl [Hheld]; · iexact Hheld
  iintro ⟨Hst, Hheld⟩
  iapply (StableHlo.wp_seq 𝒱 none Set.univ d (Pipeline.ucRefs τ sig) _ opsC subC freshC (Vd m d)) $$ [Hb Hheld]
  · isplitl [Hb]; · iexact Hb
    iexact Hheld
  iintro ⟨Hb, Hheld⟩
  rw [wp_bind]
  iapply (wp_call1 (Ve m) 1 d)
  isplitr; · iexact Hlev
  isplitl [Hst]; · iexact Hst
  isplitl [Hb]; · iexact Hb
  isplitl [Hheld]; · iexact Hheld
  isplitl [Hg1]; · iexact Hg1
  iintro ⟨Hst, Hb, Hheld⟩
  rw [wp_bind]
  iapply (wp_sc1 (args m) κ d (Vf m d) (Vf_of_Vc m d main_arg1) (Vf_of_Vc m d main_v8) rfl)
  isplitr; · iexact Hctx
  isplitl [Hst]; · iexact Hst
  isplitl [Hheld]; · iexact Hheld
  iintro ⟨Hst, Hheld⟩
  iapply (StableHlo.wp_seq 𝒱 none Set.univ d (Pipeline.ucRefs τ sig) _ opsD subD freshD (Vg m d)) $$ [Hb Hheld]
  · isplitl [Hb]; · iexact Hb
    iexact Hheld
  iintro ⟨Hb, Hheld⟩
  rw [wp_bind]
  iapply (wp_call2 (Vh m) 2 d)
  isplitr; · iexact Hlev
  isplitl [Hst]; · iexact Hst
  isplitl [Hb]; · iexact Hb
  isplitl [Hheld]; · iexact Hheld
  isplitl [Hg2]; · iexact Hg2
  iintro ⟨Hst, Hb, Hheld⟩
  iapply (StableHlo.wp_seq 𝒱 none Set.univ d (Pipeline.ucRefs τ sig) _ opsE subE freshE (Vi m d)) $$ [Hb Hheld]
  · isplitl [Hb]; · iexact Hb
    iexact Hheld
  iintro ⟨Hb, Hheld⟩
  rw [wp_bind]
  iapply (wp_sc2 (args m) κ d (Vj m d) rfl rfl rfl rfl)
  isplitr; · iexact Hctx
  isplitl [Hst]; · iexact Hst
  isplitl [Hheld]; · iexact Hheld
  iintro ⟨Hst, Hheld⟩
  rw [wp_pure]
  imodintro
  isplitl [Hst]; · iexact Hst
  isplitl [Hheld]; · iexact Hheld
  isplitl [Hb] <;> iassumption

def fq (d : Dev nD) (s' : Phys nD τ sig (Elt F)) : Prop := ∀ b ∈ Pipeline.ucRefs τ sig, s'.mem.mem (d, b) = Vk m d b

theorem hfin (d : Dev nD) (s' : Phys nD τ sig (Elt F)) : iprop(FIN m d ∗ SI s') ⊢ (⌜fq m d s'⌝ : sProp 𝕄) := by
  unfold FIN held fq
  iintro ⟨H, HSI⟩
  iapply (SI_pointsTo_bufs_agree (qs := fun _ => fullShare) (Pipeline.ucRefs τ sig)) $$ [HSI H]
  isplitl [HSI]; · iexact HSI
  iexact H

/-- Where every row number is a row of the table, every action below 4096 and the bounds of the segments in order, the
    program ends with the output at `result` of its arguments, the arguments as they were, every semaphore at zero. -/
theorem run_main (hI : ∀ d : Dev nD, InTable (shapeCast S256x128 ((m ((d.tc : Thread nD τ).loc main_arg2)) : IVec S32768 32) shapeCasts_S32768_S256x128))
    (hG : ∀ d : Dev nD, Good (padM (m ((d.tc : Thread nD τ).loc main_arg4))) (bounds F (m ((d.tc : Thread nD τ).loc main_arg3)))) :
    θ_run (Cert.KernelIdeal.defs (F := F)) (Cert.KernelIdeal.threads (F := F)) ⟨m, fun _ => 0, ρ⟩ fun r =>
      (∀ d : Dev nD, r.2.mem ((d.tc : Thread nD τ).loc main_v19) = result (m ((d.tc : Thread nD τ).loc main_arg0)) (m ((d.tc : Thread nD τ).loc main_arg1)) (m ((d.tc : Thread nD τ).loc main_arg2)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10))
        ∧ r.2.mem ((d.tc : Thread nD τ).loc main_arg0) = m ((d.tc : Thread nD τ).loc main_arg0)
        ∧ r.2.mem ((d.tc : Thread nD τ).loc main_arg1) = m ((d.tc : Thread nD τ).loc main_arg1)
        ∧ r.2.mem ((d.tc : Thread nD τ).loc main_arg2) = m ((d.tc : Thread nD τ).loc main_arg2)
        ∧ r.2.mem ((d.tc : Thread nD τ).loc main_arg3) = m ((d.tc : Thread nD τ).loc main_arg3)
        ∧ r.2.mem ((d.tc : Thread nD τ).loc main_arg4) = m ((d.tc : Thread nD τ).loc main_arg4)
        ∧ r.2.mem ((d.tc : Thread nD τ).loc main_arg5) = m ((d.tc : Thread nD τ).loc main_arg5)
        ∧ r.2.mem ((d.tc : Thread nD τ).loc main_arg6) = m ((d.tc : Thread nD τ).loc main_arg6)
        ∧ r.2.mem ((d.tc : Thread nD τ).loc main_arg7) = m ((d.tc : Thread nD τ).loc main_arg7)
        ∧ r.2.mem ((d.tc : Thread nD τ).loc main_arg8) = m ((d.tc : Thread nD τ).loc main_arg8)
        ∧ r.2.mem ((d.tc : Thread nD τ).loc main_arg9) = m ((d.tc : Thread nD τ).loc main_arg9)
        ∧ r.2.mem ((d.tc : Thread nD τ).loc main_arg10) = m ((d.tc : Thread nD τ).loc main_arg10))
      ∧ r.2.sem = fun _ => 0 := by
  have hI' : ∀ d, InTable (args m d).I := fun d => by
    have h := hI d; rw [← Vc_v8' m d] at h; exact h
  have hG' : ∀ d, Good (args m d).M (args m d).O := fun d => by
    have h := hG d; rw [← Vj_v18' m d, ← Vj_v7 m d] at h; exact h
  refine SparseCore.Cfg.θ_run_sc_quiescent (K := K (F := F)) (D := D (F := F)) (𝒱 := 𝒱) (EH := EH) (P := P (args m)) (A := ∅) facts v₀
    (fun q hq => match q with | 0 => nomatch hq | 1 => nomatch hq | 2 => nomatch hq)
    (fun q _ => match q with | 0 => tileObl0 (args m) hI' | 1 => tileObl1 (args m) hI' | 2 => tileObl2 (args m) hG')
    (fun q _ => SparseCore.Cfg.VecSplit.of_plain (vecSplit (args m) q))
    m ρ main share (FIN m) (u₀ (F := F)) (sep_elim_left.trans (hu₀ m)) (hmain m ρ) (fq m) (hfin m) _ ?_
  intro r h hz
  have hk : ∀ (d : Dev nD) (x : Ref sig .tc), dv x ∈ Pipeline.ucRefs τ sig → Vk m d (dv x) = StableHlo.launchContents m d (dv x) →
      r.mem.mem ((d.tc : Thread nD τ).loc x) = m ((d.tc : Thread nD τ).loc x) := fun d x hx hv => (h d (dv x) hx).trans hv
  refine ⟨fun d => ⟨(h d (dv main_v19) (by decide)).trans (Vk_v19 m d), hk d main_arg0 (by decide) (Vk_of_launch m d main_arg0), hk d main_arg1 (by decide) (Vk_of_launch m d main_arg1), hk d main_arg2 (by decide) (Vk_of_launch m d main_arg2), hk d main_arg3 (by decide) (Vk_of_launch m d main_arg3), hk d main_arg4 (by decide) (Vk_of_launch m d main_arg4), hk d main_arg5 (by decide) (Vk_of_launch m d main_arg5), hk d main_arg6 (by decide) (Vk_of_launch m d main_arg6), hk d main_arg7 (by decide) (Vk_of_launch m d main_arg7), hk d main_arg8 (by decide) (Vk_of_launch m d main_arg8), hk d main_arg9 (by decide) (Vk_of_launch m d main_arg9), hk d main_arg10 (by decide) (Vk_of_launch m d main_arg10)⟩, hz⟩

end Cert.Proof.Whole

end
-- ==== Proof.Bounds.lean ====
/- The row bounds over the extended reals: row w's first bound is the number of positions of a segment below w, its
   second the number of positions of a segment at most w. -/
module

public import proofs.«01_k».proof.Proof.Launch
public import proofs.«01_k».proof.Proof.Gen.Pre_bounds_ok
public import Idealize.ShloMosaic.Lib.Pointwise

@[expose] public section

noncomputable section

namespace Cert.Proof.Count

open Cert.KernelIdeal Cert.KernelIdeal.Gen
open Idealize.ShloMosaic
open Cert.Proof.Tc Cert.Proof.Whole Cert.Proof.Scatter

/-- A comparison widened and read as a number is one where it holds and zero elsewhere. -/
theorem indicator {p : CmpIPredicate} {x y : BitVec 32} {P : Prop} [Decidable P] (h : IntOp.cmpi p x y = 1#1 ↔ P) :
    (FloatOps.sitofp FTy.f32 (BitVec.setWidth 32 (IntOp.cmpi p x y)) : Ideal .f32) = (((if P then 1 else 0 : ℕ) : ℕ) : EReal) := by
  rcases BitVec.eq_zero_or_eq_one (IntOp.cmpi p x y) with e | e
  · have hP : ¬ P := fun hp => by rw [h.mpr hp] at e; exact absurd e (by decide)
    rw [if_neg hP, e]
    show (((BitVec.setWidth 32 (0#1)).toInt : ℝ) : EReal) = _
    norm_num
  · rw [if_pos (h.mp e), e]
    show (((BitVec.setWidth 32 (1#1)).toInt : ℝ) : EReal) = _
    have : (BitVec.setWidth 32 (1#1)).toInt = 1 := by decide
    rw [this]; norm_num

/-- An equality with a small row number, on words. -/
theorem eq_iff (b : ℕ) (hb : b < 16) (w : BitVec 32) : IntOp.cmpi .eq (BitVec.ofNat 32 b) w = 1#1 ↔ w.toNat = b := by
  have e : IntOp.cmpi .eq (BitVec.ofNat 32 b) w = BitVec.ofBool (BitVec.ofNat 32 b == w) := rfl
  rw [e]
  constructor
  · intro h
    have h' : (BitVec.ofNat 32 b == w) = true := by
      cases hc : (BitVec.ofNat 32 b == w) with
      | true => rfl
      | false => rw [hc] at h; exact absurd h (by decide)
    rw [← eq_of_beq h', BitVec.toNat_ofNat]; omega
  · intro h
    have : BitVec.ofNat 32 b = w := by rw [← h]; simp
    rw [this]; simp

/-- The strict order of two small numbers, on words. -/
theorem gt_iff (b c : Fin 16) : IntOp.cmpi .sgt (BitVec.ofNat 32 b.val) (BitVec.ofNat 32 c.val) = 1#1 ↔ c.val < b.val := by
  revert b c; decide

/-- The segment at a position. -/
def segAt (s : IVec S32768 32) (p : ℕ) : ℕ := if h : p < 32768 then (s (ValueIdx.ix1 ⟨p, h⟩)).toNat else 0

theorem segAt_val (s : IVec S32768 32) (p : Fin 32768) : segAt s p.val = (s (ValueIdx.ix1 p)).toNat := dif_pos p.isLt

/-- The number of positions of segment b. -/
def count (s : IVec S32768 32) (b : ℕ) : ℕ := ∑ p : Fin 32768, if segAt s p.val = b then 1 else 0

/-- A sum over the positions, block by block. -/
theorem sum_blocks (f : ℕ → ℕ) : ∑ j : Fin 8, ∑ x : Fin 4096, f (j.val * 4096 + x.val) = ∑ p : Fin 32768, f p.val := by
  rw [← Fintype.sum_prod_type']
  refine Fintype.sum_equiv (finProdFinEquiv (m := 8) (n := 4096)) _ (fun p : Fin (8 * 4096) => f p.val) fun x => ?_
  refine congrArg f ?_
  rw [finProdFinEquiv_apply_val]; omega

/-- An entry of a block of segments, as a position of the whole. -/
theorem segBlock_at (s : IVec S32768 32) (j : Fin 8) (x : Fin 4096) :
    (segBlock (shapeCast S8x1x4096 s shapeCasts_S32768_S8x1x4096) j (ix3 0 0 x)).toNat = segAt s (j.val * 4096 + x.val) := by
  have h : j.val * 4096 + x.val < 32768 := by omega
  rw [segAt, dif_pos h]
  refine congrArg BitVec.toNat ?_
  show shapeCast S8x1x4096 s shapeCasts_S32768_S8x1x4096 (ValueIdx.ix3 j (0 : Fin 1) x) = _
  rw [← ix3_eq_valueIdx, ← ix1_eq_valueIdx]
  pointwise

/-- One block's share of the count. -/
theorem block_sum (s : IVec S32768 32) (j : Fin 8) (b : Fin 16) :
    (∑ x : Fin 4096, (FloatOps.sitofp FTy.f32 (BitVec.setWidth 32 (IntOp.cmpi CmpIPredicate.eq (BitVec.ofNat 32 b.val)
      (segBlock (shapeCast S8x1x4096 s shapeCasts_S32768_S8x1x4096) j (ix3 0 0 x)))) : Ideal .f32))
      = ((∑ x : Fin 4096, if segAt s (j.val * 4096 + x.val) = b.val then 1 else 0 : ℕ) : EReal) := by
  rw [Nat.cast_sum]
  refine Finset.sum_congr rfl fun x _ => ?_
  refine indicator (P := segAt s (j.val * 4096 + x.val) = b.val) ?_
  rw [eq_iff b.val b.isLt, segBlock_at]

/-- The sums the first loop forms, at row b. -/
theorem counts_apply (a0 a1 a2 a3 a4 a5 a6 a7 : IVec S1x1x4096 32) (b : Fin 16) :
    k0_pay3 (F := Ideal) (k0_pay2 a0 a1 a2 a3) a4 a5 a6 a7 (ix2 b 0)
      = (∑ x : Fin 4096, (FloatOps.sitofp FTy.f32 (BitVec.setWidth 32 (IntOp.cmpi CmpIPredicate.eq (BitVec.ofNat 32 b.val) (a0 (ix3 0 0 x)))) : Ideal .f32))
        + (∑ x : Fin 4096, (FloatOps.sitofp FTy.f32 (BitVec.setWidth 32 (IntOp.cmpi CmpIPredicate.eq (BitVec.ofNat 32 b.val) (a1 (ix3 0 0 x)))) : Ideal .f32))
        + (∑ x : Fin 4096, (FloatOps.sitofp FTy.f32 (BitVec.setWidth 32 (IntOp.cmpi CmpIPredicate.eq (BitVec.ofNat 32 b.val) (a2 (ix3 0 0 x)))) : Ideal .f32))
        + (∑ x : Fin 4096, (FloatOps.sitofp FTy.f32 (BitVec.setWidth 32 (IntOp.cmpi CmpIPredicate.eq (BitVec.ofNat 32 b.val) (a3 (ix3 0 0 x)))) : Ideal .f32))
        + (∑ x : Fin 4096, (FloatOps.sitofp FTy.f32 (BitVec.setWidth 32 (IntOp.cmpi CmpIPredicate.eq (BitVec.ofNat 32 b.val) (a4 (ix3 0 0 x)))) : Ideal .f32))
        + (∑ x : Fin 4096, (FloatOps.sitofp FTy.f32 (BitVec.setWidth 32 (IntOp.cmpi CmpIPredicate.eq (BitVec.ofNat 32 b.val) (a5 (ix3 0 0 x)))) : Ideal .f32))
        + (∑ x : Fin 4096, (FloatOps.sitofp FTy.f32 (BitVec.setWidth 32 (IntOp.cmpi CmpIPredicate.eq (BitVec.ofNat 32 b.val) (a6 (ix3 0 0 x)))) : Ideal .f32))
        + (∑ x : Fin 4096, (FloatOps.sitofp FTy.f32 (BitVec.setWidth 32 (IntOp.cmpi CmpIPredicate.eq (BitVec.ofNat 32 b.val) (a7 (ix3 0 0 x)))) : Ideal .f32)) := by
  pointwise [k0_pay3, k0_pay2]

/-- The counts the first loop leaves: entry b is the number of positions of segment b. -/
theorem counts_at (s : IVec S32768 32) (b : Fin 16) :
    k0_pay3 (F := Ideal)
      (k0_pay2 (segBlock (shapeCast S8x1x4096 s shapeCasts_S32768_S8x1x4096) 0) (segBlock (shapeCast S8x1x4096 s shapeCasts_S32768_S8x1x4096) 1)
        (segBlock (shapeCast S8x1x4096 s shapeCasts_S32768_S8x1x4096) 2) (segBlock (shapeCast S8x1x4096 s shapeCasts_S32768_S8x1x4096) 3))
      (segBlock (shapeCast S8x1x4096 s shapeCasts_S32768_S8x1x4096) 4) (segBlock (shapeCast S8x1x4096 s shapeCasts_S32768_S8x1x4096) 5)
      (segBlock (shapeCast S8x1x4096 s shapeCasts_S32768_S8x1x4096) 6) (segBlock (shapeCast S8x1x4096 s shapeCasts_S32768_S8x1x4096) 7) (ix2 b 0)
      = ((count s b.val : ℕ) : EReal) := by
  have h : count s b.val = ∑ j : Fin 8, ∑ x : Fin 4096, if segAt s (j.val * 4096 + x.val) = b.val then 1 else 0 :=
    (sum_blocks fun p => if segAt s p = b.val then 1 else 0).symm
  rw [h, Fin.sum_univ_eight]
  rw [counts_apply]
  simp only [block_sum, Nat.cast_add]

/-- The mask of the smaller rows. -/
theorem below_at (b c : Fin 16) : k0_pay4 (F := Ideal) (ix2 b c) = (((if c.val < b.val then 1 else 0 : ℕ) : ℕ) : EReal) := by
  pointwise [k0_pay4]
  exact indicator (gt_iff b c)

/-- A product with a zero or a one, on naturals. -/
theorem mask_mul (P : Prop) [Decidable P] (n : ℕ) :
    (((if P then 1 else 0 : ℕ) : ℕ) : EReal) * ((n : ℕ) : EReal) = (((if P then n else 0 : ℕ) : ℕ) : EReal) := by
  by_cases h : P
  · rw [if_pos h, if_pos h, Nat.cast_one, one_mul]
  · rw [if_neg h, if_neg h, Nat.cast_zero, zero_mul]

/-- A natural number read back as a word. -/
theorem word_nat (n : ℕ) (h : n ≤ 32768) : (FloatOps.fptosi (F := Ideal) (φ := .f32) 32 ((n : ℕ) : EReal)).toNat = n := by
  show (Ideal.fptosi 32 ((n : ℕ) : EReal)).toNat = n
  have e : ((n : ℕ) : EReal) = (((n : ℕ) : ℝ) : EReal) := by norm_num
  have h0 : (0 : ℝ) ≤ (n : ℝ) := Nat.cast_nonneg n
  unfold Ideal.fptosi
  rw [e]
  show (BitVec.ofInt 32 (max (-(2 ^ (32 - 1) : Nat)) (min ((2 ^ (32 - 1) : Nat) - 1) (if 0 ≤ (n : ℝ) then ⌊(n : ℝ)⌋ else ⌈(n : ℝ)⌉)))).toNat = n
  rw [if_pos h0, Int.floor_natCast]
  have : (max (-((2 ^ (32 - 1) : Nat) : Int)) (min (((2 ^ (32 - 1) : Nat) : Int) - 1) (n : Int))) = (n : Int) := by
    norm_num
    omega
  rw [this, BitVec.toNat_ofInt]
  omega

/-- The counts of the rows before w add up to the number of positions of a smaller segment. -/
theorem sum_below (s : IVec S32768 32) (w : ℕ) (hw : w ≤ 16) :
    (∑ x : Fin 16, if x.val < w then count s x.val else 0) = ∑ p : Fin 32768, if segAt s p.val < w then 1 else 0 := by
  have e : ∀ x : Fin 16, (if x.val < w then count s x.val else 0)
      = ∑ p : Fin 32768, if x.val < w then (if segAt s p.val = x.val then 1 else 0) else 0 := fun x => by
    by_cases h : x.val < w
    · simp only [if_pos h]; rfl
    · simp only [if_neg h, Finset.sum_const_zero]
  rw [Finset.sum_congr rfl fun x _ => e x, Finset.sum_comm]
  refine Finset.sum_congr rfl fun p _ => ?_
  by_cases h : segAt s p.val < w
  · rw [if_pos h, Finset.sum_eq_single (⟨segAt s p.val, by omega⟩ : Fin 16)]
    · rw [if_pos h, if_pos rfl]
    · intro x _ hx
      rw [if_neg (fun he : segAt s p.val = x.val => hx (Fin.ext he.symm)), ite_self]
    · intro hx; exact absurd (Finset.mem_univ _) hx
  · rw [if_neg h]
    refine Finset.sum_eq_zero fun x _ => ?_
    by_cases hx : x.val < w
    · rw [if_pos hx, if_neg (fun he : segAt s p.val = x.val => h (he ▸ hx))]
    · rw [if_neg hx]

theorem card_le (P : Fin 32768 → Prop) [DecidablePred P] : (∑ p : Fin 32768, if P p then 1 else 0) ≤ 32768 := by
  rw [Finset.sum_boole]
  refine (Finset.card_le_univ _).trans ?_
  simp

/-- The first column of the bounds, at one of the first sixteen rows. -/
theorem lo_pay (v : FVec Ideal S16x1 .f32) (m : FVec Ideal S16x16 .f32) (b : Fin 32) (h : b.val < 16) :
    k0_pay1 (F := Ideal) v m (ix2 b 0) = FloatOps.fptosi (F := Ideal) (φ := .f32) 32 (∑ x : Fin 16, m (ix2 ⟨b.val, h⟩ x) * v (ix2 x 0)) := by
  pointwise [k0_pay1]
  rw [dif_pos h]

/-- The second column of the bounds, at one of the first sixteen rows. -/
theorem hi_pay (v : FVec Ideal S16x1 .f32) (m : FVec Ideal S16x16 .f32) (b : Fin 32) (c : Fin 16) (hc : c.val = 1) (h : b.val < 16) :
    k0_pay1 (F := Ideal) v m (ix2 b c)
      = FloatOps.fptosi (F := Ideal) (φ := .f32) 32 ((∑ x : Fin 16, m (ix2 ⟨b.val, h⟩ x) * v (ix2 x 0)) + v (ix2 ⟨b.val, h⟩ 0)) := by
  pointwise [k0_pay1]
  rw [hc, dif_pos h, dif_pos h]
  rfl

/-- Row w's first bound. -/
theorem lo_at (s : IVec S32768 32) (w : ℕ) (hw : w < 16) :
    loAt (bounds Ideal s) w = ∑ p : Fin 32768, if segAt s p.val < w then 1 else 0 := by
  have hw' : w < 32 := by omega
  rw [loAt, dif_pos hw', ← ix2_eq_valueIdx]
  unfold bounds boundsOf
  rw [lo_pay _ _ ⟨w, hw'⟩ hw]
  simp only [counts_at, below_at, mask_mul]
  rw [← Nat.cast_sum, sum_below s w (by omega)]
  exact word_nat _ (card_le _)

/-- A row's own count added to those before it. -/
theorem sum_upto (s : IVec S32768 32) (w : ℕ) :
    (∑ p : Fin 32768, if segAt s p.val < w then 1 else 0) + count s w = ∑ p : Fin 32768, if segAt s p.val ≤ w then 1 else 0 := by
  rw [count, ← Finset.sum_add_distrib]
  refine Finset.sum_congr rfl fun p _ => ?_
  split_ifs <;> omega

/-- Row w's second bound. -/
theorem hi_at (s : IVec S32768 32) (w : ℕ) (hw : w < 16) :
    hiAt (bounds Ideal s) w = ∑ p : Fin 32768, if segAt s p.val ≤ w then 1 else 0 := by
  have hw' : w < 32 := by omega
  rw [hiAt, dif_pos hw', ← ix2_eq_valueIdx]
  unfold bounds boundsOf
  rw [hi_pay _ _ ⟨w, hw'⟩ 1 rfl hw]
  simp only [counts_at, below_at, mask_mul]
  rw [← Nat.cast_sum, sum_below s w (by omega), ← Nat.cast_add, sum_upto]
  exact word_nat _ (card_le _)

/-- Counting the positions that have a property which holds of a beginning: a position is before the count exactly where
    it holds. -/
theorem lt_count (P : Fin 32768 → Prop) [DecidablePred P] (hP : ∀ p q : Fin 32768, q.val ≤ p.val → P p → P q) (p : Fin 32768) :
    p.val < (∑ q : Fin 32768, if P q then 1 else 0) ↔ P p := by
  rw [Finset.sum_boole]
  constructor
  · intro h
    by_contra hn
    have hs : Finset.univ.filter P ⊆ Finset.Iio p := fun q hq => by
      rw [Finset.mem_Iio]
      by_contra hlt
      exact hn (hP q p (Fin.le_def.mp (not_lt.mp hlt)) (Finset.mem_filter.mp hq).2)
    have := Finset.card_le_card hs
    rw [Fin.card_Iio] at this
    exact absurd (lt_of_lt_of_le h this) (lt_irrefl _)
  · intro h
    have hs : Finset.Iic p ⊆ Finset.univ.filter P := fun q hq =>
      Finset.mem_filter.mpr ⟨Finset.mem_univ _, hP p q (Fin.le_def.mp (Finset.mem_Iic.mp hq)) h⟩
    have := Finset.card_le_card hs
    rw [Fin.card_Iic] at this
    exact lt_of_lt_of_le (Nat.lt_succ_self _) this

/-! ## The precondition -/

theorem andi_one (x y : BitVec 1) : IntOp.andi x y = 1#1 ↔ x = 1#1 ∧ y = 1#1 := by
  revert x y; decide

theorem bool_one (p : Bool) : BitVec.ofBool p = 1#1 ↔ p = true := by cases p <;> decide

/-- What the comparisons say on naturals. -/
theorem words_of (s n i a : BitVec 32) (h1 : IntOp.cmpi .sge s 0#32 = 1#1) (h2 : IntOp.cmpi .slt s 16#32 = 1#1)
    (h3 : IntOp.cmpi .sle s n = 1#1) (h4 : IntOp.cmpi .sge i 0#32 = 1#1) (h5 : IntOp.cmpi .slt i 65536#32 = 1#1)
    (h6 : IntOp.cmpi .sge a 0#32 = 1#1) (h7 : IntOp.cmpi .slt a 4096#32 = 1#1) :
    s.toNat < 16 ∧ i.toNat < 65536 ∧ a.toNat < 4096 ∧ (n.toNat < 16 → s.toNat ≤ n.toNat) := by
  simp only [IntOp.cmpi, bool_one, BitVec.sle_eq_decide, BitVec.slt_eq_decide, decide_eq_true_eq, BitVec.toInt_eq_toNat_cond,
    BitVec.toNat_ofNat, Nat.reducePow, Nat.reduceMod] at h1 h2 h3 h4 h5 h6 h7
  have b1 : s.toNat < 2147483648 := by have := s.isLt; omega
  have b2 : i.toNat < 2147483648 := by have := i.isLt; omega
  have b3 : a.toNat < 2147483648 := by have := a.isLt; omega
  refine ⟨by omega, by omega, by omega, fun hn => ?_⟩
  rw [if_pos (by omega), if_pos (by omega)] at h3
  omega

/-- The precondition at a position. -/
theorem fn_at {F : FTy → Type} [FloatOps F] (a0 : FVec F S16x1x128 .f32) (a1 : FVec F S65536x128 .f32) (a2 a3 a4 : IVec S32768 32) (a5 : FVec F S128x128 .f32)
    (a6 : FVec F S128 .f32) (a7 : FVec F S256x128 .f32) (a8 : FVec F S128 .f32) (a9 : FVec F S128x1 .f32) (a10 : FVec F S1 .f32) (p : Fin 32768)
    (h : Cert.Pre_bounds_ok.fn a0 a1 a2 a3 a4 a5 a6 a7 a8 a9 a10 (ix1 p) = 1#1) :
    (a3 (ix1 p)).toNat < 16 ∧ (a2 (ix1 p)).toNat < 65536 ∧ (a4 (ix1 p)).toNat < 4096
      ∧ ∀ h : p.val < 32767, (a3 (ix1 ⟨1 + p.val, by omega⟩)).toNat < 16 → (a3 (ix1 p)).toNat ≤ (a3 (ix1 ⟨1 + p.val, by omega⟩)).toNat := by
  pointwise [Cert.Pre_bounds_ok.fn, Cert.Pre_bounds_ok.fn_part1] at h
  simp only [andi_one] at h
  obtain ⟨⟨⟨⟨⟨⟨h1, h2⟩, h3⟩, h4⟩, h5⟩, h6⟩, h7⟩ := h
  have w := words_of _ _ _ _ h1 h2 h3 h4 h5 h6 h7
  refine ⟨w.1, w.2.1, w.2.2.1, fun hp => ?_⟩
  have w4 := w.2.2.2
  rw [dif_pos hp] at w4
  exact w4

/-- Everywhere: the ranges of the three index arrays, and the segments in ascending order. -/
structure InRange (a2 a3 a4 : IVec S32768 32) : Prop where
  seg_lt : ∀ p : Fin 32768, segAt a3 p.val < 16
  idx_lt : ∀ p : Fin 32768, (a2 (ValueIdx.ix1 p)).toNat < 65536
  act_lt : ∀ p : Fin 32768, (a4 (ValueIdx.ix1 p)).toNat < 4096
  seg_le : ∀ p q : Fin 32768, q.val ≤ p.val → segAt a3 q.val ≤ segAt a3 p.val

theorem inRange_of_pre {F : FTy → Type} [FloatOps F] {a0 : FVec F S16x1x128 .f32} {a1 : FVec F S65536x128 .f32} {a2 a3 a4 : IVec S32768 32} {a5 : FVec F S128x128 .f32}
    {a6 : FVec F S128 .f32} {a7 : FVec F S256x128 .f32} {a8 : FVec F S128 .f32} {a9 : FVec F S128x1 .f32} {a10 : FVec F S1 .f32}
    (h : ∀ j, Cert.Pre_bounds_ok.fn a0 a1 a2 a3 a4 a5 a6 a7 a8 a9 a10 j = 1#1) : InRange a2 a3 a4 := by
  have hf := fun p => fn_at a0 a1 a2 a3 a4 a5 a6 a7 a8 a9 a10 p (h (ix1 p))
  simp only [ix1_eq_valueIdx] at hf
  have seg_lt : ∀ p : Fin 32768, segAt a3 p.val < 16 := fun p => by rw [segAt_val]; exact (hf p).1
  have step : ∀ n : ℕ, ∀ hn : n + 1 < 32768, segAt a3 n ≤ segAt a3 (n + 1) := fun n hn => by
    have e0 : segAt a3 n = (a3 (ValueIdx.ix1 (⟨n, by omega⟩ : Fin 32768))).toNat := dif_pos (by omega)
    have e1 : segAt a3 (n + 1) = (a3 (ValueIdx.ix1 (⟨1 + n, by omega⟩ : Fin 32768))).toNat := by
      rw [segAt, dif_pos hn]
      exact congrArg (fun k : Fin 32768 => (a3 (ValueIdx.ix1 k)).toNat) (Fin.ext (by show n + 1 = 1 + n; omega))
    rw [e0, e1]
    exact (hf ⟨n, by omega⟩).2.2.2 (by show n < 32767; omega) (hf ⟨1 + n, by omega⟩).1
  refine ⟨seg_lt, fun p => (hf p).2.1, fun p => (hf p).2.2.1, fun p q hq => ?_⟩
  have up : ∀ d : ℕ, q.val + d < 32768 → segAt a3 q.val ≤ segAt a3 (q.val + d) := by
    intro d
    induction d with
    | zero => intro _; exact le_refl _
    | succ d ih => intro hd; exact (ih (by omega)).trans (step (q.val + d) (by omega))
  have := up (p.val - q.val) (by omega)
  rwa [show q.val + (p.val - q.val) = p.val by omega] at this

/-- A position lies before row w's first bound exactly where its segment is below w. -/
theorem lo_iff {a2 a3 a4 : IVec S32768 32} (h : InRange a2 a3 a4) (w : ℕ) (hw : w < 16) (p : Fin 32768) :
    p.val < loAt (bounds Ideal a3) w ↔ segAt a3 p.val < w := by
  rw [lo_at a3 w hw]
  exact lt_count (fun q => segAt a3 q.val < w) (fun p q hq hp => lt_of_le_of_lt (h.seg_le p q hq) hp) p

/-- A position lies before row w's second bound exactly where its segment is at most w. -/
theorem hi_iff {a2 a3 a4 : IVec S32768 32} (h : InRange a2 a3 a4) (w : ℕ) (hw : w < 16) (p : Fin 32768) :
    p.val < hiAt (bounds Ideal a3) w ↔ segAt a3 p.val ≤ w := by
  rw [hi_at a3 w hw]
  exact lt_count (fun q => segAt a3 q.val ≤ w) (fun p q hq hp => (h.seg_le p q hq).trans hp) p

theorem lo_le (s : IVec S32768 32) (w : ℕ) (hw : w < 16) : loAt (bounds Ideal s) w ≤ 32768 := by
  rw [lo_at s w hw]; exact card_le _

theorem hi_le (s : IVec S32768 32) (w : ℕ) (hw : w < 16) : hiAt (bounds Ideal s) w ≤ 32768 := by
  rw [hi_at s w hw]; exact card_le _

end Cert.Proof.Count

end
-- ==== Proof.Scores.lean ====
/- The scores over the extended reals: each position's score is the tanh of the two-layer function of its node's row and
   of its segment's row of the context. -/
module

public import proofs.«01_k».proof.Proof.Bounds

@[expose] public section

noncomputable section

namespace Cert.Proof.Score

open Cert.KernelIdeal Cert.KernelIdeal.Gen
open Idealize.ShloMosaic
open Cert.Proof.Tc Cert.Proof.Whole Cert.Proof.Scatter Cert.Proof.Gather Cert.Proof.Count

/-- A sum over the rows with a factor that is one at row b and zero elsewhere is its term at b. -/
theorem pick (b : Fin 16) (w : BitVec 32) (hw : w.toNat = b.val) (f : Fin 16 → EReal) :
    (∑ x : Fin 16, (FloatOps.sitofp FTy.f32 (BitVec.setWidth 32 (IntOp.cmpi CmpIPredicate.eq (BitVec.ofNat 32 x.val) w)) : Ideal .f32) * f x) = f b := by
  have e : ∀ x : Fin 16, (FloatOps.sitofp FTy.f32 (BitVec.setWidth 32 (IntOp.cmpi CmpIPredicate.eq (BitVec.ofNat 32 x.val) w)) : Ideal .f32)
      = (((if x = b then 1 else 0 : ℕ) : ℕ) : EReal) := fun x =>
    indicator (P := x = b) ((eq_iff x.val x.isLt w).trans ⟨fun h => Fin.ext (h.symm.trans hw), fun h => by rw [h]; exact hw⟩)
  rw [Finset.sum_eq_single b]
  · rw [e, if_pos rfl, Nat.cast_one, one_mul]
  · intro x _ hx
    rw [e, if_neg hx, Nat.cast_zero, zero_mul]
  · intro h; exact absurd (Finset.mem_univ _) h

/-- One block's score at a position whose segment is b. -/
theorem block_at (X1 : FVec Ideal S4096x128 .f32) (X2 : IVec S1x1x4096 32) (X3 : FVec Ideal S16x128 .f32) (X4 : FVec Ideal S128x128 .f32) (X5 : FVec Ideal S1x128 .f32)
    (X6 X7 : FVec Ideal S128x128 .f32) (X8 : FVec Ideal S1x128 .f32) (X9 : FVec Ideal S128x1 .f32) (X10 : FVec Ideal S1x1 .f32) (c : Fin 4096) (b : Fin 16)
    (hb : (X2 (ix3 0 0 c)).toNat = b.val) :
    scoreBlock Ideal X1 X2 X3 X4 X5 X6 X7 X8 X9 X10 (ix2 0 c)
      = Ideal.tanh ((∑ d : Fin 128, X9 (ix2 d 0) * max ((∑ k : Fin 128, X1 (ix2 c k) * X6 (ix2 k d))
          + ((∑ j : Fin 128, max ((∑ i : Fin 128, X3 (ix2 b i) * X4 (ix2 i j)) + X5 (ix2 0 j)) 0 * X7 (ix2 j d)) + X8 (ix2 0 d))) 0) + X10 (ix2 0 0)) := by
  pointwise [scoreBlock, k2_pay1, k2_pay2]
  simp only [pick b _ hb]

/-- The context's row b, entry j. -/
def ctx (a0 : FVec Ideal S16x1x128 .f32) (a5 : FVec Ideal S128x128 .f32) (a6 : FVec Ideal S128 .f32) (b : Fin 16) (j : Fin 128) : EReal :=
  max ((∑ i : Fin 128, a0 (ix3 b 0 i) * a5 (ix2 i j)) + a6 (ix1 j)) 0

/-- The first layer at node row r and segment b, entry d. -/
def hid (a0 : FVec Ideal S16x1x128 .f32) (a1 : FVec Ideal S65536x128 .f32) (a5 : FVec Ideal S128x128 .f32) (a6 : FVec Ideal S128 .f32) (a7 : FVec Ideal S256x128 .f32)
    (a8 : FVec Ideal S128 .f32) (r : Fin 65536) (b : Fin 16) (d : Fin 128) : EReal :=
  max ((∑ k : Fin 128, a1 (ix2 r k) * a7 (ix2 ⟨k.val, by omega⟩ d))
    + ((∑ j : Fin 128, ctx a0 a5 a6 b j * a7 (ix2 ⟨128 + j.val, by omega⟩ d)) + a8 (ix1 d))) 0

/-- The score before tanh at node row r and segment b. -/
def lin (a0 : FVec Ideal S16x1x128 .f32) (a1 : FVec Ideal S65536x128 .f32) (a5 : FVec Ideal S128x128 .f32) (a6 : FVec Ideal S128 .f32) (a7 : FVec Ideal S256x128 .f32)
    (a8 : FVec Ideal S128 .f32) (a9 : FVec Ideal S128x1 .f32) (a10 : FVec Ideal S1 .f32) (r : Fin 65536) (b : Fin 16) : EReal :=
  (∑ d : Fin 128, a9 (ix2 d 0) * hid a0 a1 a5 a6 a7 a8 r b d) + a10 (ix1 0)

/-- A half's score at a position, from the half's segment and node row there. -/
theorem half_at (X : FVec Ideal S16384x128 .f32) (I : IVec S4x1x4096 32) (a0 : FVec Ideal S16x1x128 .f32) (a1 : FVec Ideal S65536x128 .f32) (a5 : FVec Ideal S128x128 .f32)
    (a6 : FVec Ideal S128 .f32) (a7 : FVec Ideal S256x128 .f32) (a8 : FVec Ideal S128 .f32) (a9 : FVec Ideal S128x1 .f32) (a10 : FVec Ideal S1 .f32)
    (p : Fin 16384) (r : Fin 65536) (b : Fin 16) (hX : ∀ k : Fin 128, X (ix2 p k) = a1 (ix2 r k))
    (hI : (I (ix3 ⟨p.val / 4096, by omega⟩ 0 ⟨p.val % 4096, by omega⟩)).toNat = b.val) :
    scoreArr Ideal X I (shapeCast S16x128 a0 shapeCasts_S16x1x128_S16x128) a5 (shapeCast S1x128 a6 shapeCasts_S128_S1x128)
        (extractStridedSlice S128x128 ![0, 0] a7 slices_S256x128_S128x128_0_0) (extractStridedSlice S128x128 ![128, 0] a7 slices_S256x128_S128x128_128_0)
        (shapeCast S1x128 a8 shapeCasts_S128_S1x128) a9 (shapeCast S1x1 a10 shapeCasts_S1_S1x1) (ix2 0 p)
      = Ideal.tanh (lin a0 a1 a5 a6 a7 a8 a9 a10 r b) := by
  unfold scoreArr
  rw [← ix2_eq_valueIdx, block_at (b := b)]
  · unfold lin hid ctx
    pointwise
    have hr : ∀ k : Fin 128, rowsBlock X ⟨p.val / 4096, by omega⟩ (ix2 ⟨p.val % 4096, by omega⟩ k) = a1 (ix2 r k) := fun k => by
      rw [← hX k]
      refine congrArg X ?_
      show ValueIdx.ix2 (⟨4096 * (p.val / 4096) + p.val % 4096, by omega⟩ : Fin 16384) k = _
      rw [← ix2_eq_valueIdx]
      refine congrArg (fun n : Fin 16384 => ix2 n k) (Fin.ext ?_)
      show 4096 * (p.val / 4096) + p.val % 4096 = p.val
      omega
    simp only [hr]
  · exact hI

/-- The node's row at a position. -/
def nodeAt (a2 : IVec S32768 32) (h : ∀ p : Fin 32768, (a2 (ValueIdx.ix1 p)).toNat < 65536) (p : Fin 32768) : Fin 65536 :=
  ⟨(a2 (ValueIdx.ix1 p)).toNat, h p⟩

/-- A row of a gathered half is the node's row at its position. -/
theorem gathered_at (a1 : FVec Ideal S65536x128 .f32) (a2 : IVec S32768 32) (h : ∀ p : Fin 32768, (a2 (ValueIdx.ix1 p)).toNat < 65536) (b : ℕ) (hb : b = 0 ∨ b = 128)
    (p : Fin 16384) (q : Fin 32768) (hq : q.val = b * 128 + p.val) (k : Fin 128) :
    gathered a1 (shapeCast S256x128 a2 shapeCasts_S32768_S256x128) b (ix2 p k) = a1 (ix2 (nodeAt a2 h q) k) := by
  have hl : b + p.val / 128 < 256 := by rcases hb with rfl | rfl <;> omega
  have e : rowAt (shapeCast S256x128 a2 shapeCasts_S32768_S256x128) b p.val = (a2 (ValueIdx.ix1 q)).toNat := by
    unfold rowAt
    rw [dif_pos hl]
    refine congrArg BitVec.toNat ?_
    rw [← ix2_eq_valueIdx, ← ix1_eq_valueIdx]
    pointwise
    refine congrArg a2 (congrArg ix1 (Fin.ext ?_))
    show (b + p.val / 128) * 128 + p.val % 128 = q.val
    omega
  unfold gathered
  rw [← ix2_eq_valueIdx]
  refine congrArg (fun r : Fin 65536 => a1 (ix2 r k)) (Fin.ext ?_)
  show rowAt (shapeCast S256x128 a2 shapeCasts_S32768_S256x128) b p.val % 65536 = (a2 (ValueIdx.ix1 q)).toNat
  rw [e]
  exact Nat.mod_eq_of_lt (h q)

/-- A segment of the second half, as one of the whole. -/
theorem idsB_at (a3 : IVec S32768 32) (q : Fin 16384) (p : Fin 32768) (hp : p.val = 16384 + q.val) :
    extractStridedSlice S4x1x4096 ![4, 0, 0] (shapeCast S8x1x4096 a3 shapeCasts_S32768_S8x1x4096) slices_S8x1x4096_S4x1x4096_4_0_0
      (ix3 ⟨q.val / 4096, by omega⟩ 0 ⟨q.val % 4096, by omega⟩) = a3 (ix1 p) := by
  pointwise
  refine congrArg a3 (congrArg ix1 (Fin.ext ?_))
  show (4 + q.val / 4096) * 4096 + q.val % 4096 = p.val
  omega

/-- The kernel's score at position p. -/
theorem scores_at (a0 : FVec Ideal S16x1x128 .f32) (a1 : FVec Ideal S65536x128 .f32) (a2 a3 : IVec S32768 32) (a5 : FVec Ideal S128x128 .f32)
    (a6 : FVec Ideal S128 .f32) (a7 : FVec Ideal S256x128 .f32) (a8 : FVec Ideal S128 .f32) (a9 : FVec Ideal S128x1 .f32) (a10 : FVec Ideal S1 .f32)
    (h : ∀ p : Fin 32768, (a2 (ValueIdx.ix1 p)).toNat < 65536) (p : Fin 32768) (b : Fin 16) (hb : segAt a3 p.val = b.val) :
    scores a0 a1 a2 a3 a5 a6 a7 a8 a9 a10 (ValueIdx.ix1 p) = Ideal.tanh (lin a0 a1 a5 a6 a7 a8 a9 a10 (nodeAt a2 h p) b) := by
  have hs : (a3 (ix1 p)).toNat = b.val := by rw [ix1_eq_valueIdx, ← segAt_val]; exact hb
  by_cases hp : p.val < 16384
  · have e : scores a0 a1 a2 a3 a5 a6 a7 a8 a9 a10 (ValueIdx.ix1 p) = halfA a0 a1 a2 a3 a5 a6 a7 a8 a9 a10 (ix2 0 ⟨p.val, hp⟩) := by
      unfold scores
      rw [← ix1_eq_valueIdx]
      pointwise
      rw [dif_pos hp]
    rw [e, halfA]
    refine half_at _ _ a0 a1 a5 a6 a7 a8 a9 a10 ⟨p.val, hp⟩ (nodeAt a2 h p) b (gathered_at a1 a2 h 0 (Or.inl rfl) ⟨p.val, hp⟩ p (by show p.val = 0 * 128 + p.val; omega)) ?_
    rw [← hs]
    refine congrArg BitVec.toNat ?_
    pointwise
  · have e : scores a0 a1 a2 a3 a5 a6 a7 a8 a9 a10 (ValueIdx.ix1 p) = halfB a0 a1 a2 a3 a5 a6 a7 a8 a9 a10 (ix2 0 ⟨p.val - 16384, by omega⟩) := by
      unfold scores
      rw [← ix1_eq_valueIdx]
      pointwise
      rw [dif_neg hp]
    rw [e, halfB]
    refine half_at _ _ a0 a1 a5 a6 a7 a8 a9 a10 ⟨p.val - 16384, by omega⟩ (nodeAt a2 h p) b
      (gathered_at a1 a2 h 128 (Or.inr rfl) ⟨p.val - 16384, by omega⟩ p (by show p.val = 128 * 128 + (p.val - 16384); omega)) ?_
    rw [← hs]
    exact congrArg BitVec.toNat (idsB_at a3 ⟨p.val - 16384, by omega⟩ p (by show p.val = 16384 + (p.val - 16384); omega))

end Cert.Proof.Score

end
-- ==== Proof.RefScores.lean ====
/- The reference's score of each position over the extended reals: the same two-layer function, before its tanh. -/
module

public import proofs.«01_k».proof.Proof.Scores
public import proofs.«01_k».proof.Proof.Gen.ReferenceIdeal.Run
public import Idealize.ShloMosaic.Lib.Routing.Ops
public import Idealize.ShloMosaic.Lib.Routing.OpsPair

@[expose] public section

noncomputable section

namespace Cert.Proof.Score

open Cert.ReferenceIdeal Cert.ReferenceIdeal.Gen
open Idealize.ShloMosaic
open Cert.Proof.Count

/-- An index array as the reference's takes spell it, one column, negative entries moved up by n. -/
abbrev col (x : IVec S32768 32) (n : BitVec 32) : IVec S32768x1 32 :=
  broadcastInDim S32768x1 ![0] bcast_S32768_S32768x1_0 (select (cmpi .slt x (broadcastInDim S32768 ![] bcast_S_S32768 (constantI S_ 32 0#32)))
    (addi x (broadcastInDim S32768 ![] bcast_S_S32768 (constantI S_ 32 n))) x)

/-- Where a take's entries are in range. -/
abbrev inside (x : IVec S32768 32) (n l : BitVec 32) : IVec S32768x128 1 :=
  broadcastInDim S32768x128 ![0] bcast_S32768_S32768x128_0 (Host.reduce IntOp.andi (andi (cmpi .sge (col x n) (broadcastInDim S32768x1 ![] bcast_S_S32768x1 (constantI S_ 32 0#32)))
    (cmpi .sle (col x n) (broadcastInDim S32768x1 ![0, 1] bcast_S1x1_S32768x1_0_1 (broadcastInDim S1x1 ![1] bcast_S1_S1x1_1 (constantI S1 32 l)))))
    (constantI S_ 1 1#1) reducesTo_S32768x1_S32768_d1 h_S_)

/-- An entry in range is not moved. -/
theorem col_at (x : IVec S32768 32) (n : BitVec 32) (p : Fin 32768) (h : (x (ix1 p)).toNat < 2 ^ 31) : col x n (ix2 p 0) = x (ix1 p) := by
  pointwise
  exact Routing.wrap_of_lt (x (ix1 p)) _ h

theorem between (w l : BitVec 32) (hl : l.toNat < 2 ^ 31) (h : w.toNat ≤ l.toNat) :
    IntOp.andi (IntOp.cmpi .sge w 0#32) (IntOp.cmpi .sle w l) = 1#1 := by
  rw [andi_one]
  simp only [IntOp.cmpi, bool_one, BitVec.sle_eq_decide, decide_eq_true_eq, BitVec.toInt_eq_toNat_cond, BitVec.toNat_ofNat, Nat.reducePow, Nat.reduceMod] at hl ⊢
  constructor
  · rw [if_pos (by omega), if_pos (by omega)]; omega
  · rw [if_pos (by omega), if_pos (by omega)]; omega

/-- A take whose entry at p is in range is not replaced there. -/
theorem inside_at (x : IVec S32768 32) (n l : BitVec 32) (p : Fin 32768) (k : Fin 128) (hl : l.toNat < 2 ^ 31) (h : (x (ix1 p)).toNat ≤ l.toNat) :
    inside x n l (ix2 p k) = 1#1 := by
  have hc := col_at x n p (by omega)
  unfold inside
  generalize col x n = c at hc ⊢
  pointwise
  rw [show (Finset.univ : Finset (Fin 1)) = {0} from rfl, Finset.fold_singleton, hc, between _ l hl h]
  rfl

/-- The reference's take of rows of the node table. -/
abbrev takeNode (x : FVec Ideal S65536x128 .f32) (i : IVec S32768 32) : FVec Ideal S32768x128 .f32 :=
  select (inside i 65536#32 65535#32) (Host.gather gather_S65536x128_S32768x1_S32768x128_1_0_n_n_0_1_1128 x (col i 65536#32))
    (broadcastInDim S32768x128 ![] bcast_S_S32768x128 (constant S_ .f32 0x7FC00000#32))

/-- The reference's take of rows of the context. -/
abbrev takeCtx (x : FVec Ideal S16x128 .f32) (i : IVec S32768 32) : FVec Ideal S32768x128 .f32 :=
  select (inside i 16#32 15#32) (Host.gather gather_S16x128_S32768x1_S32768x128_1_0_n_n_0_1_1128 x (col i 16#32))
    (broadcastInDim S32768x128 ![] bcast_S_S32768x128 (constant S_ .f32 0x7FC00000#32))

/-- A small number's word is the word. -/
theorem word_of (w : BitVec 32) (n : ℕ) (h : w.toNat = n) : w = BitVec.ofNat 32 n := by rw [← h]; simp

theorem takeNode_at (x : FVec Ideal S65536x128 .f32) (i : IVec S32768 32) (p : Fin 32768) (k : Fin 128) (r : Fin 65536) (h : (i (ix1 p)).toNat = r.val) :
    takeNode x i (ix2 p k) = x (ix2 r k) := by
  have hm := inside_at i 65536#32 65535#32 p k (by decide) (by rw [h]; show r.val ≤ 65535; omega)
  show Scalar.select (inside i 65536#32 65535#32 (ix2 p k)) _ _ = _
  rw [hm]
  show Host.gather gather_S65536x128_S32768x1_S32768x128_1_0_n_n_0_1_1128 x (col i 65536#32) (ix2 p k) = _
  rw [ix2_eq_valueIdx, ix2_eq_valueIdx]
  refine Routing.gather_row gather_S65536x128_S32768x1_S32768x128_1_0_n_n_0_1_1128 rfl rfl rfl rfl rfl x (col i 65536#32) p k r ?_ (by decide)
  rw [← ix2_eq_valueIdx, col_at i _ p (by rw [h]; omega)]
  exact word_of _ _ h

theorem takeCtx_at (x : FVec Ideal S16x128 .f32) (i : IVec S32768 32) (p : Fin 32768) (k : Fin 128) (r : Fin 16) (h : (i (ix1 p)).toNat = r.val) :
    takeCtx x i (ix2 p k) = x (ix2 r k) := by
  have hm := inside_at i 16#32 15#32 p k (by decide) (by rw [h]; show r.val ≤ 15; omega)
  show Scalar.select (inside i 16#32 15#32 (ix2 p k)) _ _ = _
  rw [hm]
  show Host.gather gather_S16x128_S32768x1_S32768x128_1_0_n_n_0_1_1128 x (col i 16#32) (ix2 p k) = _
  rw [ix2_eq_valueIdx, ix2_eq_valueIdx]
  refine Routing.gather_row gather_S16x128_S32768x1_S32768x128_1_0_n_n_0_1_1128 rfl rfl rfl rfl rfl x (col i 16#32) p k r ?_ (by decide)
  rw [← ix2_eq_valueIdx, col_at i _ p (by rw [h]; omega)]
  exact word_of _ _ h

/-- The reference's context. -/
abbrev refCtx (a0 : FVec Ideal S16x1x128 .f32) (a5 : FVec Ideal S128x128 .f32) (a6 : FVec Ideal S128 .f32) : FVec Ideal S16x128 .f32 :=
  maximumf (addf (Host.dotGeneral dot_S16x128_S128x128_S16x128_1_0_0_1_n_n none (shapeCast _ a0 shapeCasts_S16x1x128_S16x128) a5)
    (broadcastInDim S16x128 ![0, 1] bcast_S1x128_S16x128_0_1 (broadcastInDim S1x128 ![1] bcast_S128_S1x128_1 a6)))
    (broadcastInDim S16x128 ![] bcast_S_S16x128 (constant S_ .f32 0x00000000#32))

theorem refCtx_at (a0 : FVec Ideal S16x1x128 .f32) (a5 : FVec Ideal S128x128 .f32) (a6 : FVec Ideal S128 .f32) (b : Fin 16) (j : Fin 128) :
    refCtx a0 a5 a6 (ix2 b j) = ctx a0 a5 a6 b j := by
  unfold ctx
  pointwise

/-- The reference's scores, from the two takes. -/
abbrev refLin (n c : FVec Ideal S32768x128 .f32) (a7 : FVec Ideal S256x128 .f32) (a8 : FVec Ideal S128 .f32) (a9 : FVec Ideal S128x1 .f32) (a10 : FVec Ideal S1 .f32) :
    FVec Ideal S32768 .f32 :=
  shapeCast _ (addf (Host.dotGeneral dot_S32768x128_S128x1_S32768x1_1_0_0_1_n_n none
    (maximumf (addf (Host.dotGeneral dot_S32768x256_S256x128_S32768x128_1_0_0_1_n_n none
      (concatenate S32768x256 1 [⟨S32768x128, n⟩, ⟨S32768x128, c⟩] concatenates_S32768x128_S32768x128_S32768x256_d1) a7)
      (broadcastInDim S32768x128 ![0, 1] bcast_S1x128_S32768x128_0_1 (broadcastInDim S1x128 ![1] bcast_S128_S1x128_1 a8)))
      (broadcastInDim S32768x128 ![] bcast_S_S32768x128 (constant S_ .f32 0x00000000#32))) a9)
    (broadcastInDim S32768x1 ![0, 1] bcast_S1x1_S32768x1_0_1 (broadcastInDim S1x1 ![1] bcast_S1_S1x1_1 a10))) shapeCasts_S32768x1_S32768

/-- The reference's score at position p, before tanh. -/
theorem refLin_at (n c : FVec Ideal S32768x128 .f32) (a0 : FVec Ideal S16x1x128 .f32) (a1 : FVec Ideal S65536x128 .f32) (a5 : FVec Ideal S128x128 .f32)
    (a6 : FVec Ideal S128 .f32) (a7 : FVec Ideal S256x128 .f32) (a8 : FVec Ideal S128 .f32) (a9 : FVec Ideal S128x1 .f32) (a10 : FVec Ideal S1 .f32)
    (p : Fin 32768) (r : Fin 65536) (b : Fin 16) (hn : ∀ k, n (ix2 p k) = a1 (ix2 r k)) (hc : ∀ k, c (ix2 p k) = ctx a0 a5 a6 b k) :
    refLin n c a7 a8 a9 a10 (ValueIdx.ix1 p) = lin a0 a1 a5 a6 a7 a8 a9 a10 r b := by
  rw [← ix1_eq_valueIdx]
  unfold lin hid
  pointwise
  simp only [hn, hc]
  refine congrArg (· + a10 (ix1 0)) (Finset.sum_congr rfl fun d _ => ?_)
  rw [mul_comm, add_assoc]

end Cert.Proof.Score

end
-- ==== Proof.Reading.lean ====
/- The reference's scatter read at one entry, and its result: both programs name a row's values by the positions between
   the row's bounds, and tanh of a row's last score is the last of the scores' tanhs. -/
module

public import proofs.«01_k».proof.Proof.RefScores
public import Idealize.ShloMosaic.Lib.KernelVsHost
public import Idealize.ShloMosaic.Lib.IdealHost

@[expose] public section

noncomputable section

namespace Cert.Proof.Scatter

open Idealize.ShloMosaic Idealize.ShloMosaic.ValueIdx
open Cert.Proof.Whole

variable {F : FTy → Type} [FloatOps F]

/-! ## Rows and bounds -/

/-- What the precondition says: the rows and the actions are in range, and a position lies between row `w`'s bounds
    exactly when its row is `w`. -/
structure Sorted (a : IVec ⟨1, ![32768]⟩ 32) (o : IVec ⟨2, ![32, 16]⟩ 32) (s : IVec ⟨1, ![32768]⟩ 32) : Prop where
  seg_lt : ∀ p : Fin 32768, (s (ValueIdx.ix1 p)).toNat < 16
  act_lt : ∀ p : Fin 32768, (a (ValueIdx.ix1 p)).toNat < 4096
  lo_le : ∀ w : ℕ, w < 16 → loAt o w ≤ 32768
  hi_le : ∀ w : ℕ, w < 16 → hiAt o w ≤ 32768
  lo_iff : ∀ (w : ℕ) (p : Fin 32768), w < 16 → (p.val < loAt o w ↔ (s (ValueIdx.ix1 p)).toNat < w)
  hi_iff : ∀ (w : ℕ) (p : Fin 32768), w < 16 → (p.val < hiAt o w ↔ (s (ValueIdx.ix1 p)).toNat ≤ w)

theorem lo_le_hi {a : IVec ⟨1, ![32768]⟩ 32} {o : IVec ⟨2, ![32, 16]⟩ 32} {s : IVec ⟨1, ![32768]⟩ 32} (h : Sorted a o s) {w : ℕ} (hw : w < 16) :
    loAt o w ≤ hiAt o w := by
  by_contra hc
  have h1 := h.lo_le w hw
  have h2 := (h.lo_iff w ⟨hiAt o w, by omega⟩ hw).mp (by show hiAt o w < loAt o w; omega)
  have h3 := (h.hi_iff w ⟨hiAt o w, by omega⟩ hw).mpr (by omega)
  exact absurd h3 (lt_irrefl _)

/-! ## The padded arrays -/

theorem pad_at {α : Type} (x : (⟨1, ![32768]⟩ : Shape).Idx → α) (z : (⟨0, ![]⟩ : Shape).Idx → α) (hp) (hn) (k : ℕ) (hk : k < 36864) (h : k < 32768) :
    pad (s := (⟨1, ![32768]⟩ : Shape)) (⟨1, ![36864]⟩ : Shape) ![0] ![4096] ![0] x z hp hn (Shape.ofLane (d := ![36864]) ⟨k, hk⟩) = x (ValueIdx.ix1 ⟨k, h⟩) := by
  refine pad_apply_of_inside _ _ _ x z hp hn _ (ValueIdx.ix1 ⟨k, h⟩) ?_
  intro (q : Fin 1)
  obtain rfl : q = 0 := Subsingleton.elim _ _
  show k = 0 + k * (0 + 1)
  omega

theorem padM_lt {a : IVec ⟨1, ![32768]⟩ 32} {o : IVec ⟨2, ![32, 16]⟩ 32} {s : IVec ⟨1, ![32768]⟩ 32} (h : Sorted a o s) (x : (⟨1, ![36864]⟩ : Shape).Idx) :
    (padM a x).toNat < 4096 := by
  have ha : ∀ i : (⟨1, ![32768]⟩ : Shape).Idx, (a i).toNat < 4096 := by
    intro i
    have hi : i = ValueIdx.ix1 (i 0) := by
      funext (q : Fin 1)
      obtain rfl : q = 0 := Subsingleton.elim _ _
      rfl
    rw [hi]
    exact h.act_lt (i 0)
  unfold padM pad
  split
  · exact ha _
  · show (0#32).toNat < 4096
    decide

theorem good_of_sorted {a : IVec ⟨1, ![32768]⟩ 32} {o : IVec ⟨2, ![32, 16]⟩ 32} {s : IVec ⟨1, ![32768]⟩ 32} (h : Sorted a o s) : Good (padM a) o :=
  ⟨padM_lt h, fun w hw => ⟨lo_le_hi h hw, h.hi_le w hw⟩⟩

/-! ## The reference's scatter -/

section Reference

open Cert.ReferenceIdeal Cert.ReferenceIdeal.Gen

/-- Update `k` lands at `(r, c)` exactly when its two index words, read signed, are `r` and `c`. -/
theorem lands (idx : IVec S32768x2 32) (k : Fin 32768) (r : Fin 16) (c : Fin 4096) :
    scatter_S16x4096_S32768x2_S32768_n_01_01_1.resultIdx? (ValueIdx.ix1 k) idx = some (ValueIdx.ix2 r c)
      ↔ (idx (ValueIdx.ix2 k (0 : Fin 2))).toInt = r.val ∧ (idx (ValueIdx.ix2 k (1 : Fin 2))).toInt = c.val := by
  have hs : ∀ q : Fin 2, scatter_S16x4096_S32768x2_S32768_n_01_01_1.start (ValueIdx.ix1 k) idx q = (idx (ValueIdx.ix2 k q)).toInt := by
    intro q
    fin_cases q
    · refine congrArg (fun i => (idx i).toInt) ?_
      funext (b : Fin 2)
      fin_cases b <;> rfl
    · refine congrArg (fun i => (idx i).toInt) ?_
      funext (b : Fin 2)
      fin_cases b <;> rfl
  have hw : ∀ q : Fin 2, scatter_S16x4096_S32768x2_S32768_n_01_01_1.window (ValueIdx.ix1 k) q = 0 := by
    intro q
    fin_cases q <;> rfl
  rw [Routing.resultIdx?_ix2, hs, hs, hw, hw]
  omega

/-- The index words in two columns: each position's row, and its action. -/
abbrev columns (s a : IVec S32768 32) : List ((t : Shape) × (t.Idx → BitVec 32)) :=
  [⟨S32768x1, (broadcastInDim S32768x1 ![0] bcast_S32768_S32768x1_0 (select (cmpi .slt s (broadcastInDim S32768 ![] bcast_S_S32768 (constantI S_ 32 0#32))) (addi s (broadcastInDim S32768 ![] bcast_S_S32768 (constantI S_ 32 16#32))) s))⟩,
    ⟨S32768x1, (broadcastInDim S32768x1 ![0] bcast_S32768_S32768x1_0 (select (cmpi .slt a (broadcastInDim S32768 ![] bcast_S_S32768 (constantI S_ 32 0#32))) (addi a (broadcastInDim S32768 ![] bcast_S_S32768 (constantI S_ 32 4096#32))) a))⟩]
/-- The two columns side by side. -/
abbrev words (s a : IVec S32768 32) : IVec S32768x2 32 := concatenate S32768x2 1 (columns s a) concatenates_S32768x1_S32768x1_S32768x2_d1

theorem column_at (x : IVec S32768 32) (c : BitVec 32) (k : Fin 32768) (hx : (x (ValueIdx.ix1 k)).toNat < 2 ^ 31) :
    broadcastInDim S32768x1 ![0] bcast_S32768_S32768x1_0 (select (cmpi .slt x (broadcastInDim S32768 ![] bcast_S_S32768 (constantI S_ 32 0#32)))
      (addi x (broadcastInDim S32768 ![] bcast_S_S32768 (constantI S_ 32 c))) x) (ValueIdx.ix2 k (0 : Fin 1)) = x (ValueIdx.ix1 k) := by
  refine (broadcastInDim_apply _ _ _ _ (ValueIdx.ix1 k) ?_).trans ?_
  · intro (q : Fin 1)
    obtain rfl : q = 0 := Subsingleton.elim _ _
    rfl
  · exact Routing.wrap_of_lt (x (ValueIdx.ix1 k)) _ hx

theorem words_row (s a : IVec S32768 32) (k : Fin 32768) (hs : (s (ValueIdx.ix1 k)).toNat < 2 ^ 31) : words s a (ValueIdx.ix2 k (0 : Fin 2)) = s (ValueIdx.ix1 k) := by
  refine (concatenate_apply_piece 1 (columns s a) _ (ValueIdx.ix2 k (0 : Fin 2)) 0 (Nat.zero_lt_succ _) S32768x1 _ rfl rfl 0 rfl (ValueIdx.ix2 k (0 : Fin 1)) ?_ ?_).trans (column_at s 16#32 k hs)
  · intro (q : Fin 2) hq
    fin_cases q
    · rfl
    · exact absurd rfl hq
  · rfl

theorem words_action (s a : IVec S32768 32) (k : Fin 32768) (ha : (a (ValueIdx.ix1 k)).toNat < 2 ^ 31) : words s a (ValueIdx.ix2 k (1 : Fin 2)) = a (ValueIdx.ix1 k) := by
  refine (concatenate_apply_piece 1 (columns s a) _ (ValueIdx.ix2 k (1 : Fin 2)) 1 (Nat.succ_lt_succ (Nat.zero_lt_succ _)) S32768x1 _ rfl rfl 1 rfl (ValueIdx.ix2 k (0 : Fin 1)) ?_ ?_).trans (column_at a 4096#32 k ha)
  · intro (q : Fin 2) hq
    fin_cases q
    · rfl
    · exact absurd rfl hq
  · rfl

theorem position_at (k : Fin 32768) : S32768.rowMajor.symm k = ValueIdx.ix1 k := by
  refine (Equiv.symm_apply_eq _).mpr (Fin.ext ?_)
  rw [Shape.rowMajor_val_one]

/-- Where the precondition holds, the reference's scatter of the values is the kernel's rows. -/
theorem scatter_eq {v : FVec F S32768 .f32} {a : IVec S32768 32} {o : IVec ⟨2, ![32, 16]⟩ 32} {s : IVec S32768 32} (h : Sorted a o s) :
    Host.scatter scatter_S16x4096_S32768x2_S32768_n_01_01_1 (fun _ b => b) (broadcastInDim S16x4096 ![] bcast_S_S16x4096 (constant (F := F) S_ .f32 0x00000000#32))
      (words s a) v = rowsOf (padV v) (padM a) o := by
  funext x
  obtain ⟨r, c, rfl⟩ : ∃ (r : Fin 16) (c : Fin 4096), x = ValueIdx.ix2 r c := ⟨x 0, x 1, by funext (q : Fin 2); fin_cases q <;> rfl⟩
  rw [Routing.scatter_at]
  refine Slots.foldl_slot z0 (actionAt (padM a)) (valueAt (padV v)) (loAt o r.val) (hiAt o r.val) c.val 32768 _ _ ?_ ?_
  · intro (k : Fin 32768)
    have hk := position_at k
    have h1 := h.seg_lt k
    have h2 := h.act_lt k
    have h3 := h.lo_iff r.val k r.isLt
    have h4 := h.hi_iff r.val k r.isLt
    have h5 : actionAt (padM a) k.val = (a (ValueIdx.ix1 k)).toNat := by
      unfold actionAt
      rw [dif_pos (by omega)]
      exact congrArg BitVec.toNat (pad_at a _ _ _ k.val _ k.isLt)
    rw [hk, lands, words_row s a k (by omega), words_action s a k (by omega), h5, BitVec.toInt_eq_toNat_of_lt (by omega), BitVec.toInt_eq_toNat_of_lt (by omega)]
    omega
  · intro (k : Fin 32768) _
    have hk := position_at k
    rw [hk]
    unfold valueAt
    rw [dif_pos (by omega)]
    exact (pad_at v _ _ _ k.val _ k.isLt).symm

/-! ## The whole result -/

/-- The index ranges and the order of the segments, with the kernel's own bounds. -/
theorem sorted_of_range {a2 a3 a4 : IVec S32768 32} (h : Count.InRange a2 a3 a4) : Sorted a4 (bounds Ideal a3) a3 where
  seg_lt p := by rw [← Count.segAt_val]; exact h.seg_lt p
  act_lt := h.act_lt
  lo_le := Count.lo_le a3
  hi_le := Count.hi_le a3
  lo_iff w p hw := by rw [← Count.segAt_val]; exact Count.lo_iff h w hw p
  hi_iff w p hw := by rw [← Count.segAt_val]; exact Count.hi_iff h w hw p

/-- A function that keeps the empty value commutes with taking a slot's last value. -/
theorem slot_map {α : Type} (f : α → α) (z : α) (hz : f z = z) (target : ℕ → ℕ) (u v : ℕ → α) (s e j : ℕ) :
    ∀ n, (∀ p, p < n → f (u p) = v p) → f (Slots.slot z target u s e j n) = Slots.slot z target v s e j n := by
  intro n
  induction n with
  | zero => intro _; exact hz
  | succ n ih =>
    intro h
    unfold Slots.slot
    by_cases hc : s ≤ n ∧ n < e ∧ target n = j
    · rw [if_pos hc, if_pos hc]; exact h n (Nat.lt_succ_self n)
    · rw [if_neg hc, if_neg hc]; exact ih fun p hp => h p (Nat.lt_succ_of_lt hp)

theorem valueAt_pad (v : FVec F S32768 .f32) (p : ℕ) (hp : p < 32768) : valueAt (padV v) p = v (ValueIdx.ix1 ⟨p, hp⟩) := by
  unfold valueAt
  rw [dif_pos (by omega)]
  exact pad_at v _ _ _ p _ hp

theorem zero_eq : (z0 (F := Ideal)) = (0 : EReal) := Ideal.ofBits_zero_f32

theorem tanh_zero : Ideal.tanh (z0 (F := Ideal)) = z0 (F := Ideal) := by
  rw [zero_eq]
  show Ideal.tanh ((0 : ℝ) : EReal) = ((0 : ℝ) : EReal)
  rw [Ideal.tanh_coe, Real.tanh_zero]

/-- Scattering and then taking tanh is taking tanh and then scattering. -/
theorem rowsOf_tanh (u v : FVec Ideal S32768 .f32) (fM : IVec ⟨1, ![36864]⟩ 32) (o : IVec ⟨2, ![32, 16]⟩ 32)
    (h : ∀ p : Fin 32768, Ideal.tanh (u (ValueIdx.ix1 p)) = v (ValueIdx.ix1 p)) (x : S16x4096.Idx) : Ideal.tanh (rowsOf (padV u) fM o x) = rowsOf (padV v) fM o x := by
  have hv : ∀ p, p < 32768 → Ideal.tanh (valueAt (padV u) p) = valueAt (padV v) p := fun p hp => by
    rw [valueAt_pad u p hp, valueAt_pad v p hp]; exact h ⟨p, hp⟩
  unfold rowsOf
  exact slot_map Ideal.tanh (z0 (F := Ideal)) tanh_zero (actionAt fM) (valueAt (padV u)) (valueAt (padV v)) (loAt o (x 0).val) (hiAt o (x 0).val) (x 1).val _ hv

/-- Zero times anything, spread over the result, adds nothing. -/
theorem extra_zero (s : FVec Ideal S_ .f32) (x : S16x4096.Idx) :
    broadcastInDim S16x4096 ![] bcast_S_S16x4096 (mulf (constant S_ .f32 0x00000000#32) s) x = (0 : EReal) := by
  show (Ideal.ofBits .f32 0x00000000#32 : EReal) * s _ = 0
  rw [Ideal.ofBits_zero_f32, zero_mul]

/-- The reference's result is the kernel's. -/
theorem whole_eq {a0 : FVec Ideal S16x1x128 .f32} {a1 : FVec Ideal S65536x128 .f32} {a2 a3 a4 : IVec S32768 32} {a5 : FVec Ideal S128x128 .f32}
    {a6 : FVec Ideal S128 .f32} {a7 : FVec Ideal S256x128 .f32} {a8 : FVec Ideal S128 .f32} {a9 : FVec Ideal S128x1 .f32} {a10 : FVec Ideal S1 .f32}
    (h : Count.InRange a2 a3 a4) (s : FVec Ideal S_ .f32) :
    Host.tanh (addf (Host.scatter scatter_S16x4096_S32768x2_S32768_n_01_01_1 (fun _ b => b) (broadcastInDim S16x4096 ![] bcast_S_S16x4096 (constant (F := Ideal) S_ .f32 0x00000000#32))
        (words a3 a4) (Score.refLin (Score.takeNode a1 a2) (Score.takeCtx (Score.refCtx a0 a5 a6) a3) a7 a8 a9 a10))
      (broadcastInDim S16x4096 ![] bcast_S_S16x4096 (mulf (constant S_ .f32 0x00000000#32) s)))
      = result a0 a1 a2 a3 a4 a5 a6 a7 a8 a9 a10 := by
  rw [scatter_eq (sorted_of_range h)]
  funext x
  show Ideal.tanh (rowsOf (padV (Score.refLin (Score.takeNode a1 a2) (Score.takeCtx (Score.refCtx a0 a5 a6) a3) a7 a8 a9 a10)) (padM a4) (bounds Ideal a3) x
    + broadcastInDim S16x4096 ![] bcast_S_S16x4096 (mulf (constant S_ .f32 0x00000000#32) s) x)
    = rowsOf (padV (scores a0 a1 a2 a3 a5 a6 a7 a8 a9 a10)) (padM a4) (bounds Ideal a3) x
  rw [extra_zero, add_zero]
  refine rowsOf_tanh _ _ _ _ (fun p => ?_) x
  have hb : Count.segAt a3 p.val = (⟨Count.segAt a3 p.val, h.seg_lt p⟩ : Fin 16).val := rfl
  rw [Score.scores_at a0 a1 a2 a3 a5 a6 a7 a8 a9 a10 h.idx_lt p ⟨Count.segAt a3 p.val, h.seg_lt p⟩ hb]
  refine congrArg Ideal.tanh (Score.refLin_at _ _ a0 a1 a5 a6 a7 a8 a9 a10 p _ _ (fun k => ?_) fun k => ?_)
  · refine Score.takeNode_at a1 a2 p k _ ?_
    rw [ix1_eq_valueIdx]; rfl
  · rw [Score.takeCtx_at _ a3 p k ⟨Count.segAt a3 p.val, h.seg_lt p⟩ (by rw [ix1_eq_valueIdx]; exact (Count.segAt_val a3 p).symm), Score.refCtx_at]

end Reference

end Cert.Proof.Scatter

end
-- ==== Proof.lean ====
/- The claims: the whole kernel's run (`Whole.run_main`), the reference's generated run, and the equation of their
   results (`Scatter.whole_eq`). -/
module

public import proofs.«01_k».proof.Defs
public import proofs.«01_k».proof.Proof.Gen.KernelIdeal
public import proofs.«01_k».proof.Proof.Gen.KernelIdeal.Skeleton
public import proofs.«01_k».proof.Proof.Gen.Pre_bounds_ok
public import proofs.«01_k».proof.Proof.Gen.ReferenceIdeal
public import proofs.«01_k».proof.Proof.Gen.ReferenceIdeal.Run
public import proofs.«01_k».proof.Proof.Reading
public import Idealize.ShloMosaic.Lib.Quiescent
public import Idealize.ShloMosaic.Adequacy
public import Idealize.ShloMosaic.Init

@[expose] public section

noncomputable section

open Idealize.ShloMosaic

namespace Cert.Proof

/-- Every entry of the regrouped node numbers names a row of the table. -/
theorem inTable_of_range {a2 a3 a4 : IVec Cert.KernelIdeal.S32768 32} (h : Count.InRange a2 a3 a4) :
    Gather.InTable (shapeCast Cert.KernelIdeal.S256x128 a2 Cert.KernelIdeal.Gen.shapeCasts_S32768_S256x128) := fun p => by
  have hall : ∀ j, (a2 j).toNat < 65536 := fun j => by rw [ValueIdx.eq_ix1 j]; exact h.idx_lt _
  exact hall _

/-- The kernel's run at real values, under the precondition. -/
theorem frame_pi : Cert.quiescent_KernelIdeal := fun m ρ hpre =>
  have hr := fun d => Count.inRange_of_pre fun j => congrFun (hpre d) j
  (θ_run Cert.KernelIdeal.defs _ _).mono (fun _ h => ⟨fun c => (h.1 c).2, h.2⟩)
    (Whole.run_main (F := Ideal) m ρ (fun d => inTable_of_range (hr d)) fun d => Scatter.good_of_sorted (Scatter.sorted_of_range (hr d)))

/-- The reference's run at real values; it declares no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's composed term, of the reference's own arguments, is the kernel's result. -/
theorem res_eq (m : (ℓ : Loc Cert.ReferenceIdeal.nD Cert.ReferenceIdeal.τ Cert.ReferenceIdeal.sig) → Buf (Elt Ideal) ℓ) (c : Dev Cert.ReferenceIdeal.nD)
    (h : Count.InRange (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) :
    Cert.ReferenceIdeal.Value.res_main_v38 m c = Whole.result (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) := by
  unfold Cert.ReferenceIdeal.Value.res_main_v38
  exact Scatter.whole_eq h _

/-- At real values both programs end with the same scattered tanhs. -/
theorem algebraic : Cert.algebraic_KernelIdeal_ReferenceIdeal := by
  intro m ρ m' ρ' hpre hag
  have hr := fun d => Count.inRange_of_pre fun j => congrFun (hpre d) j
  refine ⟨_, (θ_run Cert.KernelIdeal.defs _ _).mono (fun _ h => h.1)
      (Whole.run_main (F := Ideal) m ρ (fun d => inTable_of_range (hr d)) fun d => Scatter.good_of_sorted (Scatter.sorted_of_range (hr d))),
    (θ_run Cert.ReferenceIdeal.defs _ _).mono (fun r h c => ⟨(h c).1.trans ?_, (h c).2⟩) (Cert.ReferenceIdeal.Value.run (F := Ideal) m' ρ')⟩
  obtain ⟨e0, e1, e2, e3, e4, e5, e6, e7, e8, e9, e10⟩ := hag c
  rw [← e0, ← e1, ← e2, ← e3, ← e4, ← e5, ← e6, ← e7, ← e8, ← e9, ← e10]
  exact res_eq m' c (by rw [e2, e3, e4]; exact hr c)

theorem claim : Cert.Claim :=
  ⟨inferInstance, inferInstance, inferInstance, frame_pi, frame_ri, fun m ρ _ => frame_ri m ρ trivial, algebraic⟩

end Cert.Proof

end
